-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_second_half_finite [hPre_second_half_finite : Cert.Pre_second_half_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_second_half_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7))) = (fun _ => 1#1)

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjReferenceIdeal_second_half_finite [hPre_second_half_finite : Cert.Pre_second_half_finite.Facts] (m : (ℓ : Loc Cert.OutProjReferenceIdeal.nD Cert.OutProjReferenceIdeal.τ Cert.OutProjReferenceIdeal.sig) → Buf (Elt Ideal) ℓ) : Prop :=
  ∀ c : Dev Cert.OutProjReferenceIdeal.nD,
    (Cert.Pre_second_half_finite.fn (F := Ideal) (m ((c.tc : Thread Cert.OutProjReferenceIdeal.nD Cert.OutProjReferenceIdeal.τ).loc Cert.OutProjReferenceIdeal.main_arg0)) (m ((c.tc : Thread Cert.OutProjReferenceIdeal.nD Cert.OutProjReferenceIdeal.τ).loc Cert.OutProjReferenceIdeal.main_arg1)) (m ((c.tc : Thread Cert.OutProjReferenceIdeal.nD Cert.OutProjReferenceIdeal.τ).loc Cert.OutProjReferenceIdeal.main_arg2)) (m ((c.tc : Thread Cert.OutProjReferenceIdeal.nD Cert.OutProjReferenceIdeal.τ).loc Cert.OutProjReferenceIdeal.main_arg3)) (m ((c.tc : Thread Cert.OutProjReferenceIdeal.nD Cert.OutProjReferenceIdeal.τ).loc Cert.OutProjReferenceIdeal.main_arg4)) (m ((c.tc : Thread Cert.OutProjReferenceIdeal.nD Cert.OutProjReferenceIdeal.τ).loc Cert.OutProjReferenceIdeal.main_arg5)) (m ((c.tc : Thread Cert.OutProjReferenceIdeal.nD Cert.OutProjReferenceIdeal.τ).loc Cert.OutProjReferenceIdeal.main_arg6)) (m ((c.tc : Thread Cert.OutProjReferenceIdeal.nD Cert.OutProjReferenceIdeal.τ).loc Cert.OutProjReferenceIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_turned_part_finite [hPre_turned_part_finite : Cert.Pre_turned_part_finite.Facts] (m : (ℓ : Loc Cert.InProjIdeal.nD Cert.InProjIdeal.τ Cert.InProjIdeal.sig) → Buf (Elt Ideal) ℓ) : Prop :=
  ∀ c : Dev Cert.InProjIdeal.nD,
    (Cert.Pre_turned_part_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_turned_part_finite [hPre_turned_part_finite : Cert.Pre_turned_part_finite.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_turned_part_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6))) = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjIdeal_pre_second_half_finite [hOutProjIdeal : Cert.OutProjIdeal.Facts] [hPre_second_half_finite : Cert.Pre_second_half_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_second_half_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7))
      ∧ r.2.sem = fun _ => 0)

def quiescent_OutProjReferenceIdeal_pre_second_half_finite [hOutProjReferenceIdeal : Cert.OutProjReferenceIdeal.Facts] [hPre_second_half_finite : Cert.Pre_second_half_finite.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal_second_half_finite m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_turned_part_finite [hInProjIdeal : Cert.InProjIdeal.Facts] [hPre_turned_part_finite : Cert.Pre_turned_part_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_turned_part_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def quiescent_InProjReferenceIdeal_pre_turned_part_finite [hInProjReferenceIdeal : Cert.InProjReferenceIdeal.Facts] [hPre_turned_part_finite : Cert.Pre_turned_part_finite.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_turned_part_finite m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v26) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def preserves_OutProj_OutProjIdeal : Prop :=
  True

def algebraic_OutProjIdeal_OutProjReferenceIdeal_pre_second_half_finite [hOutProjIdeal : Cert.OutProjIdeal.Facts] [hOutProjReferenceIdeal : Cert.OutProjReferenceIdeal.Facts] [hPre_second_half_finite : Cert.Pre_second_half_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal_second_half_finite m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v34) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7))

def preserves_InProj_InProjIdeal : Prop :=
  True

def algebraic_InProjIdeal_InProjReferenceIdeal_pre_turned_part_finite [hInProjIdeal : Cert.InProjIdeal.Facts] [hInProjReferenceIdeal : Cert.InProjReferenceIdeal.Facts] [hPre_turned_part_finite : Cert.Pre_turned_part_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_turned_part_finite m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)) (v3 : (c : Dev Cert.InProjIdeal.nD) → Buf (Elt Ideal) ((c.tc : Thread Cert.InProjIdeal.nD Cert.InProjIdeal.τ).loc Cert.InProjIdeal.main_v3_3)) (v4 : (c : Dev Cert.InProjIdeal.nD) → Buf (Elt Ideal) ((c.tc : Thread Cert.InProjIdeal.nD Cert.InProjIdeal.τ).loc Cert.InProjIdeal.main_v3_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_v3_3) = v3 c
          ∧ r.2.mem ((c.tc : Thread Cert.InProjIdeal.nD Cert.InProjIdeal.τ).loc Cert.InProjIdeal.main_v3_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v57) = v0 c
          ∧ r.2.mem ((c.tc : Thread Cert.InProjReferenceIdeal.nD Cert.InProjReferenceIdeal.τ).loc Cert.InProjReferenceIdeal.main_v63) = v1 c
          ∧ r.2.mem ((c.tc : Thread Cert.InProjReferenceIdeal.nD Cert.InProjReferenceIdeal.τ).loc Cert.InProjReferenceIdeal.main_v69) = v2 c
          ∧ r.2.mem ((c.tc : Thread Cert.InProjReferenceIdeal.nD Cert.InProjReferenceIdeal.τ).loc Cert.InProjReferenceIdeal.main_v75) = v3 c
          ∧ r.2.mem ((c.tc : Thread Cert.InProjReferenceIdeal.nD Cert.InProjReferenceIdeal.τ).loc Cert.InProjReferenceIdeal.main_v22) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hPre_experts_in_range : Cert.Pre_experts_in_range.Facts) (hPre_second_half_finite : Cert.Pre_second_half_finite.Facts) (hPre_turned_part_finite : Cert.Pre_turned_part_finite.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal) (hPre_experts_in_range := hPre_experts_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_OutProj (hOutProj := hOutProj)
    ∧ quiescent_OutProjIdeal (hOutProjIdeal := hOutProjIdeal)
    ∧ quiescent_OutProjIdeal_pre_second_half_finite (hOutProjIdeal := hOutProjIdeal) (hPre_second_half_finite := hPre_second_half_finite)
    ∧ quiescent_OutProjReferenceIdeal (hOutProjReferenceIdeal := hOutProjReferenceIdeal)
    ∧ quiescent_OutProjReferenceIdeal_pre_second_half_finite (hOutProjReferenceIdeal := hOutProjReferenceIdeal) (hPre_second_half_finite := hPre_second_half_finite)
    ∧ quiescent_InProj (hInProj := hInProj)
    ∧ quiescent_InProjIdeal (hInProjIdeal := hInProjIdeal)
    ∧ quiescent_InProjIdeal_pre_turned_part_finite (hInProjIdeal := hInProjIdeal) (hPre_turned_part_finite := hPre_turned_part_finite)
    ∧ quiescent_InProjReferenceIdeal (hInProjReferenceIdeal := hInProjReferenceIdeal)
    ∧ quiescent_InProjReferenceIdeal_pre_turned_part_finite (hInProjReferenceIdeal := hInProjReferenceIdeal) (hPre_turned_part_finite := hPre_turned_part_finite)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Dense_DenseIdeal
    ∧ algebraic_DenseIdeal_DenseReferenceIdeal (hDenseIdeal := hDenseIdeal) (hDenseReferenceIdeal := hDenseReferenceIdeal)
    ∧ preserves_OutProj_OutProjIdeal
    ∧ algebraic_OutProjIdeal_OutProjReferenceIdeal_pre_second_half_finite (hOutProjIdeal := hOutProjIdeal) (hOutProjReferenceIdeal := hOutProjReferenceIdeal) (hPre_second_half_finite := hPre_second_half_finite)
    ∧ preserves_InProj_InProjIdeal
    ∧ algebraic_InProjIdeal_InProjReferenceIdeal_pre_turned_part_finite (hInProjIdeal := hInProjIdeal) (hInProjReferenceIdeal := hInProjReferenceIdeal) (hPre_turned_part_finite := hPre_turned_part_finite)
-- ==== Pre_experts_in_range.lean ====
abbrev S139264x8x128 : Shape := ⟨3, ![139264, 8, 128]⟩
abbrev S137 : Shape := ⟨1, ![137]⟩
abbrev S8x1024x3584 : Shape := ⟨3, ![8, 1024, 3584]⟩
abbrev S8x3584x1024 : Shape := ⟨3, ![8, 3584, 1024]⟩
abbrev S136 : Shape := ⟨1, ![136]⟩
abbrev S_ : Shape := ⟨0, ![]⟩

class Facts : Prop where
  slices_S137_S136_0 : S137.Slices ![0] S136
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S139264x8x128 .f32) (main_arg1 : IVec S137 32) (main_arg2 : FVec F S8x1024x3584 .f32) (main_arg3 : FVec F S8x1024x3584 .f32) (main_arg4 : FVec F S8x3584x1024 .f32) : IVec S_ 1 :=
  let main_v0 : IVec S136 32 := (extractStridedSlice S136 ![0] · slices_S137_S136_0) main_arg1
  let main_c : IVec S_ 32 := constantI S_ 32 0#32
  let main_v1 : IVec S136 32 := broadcastInDim S136 ![] bcast_S_S136 main_c
  let main_v2 : IVec S136 1 := cmpi .sge main_v0 main_v1
  let main_v3 : IVec S136 32 := (extractStridedSlice S136 ![0] · slices_S137_S136_0) main_arg1
  let main_c_0 : IVec S_ 32 := constantI S_ 32 8#32
  let main_v4 : IVec S136 32 := broadcastInDim S136 ![] bcast_S_S136 main_c_0
  let main_v5 : IVec S136 1 := cmpi .slt main_v3 main_v4
  let main_v6 : IVec S136 1 := andi main_v2 main_v5
  let main_c_1 : IVec S_ 1 := constantI S_ 1 1#1
  let main_v7 : IVec S_ 1 := (fun x v => Host.reduce IntOp.andi x v reducesTo_S136_S_d0 h_S_) main_v6 main_c_1
  main_v7
-- ==== Pre_second_half_finite.lean ====
abbrev S16x4096x256 : Shape := ⟨3, ![16, 4096, 256]⟩
abbrev S16x2x2048x384 : Shape := ⟨4, ![16, 2, 2048, 384]⟩
abbrev S16x4096x384 : Shape := ⟨3, ![16, 4096, 384]⟩
abbrev S16x4096x1024 : Shape := ⟨3, ![16, 4096, 1024]⟩
abbrev S16x1x1024 : Shape := ⟨3, ![16, 1, 1024]⟩
abbrev S1024x1024 : Shape := ⟨2, ![1024, 1024]⟩
abbrev S384x384 : Shape := ⟨2, ![384, 384]⟩
abbrev S384 : Shape := ⟨1, ![384]⟩
abbrev S16x1x2048x384 : Shape := ⟨4, ![16, 1, 2048, 384]⟩
abbrev S_ : Shape := ⟨0, ![]⟩

class Facts : Prop where
  slices_S16x2x2048x384_S16x1x2048x384_0_1_0_0 : S16x2x2048x384.Slices ![0, 1, 0, 0] S16x1x2048x384
  bcast_S_S16x1x2048x384 : S_.BroadcastsInDim S16x1x2048x384 (![] : Fin 0 → Fin S16x1x2048x384.rank)
  reducesTo_S16x1x2048x384_S_d0_1_2_3 : S16x1x2048x384.ReducesTo [0, 1, 2, 3] S_
  h_S_ : 0 < S_.numel

variable [Facts]

def fn {F : FTy → Type} [FloatOps F] (main_arg0 : FVec F S16x4096x256 .f32) (main_arg1 : FVec F S16x2x2048x384 .f32) (main_arg2 : FVec F S16x4096x384 .f32) (main_arg3 : FVec F S16x4096x1024 .f32) (main_arg4 : FVec F S16x1x1024 .f32) (main_arg5 : FVec F S1024x1024 .f32) (main_arg6 : FVec F S384x384 .f32) (main_arg7 : FVec F S384 .f32) : IVec S_ 1 :=
  let main_v0 : FVec F S16x1x2048x384 .f32 := (extractStridedSlice S16x1x2048x384 ![0, 1, 0, 0] · slices_S16x2x2048x384_S16x1x2048x384_0_1_0_0) main_arg1
  let main_v1 : FVec F S16x1x2048x384 .f32 := Host.absf main_v0
  let main_cst : FVec F S_ .f32 := constant S_ .f32 0x7F800000#32
  let main_v2 : FVec F S16x1x2048x384 .f32 := broadcastInDim S16x1x2048x384 ![] bcast_S_S16x1x2048x384 main_cst
  let main_v3 : IVec S16x1x2048x384 1 := cmpf .olt main_v1 main_v2
  let main_c : IVec S_ 1 := constantI S_ 1 1#1
  let main_v4 : IVec S_ 1 := (fun x v => Host.reduce IntOp.andi x v reducesTo_S16x1x2048x384_S_d0_1_2_3 h_S_) main_v3 main_c
  main_v4
-- ==== Pre_turned_part_finite.lean ====
abbrev S16x4096x1024 : Shape := ⟨3, ![16, 4096, 1024]⟩
abbrev S1024 : Shape := ⟨1, ![1024]⟩
abbrev S16x1x1024 : Shape := ⟨3, ![16, 1, 1024]⟩
abbrev S1024x1792 : Shape := ⟨2, ![1024, 1792]⟩
abbrev S3x1152 : Shape := ⟨2, ![3, 1152]⟩
abbrev S1152 : Shape := ⟨1, ![1152]⟩
abbrev S1024x1408 : Shape := ⟨2, ![1024, 1408]⟩
abbrev S_ : Shape := ⟨0, ![]⟩

class Facts : Prop where
  slices_S1024x1792_S1024x1408_0_0 : S1024x1792.Slices ![0, 0] S1024x1408
  bcast_S_S1024x1408 : S_.BroadcastsInDim S1024x1408 (![] : Fin 0 → Fin S1024x1408.rank)
  reducesTo_S1024x1408_S_d0_1 : S1024x1408.ReducesTo [0, 1] S_
  h_S_ : 0 < S_.numel
  bcast_S_S1024 : S_.BroadcastsInDim S1024 (![] : Fin 0 → Fin S1024.rank)
  reducesTo_S1024_S_d0 : S1024.ReducesTo [0] S_
  bcast_S_S16x1x1024 : S_.BroadcastsInDim S16x1x1024 (![] : Fin 0 → Fin S16x1x1024.rank)
  reducesTo_S16x1x1024_S_d0_1_2 : S16x1x1024.ReducesTo [0, 1, 2] S_
  bcast_S_S3x1152 : S_.BroadcastsInDim S3x1152 (![] : Fin 0 → Fin S3x1152.rank)
  reducesTo_S3x1152_S_d0_1 : S3x1152.ReducesTo [0, 1] S_
  bcast_S_S1152 : S_.BroadcastsInDim S1152 (![] : Fin 0 → Fin S1152.rank)
  reducesTo_S1152_S_d0 : S1152.ReducesTo [0] S_

variable [Facts]

def fn_part1 {F : FTy → Type} [FloatOps F] (main_arg5 : FVec F S3x1152 .f32) (main_arg6 : FVec F S1152 .f32) (main_v14 : IVec S_ 1) (main_v15 : FVec F S16x1x1024 .f32) (main_v16 : FVec F S16x1x1024 .f32) : IVec S_ 1 :=
  let main_v17 : IVec S16x1x1024 1 := cmpf .olt main_v15 main_v16
  let main_c_5 : IVec S_ 1 := constantI S_ 1 1#1
  let main_v18 : IVec S_ 1 := (fun x v => Host.reduce IntOp.andi x v reducesTo_S16x1x1024_S_d0_1_2 h_S_) main_v17 main_c_5
  let main_v19 : IVec S_ 1 := andi main_v14 main_v18
  let main_v20 : FVec F S3x1152 .f32 := Host.absf main_arg5
  let main_cst_6 : FVec F S_ .f32 := constant S_ .f32 0x7F800000#32
  let main_v21 : FVec F S3x1152 .f32 := broadcastInDim S3x1152 ![] bcast_S_S3x1152 main_cst_6
  let main_v22 : IVec S3x1152 1 := cmpf .olt main_v20 main_v21
  let main_c_7 : IVec S_ 1 := constantI S_ 1 1#1
  let main_v23 : IVec S_ 1 := (fun x v => Host.reduce IntOp.andi x v reducesTo_S3x1152_S_d0_1 h_S_) main_v22 main_c_7
  let main_v24 : IVec S_ 1 := andi main_v19 main_v23
  let main_v25 : FVec F S1152 .f32 := Host.absf main_arg6
  let main_cst_8 : FVec F S_ .f32 := constant S_ .f32 0x7F800000#32
  let main_v26 : FVec F S1152 .f32 := broadcastInDim S1152 ![] bcast_S_S1152 main_cst_8
  let main_v27 : IVec S1152 1 := cmpf .olt main_v25 main_v26
  let main_c_9 : IVec S_ 1 := constantI S_ 1 1#1
  let main_v28 : IVec S_ 1 := (fun x v => Host.reduce IntOp.andi x v reducesTo_S1152_S_d0 h_S_) main_v27 main_c_9
  let main_v29 : IVec S_ 1 := andi main_v24 main_v28
  main_v29

def fn {F : FTy → Type} [FloatOps F] (main_arg0 : FVec F S16x4096x1024 .f32) (main_arg1 : FVec F S1024 .f32) (main_arg2 : FVec F S16x1x1024 .f32) (main_arg3 : FVec F S16x1x1024 .f32) (main_arg4 : FVec F S1024x1792 .f32) (main_arg5 : FVec F S3x1152 .f32) (main_arg6 : FVec F S1152 .f32) : IVec S_ 1 :=
  let main_v0 : FVec F S1024x1408 .f32 := (extractStridedSlice S1024x1408 ![0, 0] · slices_S1024x1792_S1024x1408_0_0) main_arg4
  let main_v1 : FVec F S1024x1408 .f32 := Host.absf main_v0
  let main_cst : FVec F S_ .f32 := constant S_ .f32 0x7F800000#32
  let main_v2 : FVec F S1024x1408 .f32 := broadcastInDim S1024x1408 ![] bcast_S_S1024x1408 main_cst
  let main_v3 : IVec S1024x1408 1 := cmpf .olt main_v1 main_v2
  let main_c : IVec S_ 1 := constantI S_ 1 1#1
  let main_v4 : IVec S_ 1 := (fun x v => Host.reduce IntOp.andi x v reducesTo_S1024x1408_S_d0_1 h_S_) main_v3 main_c
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S16x1x1024 .f32 := Host.absf main_arg2
  let main_cst_2 : FVec F S_ .f32 := constant S_ .f32 0x7F800000#32
  let main_v11 : FVec F S16x1x1024 .f32 := broadcastInDim S16x1x1024 ![] bcast_S_S16x1x1024 main_cst_2
  let main_v12 : IVec S16x1x1024 1 := cmpf .olt main_v10 main_v11
  let main_c_3 : IVec S_ 1 := constantI S_ 1 1#1
  let main_v13 : IVec S_ 1 := (fun x v => Host.reduce IntOp.andi x v reducesTo_S16x1x1024_S_d0_1_2 h_S_) main_v12 main_c_3
  let main_v14 : IVec S_ 1 := andi main_v9 main_v13
  let main_v15 : FVec F S16x1x1024 .f32 := Host.absf main_arg3
  let main_cst_4 : FVec F S_ .f32 := constant S_ .f32 0x7F800000#32
  let main_v16 : FVec F S16x1x1024 .f32 := broadcastInDim S16x1x1024 ![] bcast_S_S16x1x1024 main_cst_4
  fn_part1 (F := F) main_arg5 main_arg6 main_v14 main_v15 main_v16
-- ==== Kernel.lean ====
abbrev S139264x8x128 : Shape := ⟨3, ![139264, 8, 128]⟩
abbrev S137 : Shape := ⟨1, ![137]⟩
abbrev S8x1024x3584 : Shape := ⟨3, ![8, 1024, 3584]⟩
abbrev S8x3584x1024 : Shape := ⟨3, ![8, 3584, 1024]⟩
abbrev S1114112x128 : Shape := ⟨2, ![1114112, 128]⟩
abbrev S8192x128 : Shape := ⟨2, ![8192, 128]⟩
abbrev S1x1024x512 : Shape := ⟨3, ![1, 1024, 512]⟩
abbrev S1 : Shape := ⟨1, ![1]⟩
abbrev S1x512x1024 : Shape := ⟨3, ![1, 512, 1024]⟩
abbrev S1024x1024 : Shape := ⟨2, ![1024, 1024]⟩
abbrev S1024x128 : Shape := ⟨2, ![1024, 128]⟩
abbrev S1024x512 : Shape := ⟨2, ![1024, 512]⟩
abbrev S512x1024 : Shape := ⟨2, ![512, 1024]⟩

abbrev nBuf : Space → Nat
  | .hbm => 9
  | .vmem => 12
  | .smem => 1
  | _ => 0

abbrev bufTy : (tb : Table) → Fin (tcTables nBuf tb) → BufTy
  | .hbm, ⟨0, _⟩ => ⟨S139264x8x128, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S1114112x128, .f32⟩
  | .hbm, ⟨8, _⟩ => ⟨S1114112x128, .f32⟩
  | .local _ .vmem, ⟨0, _⟩ => ⟨S8192x128, .f32⟩
  | .local _ .vmem, ⟨1, _⟩ => ⟨S8192x128, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S8192x128, .f32⟩
  | .local _ .vmem, ⟨9, _⟩ => ⟨S8192x128, .f32⟩
  | .local _ .vmem, ⟨10, _⟩ => ⟨S1024x1024, .bf16⟩
  | .local _ .vmem, ⟨11, _⟩ => ⟨S1024x1024, .f32⟩
  | .local _ .smem, ⟨0, _⟩ => ⟨S137, .i32⟩
  | _, _ => ⟨S139264x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v2 : BitVec 1 := Scalar.cmpi .eq arg1 c6_i32
  let v9 : BitVec 1 := Scalar.andi v1 v2
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c6_i32 : BitVec 32 := 6#32
  let v2 : BitVec 1 := Scalar.cmpi .eq arg1 c6_i32
  let v13 : BitVec 1 := Scalar.andi v12 v2
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S139264x8x128 : Shape := ⟨3, ![139264, 8, 128]⟩
abbrev S137 : Shape := ⟨1, ![137]⟩
abbrev S8x1024x3584 : Shape := ⟨3, ![8, 1024, 3584]⟩
abbrev S8x3584x1024 : Shape := ⟨3, ![8, 3584, 1024]⟩
abbrev S139264x1024 : Shape := ⟨2, ![139264, 1024]⟩
abbrev S139264 : Shape := ⟨1, ![139264]⟩
abbrev S_ : Shape := ⟨0, ![]⟩
abbrev S1 : Shape := ⟨1, ![1]⟩
abbrev S136 : Shape := ⟨1, ![136]⟩
abbrev S136x1024 : Shape := ⟨2, ![136, 1024]⟩
abbrev S139264x1 : Shape := ⟨2, ![139264, 1]⟩
abbrev S1x8 : Shape := ⟨2, ![1, 8]⟩
abbrev S139264x8 : Shape := ⟨2, ![139264, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S139264x3584 : Shape := ⟨2, ![139264, 3584]⟩
abbrev S1114112x128 : Shape := ⟨2, ![1114112, 128]⟩

abbrev nBuf : Space → Nat
  | .hbm => 231
  | .vmem => 0
  | .smem => 0
  | _ => 0

abbrev hbmTy0_0 (i : Nat) : BufTy := match i % 128 with
  | 0 => ⟨S139264x8x128, .f32⟩
  | 1 => ⟨S137, .i32⟩
  | 2 => ⟨S8x1024x3584, .f32⟩
  | 3 => ⟨S8x1024x3584, .f32⟩
  | 4 => ⟨S8x3584x1024, .f32⟩
  | 5 => ⟨S139264x1024, .f32⟩
  | 6 => ⟨S139264, .i32⟩
  | 7 => ⟨S_, .i32⟩
  | 8 => ⟨S_, .i32⟩
  | 9 => ⟨S139264, .i32⟩
  | 10 => ⟨S139264, .i32⟩
  | 11 => ⟨S139264, .i32⟩
  | 12 => ⟨S_, .i32⟩
  | 13 => ⟨S139264, .i32⟩
  | 14 => ⟨S139264, .i1⟩
  | 15 => ⟨S139264, .i32⟩
  | 16 => ⟨S139264, .i32⟩
  | 17 => ⟨S_, .i32⟩
  | 18 => ⟨S139264, .i32⟩
  | 19 => ⟨S139264, .i1⟩
  | 20 => ⟨S139264, .i1⟩
  | 21 => ⟨S_, .i32⟩
  | 22 => ⟨S139264, .i32⟩
  | 23 => ⟨S139264, .i32⟩
  | 24 => ⟨S139264, .i32⟩
  | 25 => ⟨S1, .i32⟩
  | 26 => ⟨S_, .i32⟩
  | 27 => ⟨S139264, .i32⟩
  | 28 => ⟨S139264, .i1⟩
  | 29 => ⟨S136, .i32⟩
  | 30 => ⟨S136x1024, .i32⟩
  | 31 => ⟨S139264, .i32⟩
  | 32 => ⟨S139264x1, .i1⟩
  | 33 => ⟨S139264x1, .i32⟩
  | 34 => ⟨S1x8, .i32⟩
  | 35 => ⟨S139264x8, .i32⟩
  | 36 => ⟨S139264x8, .i32⟩
  | 37 => ⟨S139264x8, .i1⟩
  | 38 => ⟨S139264x8, .f32⟩
  | 39 => ⟨S_, .f32⟩
  | 40 => ⟨S_, .f32⟩
  | 41 => ⟨S139264x8, .i1⟩
  | 42 => ⟨S139264x8, .f32⟩
  | 43 => ⟨S139264x8, .f32⟩
  | 44 => ⟨S_, .f32⟩
  | 45 => ⟨S139264x1024, .f32⟩
  | 46 => ⟨S139264x1, .f32⟩
  | 47 => ⟨S1x1024x3584, .f32⟩
  | 48 => ⟨S1024x3584, .f32⟩
  | 49 => ⟨S1x1024x3584, .f32⟩
  | 50 => ⟨S1024x3584, .f32⟩
  | 51 => ⟨S1x3584x1024, .f32⟩
  | 52 => ⟨S3584x1024, .f32⟩
  | 53 => ⟨S139264x3584, .f32⟩
  | 54 => ⟨S139264x3584, .f32⟩
  | 55 => ⟨S139264x3584, .f32⟩
  | 56 => ⟨S_, .f32⟩
  | 57 => ⟨S139264x3584, .f32⟩
  | 58 => ⟨S139264x3584, .f32⟩
  | 59 => ⟨S_, .f32⟩
  | 60 => ⟨S139264x3584, .f32⟩
  | 61 => ⟨S139264x3584, .f32⟩
  | 62 => ⟨S139264x3584, .f32⟩
  | 63 => ⟨S139264x3584, .f32⟩
  | 64 => ⟨S139264x3584, .f32⟩
  | 65 => ⟨S139264x1024, .f32⟩
  | 66 => ⟨S139264x1024, .f32⟩
  | 67 => ⟨S139264x1024, .f32⟩
  | 68 => ⟨S139264x1024, .f32⟩
  | 69 => ⟨S139264x1, .f32⟩
  | 70 => ⟨S1x1024x3584, .f32⟩
  | 71 => ⟨S1024x3584, .f32⟩
  | 72 => ⟨S1x1024x3584, .f32⟩
  | 73 => ⟨S1024x3584, .f32⟩
  | 74 => ⟨S1x3584x1024, .f32⟩
  | 75 => ⟨S3584x1024, .f32⟩
  | 76 => ⟨S139264x3584, .f32⟩
  | 77 => ⟨S139264x3584, .f32⟩
  | 78 => ⟨S139264x3584, .f32⟩
  | 79 => ⟨S_, .f32⟩
  | 80 => ⟨S139264x3584, .f32⟩
  | 81 => ⟨S139264x3584, .f32⟩
  | 82 => ⟨S_, .f32⟩
  | 83 => ⟨S139264x3584, .f32⟩
  | 84 => ⟨S139264x3584, .f32⟩
  | 85 => ⟨S139264x3584, .f32⟩
  | 86 => ⟨S139264x3584, .f32⟩
  | 87 => ⟨S139264x3584, .f32⟩
  | 88 => ⟨S139264x1024, .f32⟩
  | 89 => ⟨S139264x1024, .f32⟩
  | 90 => ⟨S139264x1024, .f32⟩
  | 91 => ⟨S139264x1024, .f32⟩
  | 92 => ⟨S139264x1, .f32⟩
  | 93 => ⟨S1x1024x3584, .f32⟩
  | 94 => ⟨S1024x3584, .f32⟩
  | 95 => ⟨S1x1024x3584, .f32⟩
  | 96 => ⟨S1024x3584, .f32⟩
  | 97 => ⟨S1x3584x1024, .f32⟩
  | 98 => ⟨S3584x1024, .f32⟩
  | 99 => ⟨S139264x3584, .f32⟩
  | 100 => ⟨S139264x3584, .f32⟩
  | 101 => ⟨S139264x3584, .f32⟩
  | 102 => ⟨S_, .f32⟩
  | 103 => ⟨S139264x3584, .f32⟩
  | 104 => ⟨S139264x3584, .f32⟩
  | 105 => ⟨S_, .f32⟩
  | 106 => ⟨S139264x3584, .f32⟩
  | 107 => ⟨S139264x3584, .f32⟩
  | 108 => ⟨S139264x3584, .f32⟩
  | 109 => ⟨S139264x3584, .f32⟩
  | 110 => ⟨S139264x3584, .f32⟩
  | 111 => ⟨S139264x1024, .f32⟩
  | 112 => ⟨S139264x1024, .f32⟩
  | 113 => ⟨S139264x1024, .f32⟩
  | 114 => ⟨S139264x1024, .f32⟩
  | 115 => ⟨S139264x1, .f32⟩
  | 116 => ⟨S1x1024x3584, .f32⟩
  | 117 => ⟨S1024x3584, .f32⟩
  | 118 => ⟨S1x1024x3584, .f32⟩
  | 119 => ⟨S1024x3584, .f32⟩
  | 120 => ⟨S1x3584x1024, .f32⟩
  | 121 => ⟨S3584x1024, .f32⟩
  | 122 => ⟨S139264x3584, .f32⟩
  | 123 => ⟨S139264x3584, .f32⟩
  | 124 => ⟨S139264x3584, .f32⟩
  | 125 => ⟨S_, .f32⟩
  | 126 => ⟨S139264x3584, .f32⟩
  | 127 => ⟨S139264x3584, .f32⟩
  | _ => ⟨S139264x8x128, .f32⟩

abbrev hbmTy0_1 (i : Nat) : BufTy := match i % 128 with
  | 0 => ⟨S_, .f32⟩
  | 1 => ⟨S139264x3584, .f32⟩
  | 2 => ⟨S139264x3584, .f32⟩
  | 3 => ⟨S139264x3584, .f32⟩
  | 4 => ⟨S139264x3584, .f32⟩
  | 5 => ⟨S139264x3584, .f32⟩
  | 6 => ⟨S139264x1024, .f32⟩
  | 7 => ⟨S139264x1024, .f32⟩
  | 8 => ⟨S139264x1024, .f32⟩
  | 9 => ⟨S139264x1024, .f32⟩
  | 10 => ⟨S139264x1, .f32⟩
  | 11 => ⟨S1x1024x3584, .f32⟩
  | 12 => ⟨S1024x3584, .f32⟩
  | 13 => ⟨S1x1024x3584, .f32⟩
  | 14 => ⟨S1024x3584, .f32⟩
  | 15 => ⟨S1x3584x1024, .f32⟩
  | 16 => ⟨S3584x1024, .f32⟩
  | 17 => ⟨S139264x3584, .f32⟩
  | 18 => ⟨S139264x3584, .f32⟩
  | 19 => ⟨S139264x3584, .f32⟩
  | 20 => ⟨S_, .f32⟩
  | 21 => ⟨S139264x3584, .f32⟩
  | 22 => ⟨S139264x3584, .f32⟩
  | 23 => ⟨S_, .f32⟩
  | 24 => ⟨S139264x3584, .f32⟩
  | 25 => ⟨S139264x3584, .f32⟩
  | 26 => ⟨S139264x3584, .f32⟩
  | 27 => ⟨S139264x3584, .f32⟩
  | 28 => ⟨S139264x3584, .f32⟩
  | 29 => ⟨S139264x1024, .f32⟩
  | 30 => ⟨S139264x1024, .f32⟩
  | 31 => ⟨S139264x1024, .f32⟩
  | 32 => ⟨S139264x1024, .f32⟩
  | 33 => ⟨S139264x1, .f32⟩
  | 34 => ⟨S1x1024x3584, .f32⟩
  | 35 => ⟨S1024x3584, .f32⟩
  | 36 => ⟨S1x1024x3584, .f32⟩
  | 37 => ⟨S1024x3584, .f32⟩
  | 38 => ⟨S1x3584x1024, .f32⟩
  | 39 => ⟨S3584x1024, .f32⟩
  | 40 => ⟨S139264x3584, .f32⟩
  | 41 => ⟨S139264x3584, .f32⟩
  | 42 => ⟨S139264x3584, .f32⟩
  | 43 => ⟨S_, .f32⟩
  | 44 => ⟨S139264x3584, .f32⟩
  | 45 => ⟨S139264x3584, .f32⟩
  | 46 => ⟨S_, .f32⟩
  | 47 => ⟨S139264x3584, .f32⟩
  | 48 => ⟨S139264x3584, .f32⟩
  | 49 => ⟨S139264x3584, .f32⟩
  | 50 => ⟨S139264x3584, .f32⟩
  | 51 => ⟨S139264x3584, .f32⟩
  | 52 => ⟨S139264x1024, .f32⟩
  | 53 => ⟨S139264x1024, .f32⟩
  | 54 => ⟨S139264x1024, .f32⟩
  | 55 => ⟨S139264x1024, .f32⟩
  | 56 => ⟨S139264x1, .f32⟩
  | 57 => ⟨S1x1024x3584, .f32⟩
  | 58 => ⟨S1024x3584, .f32⟩
  | 59 => ⟨S1x1024x3584, .f32⟩
  | 60 => ⟨S1024x3584, .f32⟩
  | 61 => ⟨S1x3584x1024, .f32⟩
  | 62 => ⟨S3584x1024, .f32⟩
  | 63 => ⟨S139264x3584, .f32⟩
  | 64 => ⟨S139264x3584, .f32⟩
  | 65 => ⟨S139264x3584, .f32⟩
  | 66 => ⟨S_, .f32⟩
  | 67 => ⟨S139264x3584, .f32⟩
  | 68 => ⟨S139264x3584, .f32⟩
  | 69 => ⟨S_, .f32⟩
  | 70 => ⟨S139264x3584, .f32⟩
  | 71 => ⟨S139264x3584, .f32⟩
  | 72 => ⟨S139264x3584, .f32⟩
  | 73 => ⟨S139264x3584, .f32⟩
  | 74 => ⟨S139264x3584, .f32⟩
  | 75 => ⟨S139264x1024, .f32⟩
  | 76 => ⟨S139264x1024, .f32⟩
  | 77 => ⟨S139264x1024, .f32⟩
  | 78 => ⟨S139264x1024, .f32⟩
  | 79 => ⟨S139264x1, .f32⟩
  | 80 => ⟨S1x1024x3584, .f32⟩
  | 81 => ⟨S1024x3584, .f32⟩
  | 82 => ⟨S1x1024x3584, .f32⟩
  | 83 => ⟨S1024x3584, .f32⟩
  | 84 => ⟨S1x3584x1024, .f32⟩
  | 85 => ⟨S3584x1024, .f32⟩
  | 86 => ⟨S139264x3584, .f32⟩
  | 87 => ⟨S139264x3584, .f32⟩
  | 88 => ⟨S139264x3584, .f32⟩
  | 89 => ⟨S_, .f32⟩
  | 90 => ⟨S139264x3584, .f32⟩
  | 91 => ⟨S139264x3584, .f32⟩
  | 92 => ⟨S_, .f32⟩
  | 93 => ⟨S139264x3584, .f32⟩
  | 94 => ⟨S139264x3584, .f32⟩
  | 95 => ⟨S139264x3584, .f32⟩
  | 96 => ⟨S139264x3584, .f32⟩
  | 97 => ⟨S139264x3584, .f32⟩
  | 98 => ⟨S139264x1024, .f32⟩
  | 99 => ⟨S139264x1024, .f32⟩
  | 100 => ⟨S139264x1024, .f32⟩
  | 101 => ⟨S139264x1024, .f32⟩
  | 102 => ⟨S1114112x128, .f32⟩
  | _ => ⟨S139264x8x128, .f32⟩

abbrev hbmTy (i : Nat) : BufTy := match i / 128 with
  | 0 => hbmTy0_0 i
  | 1 => hbmTy0_1 i
  | _ => ⟨S139264x8x128, .f32⟩

abbrev bufTy : (tb : Table) → Fin (tcTables nBuf tb) → BufTy
  | .hbm, ⟨i, _⟩ => hbmTy i
  | _, _ => ⟨S139264x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v11 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_call5_v0 : Ref sig .tc := ⟨.hbm, 100, rfl⟩
abbrev main_call5_v1 : Ref sig .tc := ⟨.hbm, 101, rfl⟩
abbrev main_call5_cst : Ref sig .tc := ⟨.hbm, 102, rfl⟩
abbrev main_call5_v2 : Ref sig .tc := ⟨.hbm, 103, rfl⟩
abbrev main_call5_v3 : Ref sig .tc := ⟨.hbm, 104, rfl⟩
abbrev main_call5_cst_0 : Ref sig .tc := ⟨.hbm, 105, rfl⟩
abbrev main_call5_v4 : Ref sig .tc := ⟨.hbm, 106, rfl⟩
abbrev main_call5_v5 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_call7_v0 : Ref sig .tc := ⟨.hbm, 146, rfl⟩
abbrev main_call7_v1 : Ref sig .tc := ⟨.hbm, 147, rfl⟩
abbrev main_call7_cst : Ref sig .tc := ⟨.hbm, 148, rfl⟩
abbrev main_call7_v2 : Ref sig .tc := ⟨.hbm, 149, rfl⟩
abbrev main_call7_v3 : Ref sig .tc := ⟨.hbm, 150, rfl⟩
abbrev main_call7_cst_0 : Ref sig .tc := ⟨.hbm, 151, rfl⟩
abbrev main_call7_v4 : Ref sig .tc := ⟨.hbm, 152, rfl⟩
abbrev main_call7_v5 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_call8_v0 : Ref sig .tc := ⟨.hbm, 169, rfl⟩
abbrev main_call8_v1 : Ref sig .tc := ⟨.hbm, 170, rfl⟩
abbrev main_call8_cst : Ref sig .tc := ⟨.hbm, 171, rfl⟩
abbrev main_call8_v2 : Ref sig .tc := ⟨.hbm, 172, rfl⟩
abbrev main_call8_v3 : Ref sig .tc := ⟨.hbm, 173, rfl⟩
abbrev main_call8_cst_0 : Ref sig .tc := ⟨.hbm, 174, rfl⟩
abbrev main_call8_v4 : Ref sig .tc := ⟨.hbm, 175, rfl⟩
abbrev main_call8_v5 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_call10_v0 : Ref sig .tc := ⟨.hbm, 215, rfl⟩
abbrev main_call10_v1 : Ref sig .tc := ⟨.hbm, 216, rfl⟩
abbrev main_call10_cst : Ref sig .tc := ⟨.hbm, 217, rfl⟩
abbrev main_call10_v2 : Ref sig .tc := ⟨.hbm, 218, rfl⟩
abbrev main_call10_v3 : Ref sig .tc := ⟨.hbm, 219, rfl⟩
abbrev main_call10_cst_0 : Ref sig .tc := ⟨.hbm, 220, rfl⟩
abbrev main_call10_v4 : Ref sig .tc := ⟨.hbm, 221, rfl⟩
abbrev main_call10_v5 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩

abbrev nD : Nat := 1
abbrev τ : Topo := Topo.v7x

variable {F : FTy → Type} [FloatOps F]
-- ==== Dense.lean ====
abbrev S16x4096x1024 : Shape := ⟨3, ![16, 4096, 1024]⟩
abbrev S1024 : Shape := ⟨1, ![1024]⟩
abbrev S16x1x1024 : Shape := ⟨3, ![16, 1, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S1x1024x1024 : Shape := ⟨3, ![1, 1024, 1024]⟩
abbrev S1x1x1024 : Shape := ⟨3, ![1, 1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 15
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S_, .f32⟩
  | .hbm, ⟨13, _⟩ => ⟨S1x1024, .f32⟩
  | .hbm, ⟨14, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DenseReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x2816, .f32⟩
  | .hbm, ⟨32, _⟩ => ⟨S16x4096x2816, .f32⟩
  | .hbm, ⟨33, _⟩ => ⟨S16x4096x2816, .f32⟩
  | .hbm, ⟨34, _⟩ => ⟨S_, .f32⟩
  | .hbm, ⟨35, _⟩ => ⟨S16x4096x2816, .f32⟩
  | .hbm, ⟨36, _⟩ => ⟨S16x4096x2816, .f32⟩
  | .hbm, ⟨37, _⟩ => ⟨S_, .f32⟩
  | .hbm, ⟨38, _⟩ => ⟨S16x4096x2816, .f32⟩
  | .hbm, ⟨39, _⟩ => ⟨S16x4096x2816, .f32⟩
  | .hbm, ⟨40, _⟩ => ⟨S16x4096x2816, .f32⟩
  | .hbm, ⟨41, _⟩ => ⟨S16x4096x2816, .f32⟩
  | .hbm, ⟨42, _⟩ => ⟨S16x4096x2816, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== OutProj.lean ====
abbrev S16x4096x256 : Shape := ⟨3, ![16, 4096, 256]⟩
abbrev S16x2x2048x384 : Shape := ⟨4, ![16, 2, 2048, 384]⟩
abbrev S16x4096x384 : Shape := ⟨3, ![16, 4096, 384]⟩
abbrev S16x4096x1024 : Shape := ⟨3, ![16, 4096, 1024]⟩
abbrev S16x1x1024 : Shape := ⟨3, ![16, 1, 1024]⟩
abbrev S1024x1024 : Shape := ⟨2, ![1024, 1024]⟩
abbrev S384x384 : Shape := ⟨2, ![384, 384]⟩
abbrev S384 : Shape := ⟨1, ![384]⟩
abbrev S256x256 : Shape := ⟨2, ![256, 256]⟩
abbrev S256x1024 : Shape := ⟨2, ![256, 1024]⟩
abbrev S384x1024 : Shape := ⟨2, ![384, 1024]⟩
abbrev S1x384 : Shape := ⟨2, ![1, 384]⟩
abbrev S1x512x256 : Shape := ⟨3, ![1, 512, 256]⟩
abbrev S1x1x512x384 : Shape := ⟨4, ![1, 1, 512, 384]⟩
abbrev S1x512x384 : Shape := ⟨3, ![1, 512, 384]⟩
abbrev S1x512x1024 : Shape := ⟨3, ![1, 512, 1024]⟩
abbrev S1x1x1024 : Shape := ⟨3, ![1, 1, 1024]⟩
abbrev S512x384 : Shape := ⟨2, ![512, 384]⟩
abbrev S512x256 : Shape := ⟨2, ![512, 256]⟩
abbrev S512x1024 : Shape := ⟨2, ![512, 1024]⟩
abbrev S1x1024 : Shape := ⟨2, ![1, 1024]⟩
abbrev S256x384 : Shape := ⟨2, ![256, 384]⟩

abbrev nBuf : Space → Nat
  | .hbm => 16
  | .vmem => 18
  | .smem => 0
  | _ => 0

abbrev bufTy : (tb : Table) → Fin (tcTables nBuf tb) → BufTy
  | .hbm, ⟨0, _⟩ => ⟨S16x4096x256, .f32⟩
  | .hbm, ⟨1, _⟩ => ⟨S16x2x2048x384, .f32⟩
  | .hbm, ⟨2, _⟩ => ⟨S16x4096x384, .f32⟩
  | .hbm, ⟨3, _⟩ => ⟨S16x4096x1024, .f32⟩
  | .hbm, ⟨4, _⟩ => ⟨S16x1x1024, .f32⟩
  | .hbm, ⟨5, _⟩ => ⟨S1024x1024, .f32⟩
  | .hbm, ⟨6, _⟩ => ⟨S384x384, .f32⟩
  | .hbm, ⟨7, _⟩ => ⟨S384, .f32⟩
  | .hbm, ⟨8, _⟩ => ⟨S256x256, .bf16⟩
  | .hbm, ⟨9, _⟩ => ⟨S1024x1024, .bf16⟩
  | .hbm, ⟨10, _⟩ => ⟨S256x1024, .bf16⟩
  | .hbm, ⟨11, _⟩ => ⟨S384x1024, .bf16⟩
  | .hbm, ⟨12, _⟩ => ⟨S384x1024, .bf16⟩
  | .hbm, ⟨13, _⟩ => ⟨S384x384, .bf16⟩
  | .hbm, ⟨14, _⟩ => ⟨S1x384, .f32⟩
  | .hbm, ⟨15, _⟩ => ⟨S16x4096x1024, .f32⟩
  | .local _ .vmem, ⟨0, _⟩ => ⟨S1x512x256, .f32⟩
  | .local _ .vmem, ⟨1, _⟩ => ⟨S1x512x256, .f32⟩
  | .local _ .vmem, ⟨2, _⟩ => ⟨S1x1x512x384, .f32⟩
  | .local _ .vmem, ⟨3, _⟩ => ⟨S1x1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S384x1024, .bf16⟩
  | .local _ .vmem, ⟨12, _⟩ => ⟨S384x1024, .bf16⟩
  | .local _ .vmem, ⟨13, _⟩ => ⟨S384x384, .bf16⟩
  | .local _ .vmem, ⟨14, _⟩ => ⟨S1x384, .f32⟩
  | .local _ .vmem, ⟨15, _⟩ => ⟨S256x256, .bf16⟩
  | .local _ .vmem, ⟨16, _⟩ => ⟨S1x512x1024, .f32⟩
  | .local _ .vmem, ⟨17, _⟩ => ⟨S1x512x1024, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c4_i32 : BitVec 32 := 4#32
  let v42 : BitVec 1 := Scalar.cmpi .slt arg1 c4_i32
  let v43 : BitVec 32 := Scalar.extui v42
  let c0_i32 : BitVec 32 := 0#32
  let v44 : BitVec 1 := Scalar.cmpi .ne v43 c0_i32
  v44

def k0_cond2 (i : grid0.Coords) : BitVec 1 :=
  let arg1 : BitVec 32 := BitVec.ofNat 32 (i 1).val
  let c4_i32_22 : BitVec 32 := 4#32
  let v45 : BitVec 1 := Scalar.cmpi .sge arg1 c4_i32_22
  let v46 : BitVec 32 := Scalar.extui v45
  let c0_i32_23 : BitVec 32 := 0#32
  let v47 : BitVec 1 := Scalar.cmpi .ne v46 c0_i32_23
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .slt arg1 c4_i32_4
  let c7_i32 : BitVec 32 := 7#32
  let v18 : BitVec 32 := Scalar.subi c7_i32 arg1
  let v19 : BitVec 32 := Scalar.select v17 arg1 v18
  let c0_i32_5 : BitVec 32 := 0#32
  let c0_i32_6 : BitVec 32 := 0#32
  ![arg0.toNat, v16.toNat, v19.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjReferenceIdeal.lean ====
abbrev S16x4096x256 : Shape := ⟨3, ![16, 4096, 256]⟩
abbrev S16x2x2048x384 : Shape := ⟨4, ![16, 2, 2048, 384]⟩
abbrev S16x4096x384 : Shape := ⟨3, ![16, 4096, 384]⟩
abbrev S16x4096x1024 : Shape := ⟨3, ![16, 4096, 1024]⟩
abbrev S16x1x1024 : Shape := ⟨3, ![16, 1, 1024]⟩
abbrev S1024x1024 : Shape := ⟨2, ![1024, 1024]⟩
abbrev S384x384 : Shape := ⟨2, ![384, 384]⟩
abbrev S384 : Shape := ⟨1, ![384]⟩
abbrev S16x1x2048x384 : Shape := ⟨4, ![16, 1, 2048, 384]⟩
abbrev S16x2048x384 : Shape := ⟨3, ![16, 2048, 384]⟩
abbrev S_ : Shape := ⟨0, ![]⟩
abbrev S1x1x384 : Shape := ⟨3, ![1, 1, 384]⟩

abbrev nBuf : Space → Nat
  | .hbm => 49
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x2x2048x384, .f32⟩
  | .hbm, ⟨2, _⟩ => ⟨S16x4096x384, .f32⟩
  | .hbm, ⟨3, _⟩ => ⟨S16x4096x1024, .f32⟩
  | .hbm, ⟨4, _⟩ => ⟨S16x1x1024, .f32⟩
  | .hbm, ⟨5, _⟩ => ⟨S1024x1024, .f32⟩
  | .hbm, ⟨6, _⟩ => ⟨S384x384, .f32⟩
  | .hbm, ⟨7, _⟩ => ⟨S384, .f32⟩
  | .hbm, ⟨8, _⟩ => ⟨S16x1x2048x384, .f32⟩
  | .hbm, ⟨9, _⟩ => ⟨S16x2048x384, .f32⟩
  | .hbm, ⟨10, _⟩ => ⟨S16x1x2048x384, .f32⟩
  | .hbm, ⟨11, _⟩ => ⟨S16x1x2048x384, .f32⟩
  | .hbm, ⟨12, _⟩ => ⟨S16x2048x384, .f32⟩
  | .hbm, ⟨13, _⟩ => ⟨S16x4096x384, .f32⟩
  | .hbm, ⟨14, _⟩ => ⟨S16x4096x384, .f32⟩
  | .hbm, ⟨15, _⟩ => ⟨S16x4096x384, .f32⟩
  | .hbm, ⟨16, _⟩ => ⟨S_, .f32⟩
  | .hbm, ⟨17, _⟩ => ⟨S16x4096x384, .f32⟩
  | .hbm, ⟨18, _⟩ => ⟨S16x4096x384, .f32⟩
  | .hbm, ⟨19, _⟩ => ⟨S16x4096x384, .f32⟩
  | .hbm, ⟨20, _⟩ => ⟨S_, .f32⟩
  | .hbm, ⟨21, _⟩ => ⟨S16x4096x384, .f32⟩
  | .hbm, ⟨22, _⟩ => ⟨S16x4096x384, .f32⟩
  | .hbm, ⟨23, _⟩ => ⟨S16x4096x384, .f32⟩
  | .hbm, ⟨24, _⟩ => ⟨S_, .f32⟩
  | .hbm, ⟨25, _⟩ => ⟨S16x4096x384, .f32⟩
  | .hbm, ⟨26, _⟩ => ⟨S16x4096x384, .f32⟩
  | .hbm, ⟨27, _⟩ => ⟨S_, .f32⟩
  | .hbm, ⟨28, _⟩ => ⟨S16x4096x384, .f32⟩
  | .hbm, ⟨29, _⟩ => ⟨S16x4096x384, .f32⟩
  | .hbm, ⟨30, _⟩ => ⟨S16x4096x384, .f32⟩
  | .hbm, ⟨31, _⟩ => ⟨S16x4096x384, .f32⟩
  | .hbm, ⟨32, _⟩ => ⟨S1x1x384, .f32⟩
  | .hbm, ⟨33, _⟩ => ⟨S16x4096x384, .f32⟩
  | .hbm, ⟨34, _⟩ => ⟨S16x4096x384, .f32⟩
  | .hbm, ⟨35, _⟩ => ⟨S16x4096x384, .f32⟩
  | .hbm, ⟨36, _⟩ => ⟨S16x4096x384, .f32⟩
  | .hbm, ⟨37, _⟩ => ⟨S_, .f32⟩
  | .hbm, ⟨38, _⟩ => ⟨S16x4096x384, .f32⟩
  | .hbm, ⟨39, _⟩ => ⟨S16x4096x384, .f32⟩
  | .hbm, ⟨40, _⟩ => ⟨S_, .f32⟩
  | .hbm, ⟨41, _⟩ => ⟨S16x4096x384, .f32⟩
  | .hbm, ⟨42, _⟩ => ⟨S16x4096x384, .f32⟩
  | .hbm, ⟨43, _⟩ => ⟨S16x4096x384, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== InProj.lean ====
abbrev S16x4096x1024 : Shape := ⟨3, ![16, 4096, 1024]⟩
abbrev S1024 : Shape := ⟨1, ![1024]⟩
abbrev S16x1x1024 : Shape := ⟨3, ![16, 1, 1024]⟩
abbrev S1024x1792 : Shape := ⟨2, ![1024, 1792]⟩
abbrev S3x1152 : Shape := ⟨2, ![3, 1152]⟩
abbrev S1152 : Shape := ⟨1, ![1152]⟩
abbrev S256x256 : Shape := ⟨2, ![256, 256]⟩
abbrev S1x1024 : Shape := ⟨2, ![1, 1024]⟩
abbrev S1x1152 : Shape := ⟨2, ![1, 1152]⟩
abbrev S16x2x2048x256 : Shape := ⟨4, ![16, 2, 2048, 256]⟩
abbrev S16x2x2048x384 : Shape := ⟨4, ![16, 2, 2048, 384]⟩
abbrev S16x4096x384 : Shape := ⟨3, ![16, 4096, 384]⟩
abbrev S1x512x1024 : Shape := ⟨3, ![1, 512, 1024]⟩
abbrev S1x1x1024 : Shape := ⟨3, ![1, 1, 1024]⟩
abbrev S1x1x512x256 : Shape := ⟨4, ![1, 1, 512, 256]⟩
abbrev S1x1x512x384 : Shape := ⟨4, ![1, 1, 512, 384]⟩
abbrev S1x512x384 : Shape := ⟨3, ![1, 512, 384]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩
abbrev S512x384 : Shape := ⟨2, ![512, 384]⟩
abbrev S512x1152 : Shape := ⟨2, ![512, 1152]⟩
abbrev S512x256 : Shape := ⟨2, ![512, 256]⟩
abbrev S512x1408 : Shape := ⟨2, ![512, 1408]⟩
abbrev S256x1408 : Shape := ⟨2, ![256, 1408]⟩

abbrev nBuf : Space → Nat
  | .hbm => 16
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x1792, .f32⟩
  | .hbm, ⟨5, _⟩ => ⟨S3x1152, .f32⟩
  | .hbm, ⟨6, _⟩ => ⟨S1152, .f32⟩
  | .hbm, ⟨7, _⟩ => ⟨S256x256, .bf16⟩
  | .hbm, ⟨8, _⟩ => ⟨S1x1024, .f32⟩
  | .hbm, ⟨9, _⟩ => ⟨S1024x1792, .bf16⟩
  | .hbm, ⟨10, _⟩ => ⟨S1x1152, .f32⟩
  | .hbm, ⟨11, _⟩ => ⟨S16x2x2048x256, .f32⟩
  | .hbm, ⟨12, _⟩ => ⟨S16x2x2048x384, .f32⟩
  | .hbm, ⟨13, _⟩ => ⟨S16x2x2048x384, .f32⟩
  | .hbm, ⟨14, _⟩ => ⟨S16x2x2048x384, .f32⟩
  | .hbm, ⟨15, _⟩ => ⟨S16x4096x384, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1792, .bf16⟩
  | .local _ .vmem, ⟨8, _⟩ => ⟨S3x1152, .f32⟩
  | .local _ .vmem, ⟨9, _⟩ => ⟨S1x1152, .f32⟩
  | .local _ .vmem, ⟨10, _⟩ => ⟨S256x256, .bf16⟩
  | .local _ .vmem, ⟨11, _⟩ => ⟨S1x1x512x256, .f32⟩
  | .local _ .vmem, ⟨12, _⟩ => ⟨S1x1x512x256, .f32⟩
  | .local _ .vmem, ⟨13, _⟩ => ⟨S1x1x512x384, .f32⟩
  | .local _ .vmem, ⟨14, _⟩ => ⟨S1x1x512x384, .f32⟩
  | .local _ .vmem, ⟨15, _⟩ => ⟨S1x1x512x384, .f32⟩
  | .local _ .vmem, ⟨16, _⟩ => ⟨S1x1x512x384, .f32⟩
  | .local _ .vmem, ⟨17, _⟩ => ⟨S1x1x512x384, .f32⟩
  | .local _ .vmem, ⟨18, _⟩ => ⟨S1x1x512x384, .f32⟩
  | .local _ .vmem, ⟨19, _⟩ => ⟨S1x512x384, .f32⟩
  | .local _ .vmem, ⟨20, _⟩ => ⟨S1x512x384, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c4_i32 : BitVec 32 := 4#32
  let v99 : BitVec 1 := Scalar.cmpi .slt arg1 c4_i32
  let v100 : BitVec 32 := Scalar.extui v99
  let c0_i32_38 : BitVec 32 := 0#32
  let v101 : BitVec 1 := Scalar.cmpi .ne v100 c0_i32_38
  v101

def k0_cond2 (i : grid0.Coords) : BitVec 1 :=
  let arg1 : BitVec 32 := BitVec.ofNat 32 (i 1).val
  let c4_i32_39 : BitVec 32 := 4#32
  let v102 : BitVec 1 := Scalar.cmpi .sge arg1 c4_i32_39
  let v103 : BitVec 32 := Scalar.extui v102
  let c0_i32_40 : BitVec 32 := 0#32
  let v104 : BitVec 1 := Scalar.cmpi .ne v103 c0_i32_40
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .slt arg1 c4_i32_4
  let c7_i32 : BitVec 32 := 7#32
  let v18 : BitVec 32 := Scalar.subi c7_i32 arg1
  let v19 : BitVec 32 := Scalar.select v17 arg1 v18
  let c0_i32_5 : BitVec 32 := 0#32
  let c0_i32_6 : BitVec 32 := 0#32
  ![arg0.toNat, v16.toNat, v19.toNat, c0_i32_5.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .slt arg1 c4_i32_4
  let c7_i32 : BitVec 32 := 7#32
  let v18 : BitVec 32 := Scalar.subi c7_i32 arg1
  let v19 : BitVec 32 := Scalar.select v17 arg1 v18
  let c0_i32_5 : BitVec 32 := 0#32
  let c0_i32_6 : BitVec 32 := 0#32
  ![arg0.toNat, v16.toNat, v19.toNat, c0_i32_5.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .slt arg1 c4_i32_4
  let c7_i32 : BitVec 32 := 7#32
  let v18 : BitVec 32 := Scalar.subi c7_i32 arg1
  let v19 : BitVec 32 := Scalar.select v17 arg1 v18
  let c0_i32_5 : BitVec 32 := 0#32
  let c0_i32_6 : BitVec 32 := 0#32
  ![arg0.toNat, v16.toNat, v19.toNat, c0_i32_5.toNat]

def cc0_transform_11 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .slt arg1 c4_i32_4
  let c7_i32 : BitVec 32 := 7#32
  let v18 : BitVec 32 := Scalar.subi c7_i32 arg1
  let v19 : BitVec 32 := Scalar.select v17 arg1 v18
  let c0_i32_5 : BitVec 32 := 0#32
  let c0_i32_6 : BitVec 32 := 0#32
  ![arg0.toNat, v16.toNat, v19.toNat, c0_i32_5.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InProjReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x1792 : Shape := ⟨2, ![1024, 1792]⟩
abbrev S3x1152 : Shape := ⟨2, ![3, 1152]⟩
abbrev S1152 : Shape := ⟨1, ![1152]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1792 : Shape := ⟨3, ![16, 4096, 1792]⟩
abbrev S16x4096x256 : Shape := ⟨3, ![16, 4096, 256]⟩
abbrev S16x4096x1152 : Shape := ⟨3, ![16, 4096, 1152]⟩
abbrev S16x4096x384 : Shape := ⟨3, ![16, 4096, 384]⟩
abbrev S16x64x64x1152 : Shape := ⟨4, ![16, 64, 64, 1152]⟩
abbrev S16x64x66x1152 : Shape := ⟨4, ![16, 64, 66, 1152]⟩
abbrev S1x1152 : Shape := ⟨2, ![1, 1152]⟩
abbrev S1x1x1x1152 : Shape := ⟨4, ![1, 1, 1, 1152]⟩
abbrev S16x2048x256 : Shape := ⟨3, ![16, 2048, 256]⟩
abbrev S16x1x2048x256 : Shape := ⟨4, ![16, 1, 2048, 256]⟩
abbrev S16x2x2048x256 : Shape := ⟨4, ![16, 2, 2048, 256]⟩
abbrev S16x2048x384 : Shape := ⟨3, ![16, 2048, 384]⟩
abbrev S16x1x2048x384 : Shape := ⟨4, ![16, 1, 2048, 384]⟩
abbrev S16x2x2048x384 : Shape := ⟨4, ![16, 2, 2048, 384]⟩

abbrev nBuf : Space → Nat
  | .hbm => 89
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x1792, .f32⟩
  | .hbm, ⟨5, _⟩ => ⟨S3x1152, .f32⟩
  | .hbm, ⟨6, _⟩ => ⟨S1152, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1792, .f32⟩
  | .hbm, ⟨31, _⟩ => ⟨S16x4096x256, .f32⟩
  | .hbm, ⟨32, _⟩ => ⟨S16x4096x1152, .f32⟩
  | .hbm, ⟨33, _⟩ => ⟨S16x4096x384, .f32⟩
  | .hbm, ⟨34, _⟩ => ⟨S16x64x64x1152, .f32⟩
  | .hbm, ⟨35, _⟩ => ⟨S_, .i32⟩
  | .hbm, ⟨36, _⟩ => ⟨S_, .f32⟩
  | .hbm, ⟨37, _⟩ => ⟨S16x64x66x1152, .f32⟩
  | .hbm, ⟨38, _⟩ => ⟨S16x64x64x1152, .f32⟩
  | .hbm, ⟨39, _⟩ => ⟨S1x1152, .f32⟩
  | .hbm, ⟨40, _⟩ => ⟨S1152, .f32⟩
  | .hbm, ⟨41, _⟩ => ⟨S1x1x1x1152, .f32⟩
  | .hbm, ⟨42, _⟩ => ⟨S16x64x64x1152, .f32⟩
  | .hbm, ⟨43, _⟩ => ⟨S16x64x64x1152, .f32⟩
  | .hbm, ⟨44, _⟩ => ⟨S16x64x64x1152, .f32⟩
  | .hbm, ⟨45, _⟩ => ⟨S1x1152, .f32⟩
  | .hbm, ⟨46, _⟩ => ⟨S1152, .f32⟩
  | .hbm, ⟨47, _⟩ => ⟨S1x1x1x1152, .f32⟩
  | .hbm, ⟨48, _⟩ => ⟨S16x64x64x1152, .f32⟩
  | .hbm, ⟨49, _⟩ => ⟨S16x64x64x1152, .f32⟩
  | .hbm, ⟨50, _⟩ => ⟨S16x64x64x1152, .f32⟩
  | .hbm, ⟨51, _⟩ => ⟨S16x64x64x1152, .f32⟩
  | .hbm, ⟨52, _⟩ => ⟨S1x1152, .f32⟩
  | .hbm, ⟨53, _⟩ => ⟨S1152, .f32⟩
  | .hbm, ⟨54, _⟩ => ⟨S1x1x1x1152, .f32⟩
  | .hbm, ⟨55, _⟩ => ⟨S16x64x64x1152, .f32⟩
  | .hbm, ⟨56, _⟩ => ⟨S16x64x64x1152, .f32⟩
  | .hbm, ⟨57, _⟩ => ⟨S16x64x64x1152, .f32⟩
  | .hbm, ⟨58, _⟩ => ⟨S1x1x1x1152, .f32⟩
  | .hbm, ⟨59, _⟩ => ⟨S16x64x64x1152, .f32⟩
  | .hbm, ⟨60, _⟩ => ⟨S16x64x64x1152, .f32⟩
  | .hbm, ⟨61, _⟩ => ⟨S16x4096x1152, .f32⟩
  | .hbm, ⟨62, _⟩ => ⟨S16x4096x384, .f32⟩
  | .hbm, ⟨63, _⟩ => ⟨S16x4096x384, .f32⟩
  | .hbm, ⟨64, _⟩ => ⟨S16x4096x384, .f32⟩
  | .hbm, ⟨65, _⟩ => ⟨S16x2048x256, .f32⟩
  | .hbm, ⟨66, _⟩ => ⟨S16x2048x256, .f32⟩
  | .hbm, ⟨67, _⟩ => ⟨S16x2048x256, .f32⟩
  | .hbm, ⟨68, _⟩ => ⟨S16x1x2048x256, .f32⟩
  | .hbm, ⟨69, _⟩ => ⟨S16x1x2048x256, .f32⟩
  | .hbm, ⟨70, _⟩ => ⟨S16x2x2048x256, .f32⟩
  | .hbm, ⟨71, _⟩ => ⟨S16x2048x384, .f32⟩
  | .hbm, ⟨72, _⟩ => ⟨S16x2048x384, .f32⟩
  | .hbm, ⟨73, _⟩ => ⟨S16x2048x384, .f32⟩
  | .hbm, ⟨74, _⟩ => ⟨S16x1x2048x384, .f32⟩
  | .hbm, ⟨75, _⟩ => ⟨S16x1x2048x384, .f32⟩
  | .hbm, ⟨76, _⟩ => ⟨S16x2x2048x384, .f32⟩
  | .hbm, ⟨77, _⟩ => ⟨S16x2048x384, .f32⟩
  | .hbm, ⟨78, _⟩ => ⟨S16x2048x384, .f32⟩
  | .hbm, ⟨79, _⟩ => ⟨S16x2048x384, .f32⟩
  | .hbm, ⟨80, _⟩ => ⟨S16x1x2048x384, .f32⟩
  | .hbm, ⟨81, _⟩ => ⟨S16x1x2048x384, .f32⟩
  | .hbm, ⟨82, _⟩ => ⟨S16x2x2048x384, .f32⟩
  | .hbm, ⟨83, _⟩ => ⟨S16x2048x384, .f32⟩
  | .hbm, ⟨84, _⟩ => ⟨S16x2048x384, .f32⟩
  | .hbm, ⟨85, _⟩ => ⟨S16x2048x384, .f32⟩
  | .hbm, ⟨86, _⟩ => ⟨S16x1x2048x384, .f32⟩
  | .hbm, ⟨87, _⟩ => ⟨S16x1x2048x384, .f32⟩
  | .hbm, ⟨88, _⟩ => ⟨S16x2x2048x384, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩

abbrev nD : Nat := 1
abbrev τ : Topo := Topo.v7x

variable {F : FTy → Type} [FloatOps F]
-- ==== Proof.Body.lean ====
/- The body of the grouped expert products at one grid point, run once per control case, for any float values. -/
module

public import proofs.«01_k».proof.Proof.Gen.KernelIdeal.Skeleton
public import proofs.«01_k».proof.Proof.Gen.KernelIdeal.Launch
public import Idealize.ShloMosaic.Lib.Pipeline.TableIdle
public import Idealize.ShloMosaic.Lib.Pipeline.FrameBody
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of experts in scalar memory, and the two scratch buffers. -/
abbrev tbM : Memref sig .tc .smem S137 .i32 := Memref.whole main_arg1
abbrev scX : Memref sig .tc .vmem S1024x1024 .bf16 := Memref.whole cc0_scratch0
abbrev scA : Memref sig .tc .vmem S1024x1024 .f32 := Memref.whole cc0_scratch1

/-- The number of live tiles, as the body reads it: the table's last word. -/
abbrev liveW (T : S137.Idx → Elt F .i32) : BitVec 32 :=
  View.readAt (Elt F) (tbM).view (Rect.unit (s := S137) ![136] S1.size inb_S137_S1_136).toLoadRect T (Shape.Idx.first (numel1_S1.symm ▸ Nat.one_pos))

/-- The four conditions of the body: a live tile's first step, a live tile, a live tile's last step, a dead tile's last step. -/
abbrev c1 (i : grid0.Coords) (v : BitVec 32) : BitVec 1 :=
  Scalar.cmpi .ne (Scalar.extui (Scalar.andi (Scalar.cmpi .slt (BitVec.ofNat 32 (i 0).val) v) (Scalar.cmpi .eq (BitVec.ofNat 32 (i 1).val) 0#32)) : BitVec 32) 0#32
abbrev c2 (i : grid0.Coords) (v : BitVec 32) : BitVec 1 :=
  Scalar.cmpi .ne (Scalar.extui (Scalar.cmpi .slt (BitVec.ofNat 32 (i 0).val) v) : BitVec 32) 0#32

/-- The eight strided rectangles of a block: rows `s, s + 8, …` for each `s`. -/
abbrev sr0 : Rect S8192x128 := (⟨⟨![0, 0], S1024x128.size, ![8, 1], inb_S8192x128_S1024x128_0_0_s_8_1⟩, spos_8_1⟩ : Rect S8192x128)
abbrev sr1 : Rect S8192x128 := (⟨⟨![1, 0], S1024x128.size, ![8, 1], inb_S8192x128_S1024x128_1_0_s_8_1⟩, spos_8_1⟩ : Rect S8192x128)
abbrev sr2 : Rect S8192x128 := (⟨⟨![2, 0], S1024x128.size, ![8, 1], inb_S8192x128_S1024x128_2_0_s_8_1⟩, spos_8_1⟩ : Rect S8192x128)
abbrev sr3 : Rect S8192x128 := (⟨⟨![3, 0], S1024x128.size, ![8, 1], inb_S8192x128_S1024x128_3_0_s_8_1⟩, spos_8_1⟩ : Rect S8192x128)
abbrev sr4 : Rect S8192x128 := (⟨⟨![4, 0], S1024x128.size, ![8, 1], inb_S8192x128_S1024x128_4_0_s_8_1⟩, spos_8_1⟩ : Rect S8192x128)
abbrev sr5 : Rect S8192x128 := (⟨⟨![5, 0], S1024x128.size, ![8, 1], inb_S8192x128_S1024x128_5_0_s_8_1⟩, spos_8_1⟩ : Rect S8192x128)
abbrev sr6 : Rect S8192x128 := (⟨⟨![6, 0], S1024x128.size, ![8, 1], inb_S8192x128_S1024x128_6_0_s_8_1⟩, spos_8_1⟩ : Rect S8192x128)
abbrev sr7 : Rect S8192x128 := (⟨⟨![7, 0], S1024x128.size, ![8, 1], inb_S8192x128_S1024x128_7_0_s_8_1⟩, spos_8_1⟩ : Rect S8192x128)

/-- What a live tile's first step stages: the block's eight strided pieces side by side, cast. -/
def packX (x : S8192x128.Idx → Elt F .f32) : S1024x1024.Idx → Elt F .bf16 :=
  k0_pay1 (View.ld x sr0) (View.ld x sr1) (View.ld x sr2) (View.ld x sr3) (View.ld x sr4) (View.ld x sr5) (View.ld x sr6) (View.ld x sr7)

/-- The block a live tile's last step writes: row `8 r + s`, lane `j` holds the accumulator's row `r`, column `128 s + j`. -/
def slabs (a : S1024x1024.Idx → Elt F .f32) : S8192x128.Idx → Elt F .f32 := fun y =>
  a (Fin.cons ⟨(y 0).val / 8, by have := (y 0).isLt; change (y 0).val < 8192 at this; show _ < 1024; omega⟩
    (Fin.cons ⟨128 * ((y 0).val % 8) + (y 1).val, by have := (y 1).isLt; change (y 1).val < 128 at this; show _ < 1024; omega⟩ finZeroElim))

/-- The eight strided stores of an accumulator, last first. -/
abbrev slabPieces (a : S1024x1024.Idx → Elt F .f32) : List (View.Piece (Elt F) S8192x128 .f32) :=
  [⟨sr7, k0_pay11 a⟩, ⟨sr6, k0_pay10 a⟩, ⟨sr5, k0_pay9 a⟩, ⟨sr4, k0_pay8 a⟩, ⟨sr3, k0_pay7 a⟩, ⟨sr2, k0_pay6 a⟩, ⟨sr1, k0_pay5 a⟩, ⟨sr0, k0_pay4 a⟩]

/-- A strided rectangle's index, by its two coordinates. -/
theorem sr_val (k : ℕ) (inb) (sp) (x : (Rect.mk (s := S8192x128) ⟨![k, 0], S1024x128.size, ![8, 1], inb⟩ sp).shape.Idx) :
    (((Rect.mk (s := S8192x128) ⟨![k, 0], S1024x128.size, ![8, 1], inb⟩ sp).emb x) 0).val = k + 8 * (x 0).val
      ∧ (((Rect.mk (s := S8192x128) ⟨![k, 0], S1024x128.size, ![8, 1], inb⟩ sp).emb x) 1).val = (x 1).val :=
  ⟨by rfl, by show 0 + 1 * (x 1).val = _; omega⟩

/-- A strided slice of the accumulator is `slabs` at its rectangle's indices. -/
theorem slab_piece (a : S1024x1024.Idx → Elt F .f32) (k o : ℕ) (hk : k < 8) (ho : o = 128 * k) (hs) (inb) (sp) (x : (Rect.mk (s := S8192x128) ⟨![k, 0], S1024x128.size, ![8, 1], inb⟩ sp).shape.Idx) :
    extractStridedSlice S1024x128 ![0, o] a hs x = slabs a ((Rect.mk (s := S8192x128) ⟨![k, 0], S1024x128.size, ![8, 1], inb⟩ sp).emb x) := by
  obtain ⟨e0, e1⟩ := sr_val k inb sp x
  unfold slabs extractStridedSlice
  refine congrArg a (funext fun d => ?_)
  have hx1 : (x 1).val < 128 := (x 1).isLt
  match d with
  | ⟨0, _⟩ => exact Fin.ext (by show 0 + (x 0).val = (((Rect.mk (s := S8192x128) ⟨![k, 0], S1024x128.size, ![8, 1], inb⟩ sp).emb x) 0).val / 8; rw [e0]; omega)
  | ⟨1, _⟩ => exact Fin.ext (by show o + (x 1).val = 128 * ((((Rect.mk (s := S8192x128) ⟨![k, 0], S1024x128.size, ![8, 1], inb⟩ sp).emb x) 0).val % 8) + (((Rect.mk (s := S8192x128) ⟨![k, 0], S1024x128.size, ![8, 1], inb⟩ sp).emb x) 1).val; rw [e0, e1]; omega)

/-- The stores hold `slabs` at their own indices, -/
theorem slabPieces_val (a : S1024x1024.Idx → Elt F .f32) : ∀ p ∈ slabPieces a, ∀ x, p.2 x = slabs a (p.1.emb x) := by
  intro p hp
  simp only [List.mem_cons, List.mem_nil_iff, or_false] at hp
  rcases hp with rfl | rfl | rfl | rfl | rfl | rfl | rfl | rfl <;> intro x
  · exact slab_piece a 7 896 (by omega) (by omega) slices_S1024x1024_o0_896_S1024x128 _ _ x
  · exact slab_piece a 6 768 (by omega) (by omega) slices_S1024x1024_o0_768_S1024x128 _ _ x
  · exact slab_piece a 5 640 (by omega) (by omega) slices_S1024x1024_o0_640_S1024x128 _ _ x
  · exact slab_piece a 4 512 (by omega) (by omega) slices_S1024x1024_o0_512_S1024x128 _ _ x
  · exact slab_piece a 3 384 (by omega) (by omega) slices_S1024x1024_o0_384_S1024x128 _ _ x
  · exact slab_piece a 2 256 (by omega) (by omega) slices_S1024x1024_o0_256_S1024x128 _ _ x
  · exact slab_piece a 1 128 (by omega) (by omega) slices_S1024x1024_o0_128_S1024x128 _ _ x
  · exact slab_piece a 0 0 (by omega) (by omega) slices_S1024x1024_o0_0_S1024x128 _ _ x

/-- an index lies in the strided rectangle of its row's residue, -/
theorem mem_sr (k : ℕ) (inb) (sp) (y : S8192x128.Idx) (h : (y 0).val % 8 = k) : y ∈ (Rect.mk (s := S8192x128) ⟨![k, 0], S1024x128.size, ![8, 1], inb⟩ sp).set := by
  rw [LoadRect.mem_set]
  have h0 : (y 0).val < 8192 := (y 0).isLt
  have h1 : (y 1).val < 128 := (y 1).isLt
  intro d
  match d with
  | ⟨0, _⟩ => exact ⟨(y 0).val / 8, by show _ < 1024; omega, by show (y 0).val = k + 8 * ((y 0).val / 8); omega⟩
  | ⟨1, _⟩ => exact ⟨(y 1).val, h1, by show (y 1).val = 0 + 1 * (y 1).val; omega⟩

/-- and the eight stores cover the block. -/
theorem slabPieces_cover (a : S1024x1024.Idx → Elt F .f32) (y : S8192x128.Idx) : ∃ p ∈ slabPieces a, y ∈ p.1.set := by
  have h : (y 0).val % 8 < 8 := Nat.mod_lt _ (by omega)
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with hk | hk | hk | hk | hk | hk | hk | hk
  · exact ⟨⟨sr0, k0_pay4 a⟩, by simp [slabPieces], mem_sr 0 _ _ y hk⟩
  · exact ⟨⟨sr1, k0_pay5 a⟩, by simp [slabPieces], mem_sr 1 _ _ y hk⟩
  · exact ⟨⟨sr2, k0_pay6 a⟩, by simp [slabPieces], mem_sr 2 _ _ y hk⟩
  · exact ⟨⟨sr3, k0_pay7 a⟩, by simp [slabPieces], mem_sr 3 _ _ y hk⟩
  · exact ⟨⟨sr4, k0_pay8 a⟩, by simp [slabPieces], mem_sr 4 _ _ y hk⟩
  · exact ⟨⟨sr5, k0_pay9 a⟩, by simp [slabPieces], mem_sr 5 _ _ y hk⟩
  · exact ⟨⟨sr6, k0_pay10 a⟩, by simp [slabPieces], mem_sr 6 _ _ y hk⟩
  · exact ⟨⟨sr7, k0_pay11 a⟩, by simp [slabPieces], mem_sr 7 _ _ y hk⟩

/-- What the eight stores leave, whatever was there. -/
theorem read_slabs {sp : Space} (v : View sig .tc sp S8192x128 .f32) (f : v.ty.Contents (Elt F)) (a : S1024x1024.Idx → Elt F .f32) :
    v.read (Elt F) (v.writes (Elt F) f (slabPieces a)) = slabs a := by
  rw [View.read_writes_eq_canon v f _ (slabPieces_cover a)]
  funext y
  exact View.canon_apply_of_pieces (slabs a) _ (slabPieces_val a) y (slabPieces_cover a y)

/-- One control case of the body: from the inputs at `x0 … x3`, the table, the output's buffer at `y` and the scratches at
    `xn` and `acc`, the body runs and leaves the output at `y'` and the scratches at `xn'` and `acc'`. -/
def BodyRun (c : Dev nD) (i : grid0.Coords) (arg3 : Memref sig .tc .vmem S8192x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S8192x128 .f32) (harg7 : arg7.IsWhole)
    (T : S137.Idx → Elt F .i32) (x0 : S8192x128.Idx → Elt F .f32) (x1 x2 : S1x1024x512.Idx → Elt F .bf16) (x3 : S1x512x1024.Idx → Elt F .bf16)
    (xn : S1024x1024.Idx → Elt F .bf16) (acc : S1024x1024.Idx → Elt F .f32) (y : S8192x128.Idx → Elt F .f32)
    (xn' : S1024x1024.Idx → Elt F .bf16) (acc' : S1024x1024.Idx → Elt F .f32) (y' : S8192x128.Idx → Elt F .f32) : Prop :=
  ∀ (q : PosShare TreeShare) (K : PUnit → sProp 𝕄),
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM.view.loc (c : Thread nD τ) ↦{q} T)
          ∗ owns (c : Thread nD τ) arg7 fullShare y
          ∗ owns (c : Thread nD τ) scX fullShare xn
          ∗ owns (c : Thread nD τ) scA fullShare acc
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM.view.loc (c : Thread nD τ) ↦{q} T)
              ∗ owns (c : Thread nD τ) arg7 fullShare y'
              ∗ owns (c : Thread nD τ) scX fullShare xn'
              ∗ owns (c : Thread nD τ) scA fullShare acc') -∗ K ⟨⟩))
      ⊢ wp frame (wpE (defs₀ (F := F)) Variants.none c none) Set.univ (cc0_moe_group_ffn i tbM (Memref.isWhole_whole _) arg3 harg3 arg4 harg4 arg5 harg5 arg6 harg6 arg7 harg7 scX (Memref.isWhole_whole _) scA (Memref.isWhole_whole _)) K

section Cases

variable (c : Dev nD) (i : grid0.Coords) (arg3 : Memref sig .tc .vmem S8192x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S8192x128 .f32) (harg7 : arg7.IsWhole)
    (T : S137.Idx → Elt F .i32) (x0 : S8192x128.Idx → Elt F .f32) (x1 x2 : S1x1024x512.Idx → Elt F .bf16) (x3 : S1x512x1024.Idx → Elt F .bf16)
    (xn : S1024x1024.Idx → Elt F .bf16) (acc : S1024x1024.Idx → Elt F .f32) (y : S8192x128.Idx → Elt F .f32)

set_option maxHeartbeats 8000000 in
/-- A live tile's first step stages the rows and starts the sum. -/
theorem run_A (h1 : c1 i (liveW T) = 1#1) (h2 : c2 i (liveW T) = 1#1) (h3 : ¬ k0_cond3 i (liveW T) = 1#1) (h4 : ¬ k0_cond4 i (liveW T) = 1#1) :
    BodyRun c i arg3 harg3 arg4 harg4 arg5 harg5 arg6 harg6 arg7 harg7 T x0 x1 x2 x3 xn acc y (packX x0) (k0_pay3 (packX x0) x1 x2 k0_pay2 x3) y := by
  intro q K
  unfold owns
  rw [cc0_moe_group_ffn_eq_skeleton]; unfold cc0_moe_group_ffn_skel
  have hS0 : scX.IsWhole := Memref.isWhole_whole _
  have hS1 : scA.IsWhole := Memref.isWhole_whole _
  have hT0 : tbM.IsWhole := Memref.isWhole_whole _
  iintro ⟨H0, H1, H2, H3, HT0, ⟨%f4, %hf4, HO4⟩, ⟨%f5, %hf5, HS0⟩, ⟨%f6, %hf6, HS1⟩, Hk⟩
  obtain rfl := harg7.eq_unread hf4
  obtain rfl := hS0.eq_unread hf5
  obtain rfl := hS1.eq_unread hf6
  sl_exec! (disch := first | exact h1 | exact h2 | exact h3 | exact h4)
  sl_step
  iapply Hk
  isplitl [H0]; · iexact H0
  isplitl [H1]; · iexact H1
  isplitl [H2]; · iexact H2
  isplitl [H3]; · iexact H3
  isplitl [HT0]; · iexact HT0
  isplitl [HO4]
  · iexists _; isplitr; swap; · iexact HO4
    ipureintro; exact harg7.read_unread _
  isplitl [HS0]
  · iexists _; isplitr; swap; · iexact HS0
    ipureintro; unfold run_A.sl.HS0_1; refine (View.read_writes_full _ _ _ _ _).trans ?_; simp only [View.readAt_rep]; rfl
  iexists _; isplitr; swap; · iexact HS1
  ipureintro; unfold run_A.sl.HS1_2; refine (View.read_writes_full _ _ _ _ _).trans ?_; unfold run_A.sl.v16 run_A.sl.v23 run_A.sl.HS0_1 run_A.sl.HS1_1; rw [View.readCov_full, View.readCov_full, View.readAt_rep_full, View.readAt_rep_full, View.readAt_rep_full]; simp only [View.readAt_rep]; rfl

set_option maxHeartbeats 8000000 in
/-- A live tile's middle step adds one block of hidden columns. -/
theorem run_B (h1 : ¬ c1 i (liveW T) = 1#1) (h2 : c2 i (liveW T) = 1#1) (h3 : ¬ k0_cond3 i (liveW T) = 1#1) (h4 : ¬ k0_cond4 i (liveW T) = 1#1) :
    BodyRun c i arg3 harg3 arg4 harg4 arg5 harg5 arg6 harg6 arg7 harg7 T x0 x1 x2 x3 xn acc y xn (k0_pay3 xn x1 x2 acc x3) y := by
  intro q K
  unfold owns
  rw [cc0_moe_group_ffn_eq_skeleton]; unfold cc0_moe_group_ffn_skel
  have hS0 : scX.IsWhole := Memref.isWhole_whole _
  have hS1 : scA.IsWhole := Memref.isWhole_whole _
  have hT0 : tbM.IsWhole := Memref.isWhole_whole _
  iintro ⟨H0, H1, H2, H3, HT0, ⟨%f4, %hf4, HO4⟩, ⟨%f5, %hf5, HS0⟩, ⟨%f6, %hf6, HS1⟩, Hk⟩
  obtain rfl := harg7.eq_unread hf4
  obtain rfl := hS0.eq_unread hf5
  obtain rfl := hS1.eq_unread hf6
  sl_exec! (disch := first | exact h1 | exact h2 | exact h3 | exact h4)
  sl_step
  iapply Hk
  isplitl [H0]; · iexact H0
  isplitl [H1]; · iexact H1
  isplitl [H2]; · iexact H2
  isplitl [H3]; · iexact H3
  isplitl [HT0]; · iexact HT0
  isplitl [HO4]
  · iexists _; isplitr; swap; · iexact HO4
    ipureintro; exact harg7.read_unread _
  isplitl [HS0]
  · iexists _; isplitr; swap; · iexact HS0
    ipureintro; exact hS0.read_unread _
  iexists _; isplitr; swap; · iexact HS1
  ipureintro; unfold run_B.sl.HS1_1; refine (View.read_writes_full _ _ _ _ _).trans ?_; rw [View.readAt_full scX.view, View.readAt_full scA.view, hS0.read_unread, hS1.read_unread, View.readAt_rep_full, View.readAt_rep_full, View.readAt_rep_full]

set_option maxHeartbeats 8000000 in
/-- A live tile's last step adds its block and writes the sum out. -/
theorem run_C (h1 : ¬ c1 i (liveW T) = 1#1) (h2 : c2 i (liveW T) = 1#1) (h3 : k0_cond3 i (liveW T) = 1#1) (h4 : ¬ k0_cond4 i (liveW T) = 1#1) :
    BodyRun c i arg3 harg3 arg4 harg4 arg5 harg5 arg6 harg6 arg7 harg7 T x0 x1 x2 x3 xn acc y xn (k0_pay3 xn x1 x2 acc x3) (slabs (k0_pay3 xn x1 x2 acc x3)) := by
  intro q K
  unfold owns
  rw [cc0_moe_group_ffn_eq_skeleton]; unfold cc0_moe_group_ffn_skel
  have hS0 : scX.IsWhole := Memref.isWhole_whole _
  have hS1 : scA.IsWhole := Memref.isWhole_whole _
  have hT0 : tbM.IsWhole := Memref.isWhole_whole _
  iintro ⟨H0, H1, H2, H3, HT0, ⟨%f4, %hf4, HO4⟩, ⟨%f5, %hf5, HS0⟩, ⟨%f6, %hf6, HS1⟩, Hk⟩
  obtain rfl := harg7.eq_unread hf4
  obtain rfl := hS0.eq_unread hf5
  obtain rfl := hS1.eq_unread hf6
  sl_exec! (disch := first | exact h1 | exact h2 | exact h3 | exact h4)
  sl_step
  iapply Hk
  isplitl [H0]; · iexact H0
  isplitl [H1]; · iexact H1
  isplitl [H2]; · iexact H2
  isplitl [H3]; · iexact H3
  isplitl [HT0]; · iexact HT0
  isplitl [HO4]
  · iexists _; isplitr; swap; · iexact HO4
    ipureintro; unfold run_C.sl.v16 run_C.sl.HS1_1; rw [View.readCov_full]; rw [View.readAt_full scX.view, View.readAt_full scA.view, hS0.read_unread, hS1.read_unread, View.readAt_rep_full, View.readAt_rep_full, View.readAt_rep_full]; exact read_slabs _ _ _
  isplitl [HS0]
  · iexists _; isplitr; swap; · iexact HS0
    ipureintro; exact hS0.read_unread _
  iexists _; isplitr; swap; · iexact HS1
  ipureintro; unfold run_C.sl.HS1_1; refine (View.read_writes_full _ _ _ _ _).trans ?_; rw [View.readAt_full scX.view, View.readAt_full scA.view, hS0.read_unread, hS1.read_unread, View.readAt_rep_full, View.readAt_rep_full, View.readAt_rep_full]

set_option maxHeartbeats 8000000 in
/-- A dead tile's earlier steps do nothing. -/
theorem run_D (h1 : ¬ c1 i (liveW T) = 1#1) (h2 : ¬ c2 i (liveW T) = 1#1) (h3 : ¬ k0_cond3 i (liveW T) = 1#1) (h4 : ¬ k0_cond4 i (liveW T) = 1#1) :
    BodyRun c i arg3 harg3 arg4 harg4 arg5 harg5 arg6 harg6 arg7 harg7 T x0 x1 x2 x3 xn acc y xn acc y := by
  intro q K
  unfold owns
  rw [cc0_moe_group_ffn_eq_skeleton]; unfold cc0_moe_group_ffn_skel
  have hS0 : scX.IsWhole := Memref.isWhole_whole _
  have hS1 : scA.IsWhole := Memref.isWhole_whole _
  have hT0 : tbM.IsWhole := Memref.isWhole_whole _
  iintro ⟨H0, H1, H2, H3, HT0, ⟨%f4, %hf4, HO4⟩, ⟨%f5, %hf5, HS0⟩, ⟨%f6, %hf6, HS1⟩, Hk⟩
  obtain rfl := harg7.eq_unread hf4
  obtain rfl := hS0.eq_unread hf5
  obtain rfl := hS1.eq_unread hf6
  sl_exec! (disch := first | exact h1 | exact h2 | exact h3 | exact h4)
  sl_step
  iapply Hk
  isplitl [H0]; · iexact H0
  isplitl [H1]; · iexact H1
  isplitl [H2]; · iexact H2
  isplitl [H3]; · iexact H3
  isplitl [HT0]; · iexact HT0
  isplitl [HO4]
  · iexists _; isplitr; swap; · iexact HO4
    ipureintro; exact harg7.read_unread _
  isplitl [HS0]
  · iexists _; isplitr; swap; · iexact HS0
    ipureintro; exact hS0.read_unread _
  iexists _; isplitr; swap; · iexact HS1
  ipureintro; exact hS1.read_unread _

set_option maxHeartbeats 8000000 in
/-- A dead tile's last step writes zeros. -/
theorem run_E (h1 : ¬ c1 i (liveW T) = 1#1) (h2 : ¬ c2 i (liveW T) = 1#1) (h3 : ¬ k0_cond3 i (liveW T) = 1#1) (h4 : k0_cond4 i (liveW T) = 1#1) :
    BodyRun c i arg3 harg3 arg4 harg4 arg5 harg5 arg6 harg6 arg7 harg7 T x0 x1 x2 x3 xn acc y xn acc k0_pay12 := by
  intro q K
  unfold owns
  rw [cc0_moe_group_ffn_eq_skeleton]; unfold cc0_moe_group_ffn_skel
  have hS0 : scX.IsWhole := Memref.isWhole_whole _
  have hS1 : scA.IsWhole := Memref.isWhole_whole _
  have hT0 : tbM.IsWhole := Memref.isWhole_whole _
  iintro ⟨H0, H1, H2, H3, HT0, ⟨%f4, %hf4, HO4⟩, ⟨%f5, %hf5, HS0⟩, ⟨%f6, %hf6, HS1⟩, Hk⟩
  obtain rfl := harg7.eq_unread hf4
  obtain rfl := hS0.eq_unread hf5
  obtain rfl := hS1.eq_unread hf6
  sl_exec! (disch := first | exact h1 | exact h2 | exact h3 | exact h4)
  sl_step
  iapply Hk
  isplitl [H0]; · iexact H0
  isplitl [H1]; · iexact H1
  isplitl [H2]; · iexact H2
  isplitl [H3]; · iexact H3
  isplitl [HT0]; · iexact HT0
  isplitl [HO4]
  · iexists _; isplitr; swap; · iexact HO4
    ipureintro; unfold run_E.sl.HO4_1; exact View.read_writes_full _ _ _ _ _
  isplitl [HS0]
  · iexists _; isplitr; swap; · iexact HS0
    ipureintro; exact hS0.read_unread _
  iexists _; isplitr; swap; · iexact HS1
  ipureintro; exact hS1.read_unread _

end Cases

end Cert.KernelIdeal.Hand

end
-- ==== Proof.Frame.lean ====
/- The run of the grouped expert products for any float values: the pipeline's proof data at the launch's table, the
   body obligation at every point, and the launch. -/
module

public import proofs.«01_k».proof.Proof.Body

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra is the pipeline library's own. -/
abbrev EP : Emb (UR sig nD τ) 𝕄 := emb₁

/-! ## The grid's points and the body's conditions there -/

/-- Point `t`'s coordinates: the tile and the step within it. -/
theorem coords_facts : ∀ t : Fin grid0.N, (grid0.coords t 0).val = t.val / 7 ∧ (grid0.coords t 1).val = t.val % 7 := by
  decide +kernel

/-- The output's block is written back only at a tile's last step. -/
theorem flush_facts : ∀ t : Fin grid0.N, t.val % 7 ≠ 6 → Pipeline.Window.flushOf grid0 true cc0_transform_4 t = false := by
  decide +kernel

/-- Tile `k` is live: it lies below the table's last word. -/
abbrev live (T : S137.Idx → Elt F .i32) (k : ℕ) : Prop := Scalar.cmpi .slt (BitVec.ofNat 32 k) (liveW T) = 1#1

theorem bit_cases (b : BitVec 1) : b = 0#1 ∨ b = 1#1 := by revert b; decide

theorem conds_aux : ∀ (b : BitVec 1) (k : Fin 7),
    ((Scalar.cmpi .ne (Scalar.extui (Scalar.andi b (Scalar.cmpi .eq (BitVec.ofNat 32 k.val) 0#32)) : BitVec 32) 0#32 = 1#1) ↔ (b = 1#1 ∧ k.val = 0))
    ∧ ((Scalar.cmpi .ne (Scalar.extui b : BitVec 32) 0#32 = 1#1) ↔ b = 1#1)
    ∧ ((Scalar.cmpi .ne (Scalar.extui (Scalar.andi b (Scalar.cmpi .eq (BitVec.ofNat 32 k.val) 6#32)) : BitVec 32) 0#32 = 1#1) ↔ (b = 1#1 ∧ k.val = 6))
    ∧ ((Scalar.cmpi .ne (Scalar.extui (Scalar.andi (Scalar.xori b 1#1) (Scalar.cmpi .eq (BitVec.ofNat 32 k.val) 6#32)) : BitVec 32) 0#32 = 1#1) ↔ (¬ b = 1#1 ∧ k.val = 6)) := by
  decide +kernel

/-- The four conditions at a point, in terms of the tile and the step. -/
theorem conds (T : S137.Idx → Elt F .i32) (t : Fin grid0.N) :
    (c1 (grid0.coords t) (liveW T) = 1#1 ↔ (live T (t.val / 7) ∧ t.val % 7 = 0))
    ∧ (c2 (grid0.coords t) (liveW T) = 1#1 ↔ live T (t.val / 7))
    ∧ (k0_cond3 (grid0.coords t) (liveW T) = 1#1 ↔ (live T (t.val / 7) ∧ t.val % 7 = 6))
    ∧ (k0_cond4 (grid0.coords t) (liveW T) = 1#1 ↔ (¬ live T (t.val / 7) ∧ t.val % 7 = 6)) := by
  have h := conds_aux (Scalar.cmpi .slt (BitVec.ofNat 32 (t.val / 7)) (liveW T)) ⟨t.val % 7, Nat.mod_lt _ (by decide)⟩
  have h0 := (coords_facts t).1
  have h1 := (coords_facts t).2
  unfold c1 c2 k0_cond3 k0_cond4
  simp only [h0, h1]
  exact h

variable (a : (pcfg0 (F := F)).Adm)
variable (m : (ℓ : Loc nD τ sig) → Buf (Elt F) ℓ) (ρ : Dev nD → PrngReg)

/-- The table's contents. -/
abbrev tab : S137.Idx → Elt F .i32 := a.1 0

/-- The word the pipeline's idle table reads is the one the body loads. -/
theorem liveW_atD : (a.1.atD 0 ![136] : BitVec 32) = liveW (tab a) := by
  unfold Pipeline.Prefetch.Contents.atD
  have h : ∀ x : Fin 1, ![136] x + 1 ≤ S137.size x := by decide
  exact (dif_pos h).trans rfl

theorem idle_iff (t : Fin grid0.N) : (cfg0 a).idle (4 : Fin 5) (grid0.coords t) = decide (t.val % 7 ≠ 6) := by
  show (!(k0_cond3 (grid0.coords t) (a.1.atD 0 ![136]) == 1#1) && !(k0_cond4 (grid0.coords t) (a.1.atD 0 ![136]) == 1#1)) = _
  rw [liveW_atD]
  obtain ⟨-, -, h3, h4⟩ := conds (tab a) t
  by_cases h6 : t.val % 7 = 6
  · rw [decide_eq_false (by simpa using h6)]
    by_cases hl : live (tab a) (t.val / 7)
    · rw [h3.mpr ⟨hl, h6⟩]; rfl
    · rw [h4.mpr ⟨hl, h6⟩]; simp
  · have n3 : ¬ k0_cond3 (grid0.coords t) (liveW (tab a)) = 1#1 := fun h => h6 (h3.mp h).2
    have n4 : ¬ k0_cond4 (grid0.coords t) (liveW (tab a)) = 1#1 := fun h => h6 (h4.mp h).2
    simp [n3, n4, h6]

/-! ## @main before the region: the three casts and the reshape -/

/-- Core `c`'s buffers at launch, as the operations' valuation; -/
abbrev V₀ (c : Dev nD) : Valuation τ sig (Elt F) := fun b => (s₀ m ρ).mem ((c : Dev nD), b)
/-- and when the region is entered: the four operations have run. -/
abbrev V (c : Dev nD) (b : Ref sig .tc) : Buf (Elt F) ((c : Thread nD τ).loc b) := StableHlo.after hostOps0 (V₀ m ρ c) b

/-- No host operation writes an argument or the result. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_kept (c : Dev nD) (b : Ref sig .tc) (hb : b ≠ main_v0 ∧ b ≠ main_v1 ∧ b ≠ main_v2 ∧ b ≠ main_v3) :
    V m ρ c b = m ((c : Thread nD τ).loc b) :=
  StableHlo.after_of_forall_not_mem (b := Proc.devRef .tc b) hostOps0 (V₀ m ρ c) (not_written b hb)

/-- The TensorCore's unscoped references, as device buffers: the set the host operations run within. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- An operation on TensorCore references only touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The pipeline's proof data -/

/-- Point `t`'s staging memrefs and their wholeness. -/
abbrev ms0 (t : Fin (cfg0 a).N) : Memref sig .tc .vmem S8192x128 .f32 := spec0_0.stage ((cfg0 a).slots t (0 : Fin 5))
abbrev hs0 (t : Fin (cfg0 a).N) : (ms0 a t).IsWhole := hstage0_0 (((cfg0 a).slots t (0 : Fin 5)).cast nbuf0_0)
abbrev ms1 (t : Fin (cfg0 a).N) : Memref sig .tc .vmem S1x1024x512 .bf16 := spec0_1.stage ((cfg0 a).slots t (1 : Fin 5))
abbrev hs1 (t : Fin (cfg0 a).N) : (ms1 a t).IsWhole := hstage0_1 (((cfg0 a).slots t (1 : Fin 5)).cast nbuf0_1)
abbrev ms2 (t : Fin (cfg0 a).N) : Memref sig .tc .vmem S1x1024x512 .bf16 := spec0_2.stage ((cfg0 a).slots t (2 : Fin 5))
abbrev hs2 (t : Fin (cfg0 a).N) : (ms2 a t).IsWhole := hstage0_2 (((cfg0 a).slots t (2 : Fin 5)).cast nbuf0_2)
abbrev ms3 (t : Fin (cfg0 a).N) : Memref sig .tc .vmem S1x512x1024 .bf16 := spec0_3.stage ((cfg0 a).slots t (3 : Fin 5))
abbrev hs3 (t : Fin (cfg0 a).N) : (ms3 a t).IsWhole := hstage0_3 (((cfg0 a).slots t (3 : Fin 5)).cast nbuf0_3)
abbrev ms4 (t : Fin (cfg0 a).N) : Memref sig .tc .vmem S8192x128 .f32 := spec0_4.stage ((cfg0 a).slots t (4 : Fin 5))
abbrev hs4 (t : Fin (cfg0 a).N) : (ms4 a t).IsWhole := hstage0_4 (((cfg0 a).slots t (4 : Fin 5)).cast nbuf0_4)

/-- Window `w`'s block at point `t`, read off its array as the region finds it. -/
def iblk (c : Dev nD) (w : Fin (cfg0 a).W) (t : Fin (cfg0 a).N) : (((cfg0 a).win w).xblock (grid0.coords t)).Idx → Elt F ((cfg0 a).win w).elt :=
  (((cfg0 a).win w).blk t).view.read (Elt F) (V m ρ c (Pipeline.arrRef spec0 w))

/-- The point numbered `n`. -/
def pt (n : ℕ) : Fin (cfg0 a).N := (⟨n % 952, Nat.mod_lt _ (by decide)⟩ : Fin 952).cast N_0.symm

theorem pt_val (n : ℕ) (h : n < 952) : (pt a n).val = n := Nat.mod_eq_of_lt h
theorem pt_eq (t : Fin (cfg0 a).N) : pt a t.val = t := Fin.ext (pt_val a t.val (by have := t.isLt; have h := N_0; change t.val < grid0.N at this; omega))

/-- What tile `k` stages of its rows. -/
def xnOf (c : Dev nD) (k : ℕ) : S1024x1024.Idx → Elt F .bf16 := packX (iblk a m ρ c (0 : Fin 5) (pt a (7 * k)))

/-- Tile `k`'s accumulator after its first `f` steps. -/
def accOf (c : Dev nD) (k : ℕ) : ℕ → (S1024x1024.Idx → Elt F .f32)
  | 0 => k0_pay2
  | f + 1 => k0_pay3 (xnOf a m ρ c k) (iblk a m ρ c (1 : Fin 5) (pt a (7 * k + f))) (iblk a m ρ c (2 : Fin 5) (pt a (7 * k + f)))
      (accOf c k f) (iblk a m ρ c (3 : Fin 5) (pt a (7 * k + f)))

open Classical in
/-- What tile `k`'s last step leaves in the output's block. -/
def outOf (c : Dev nD) (k : ℕ) : S8192x128.Idx → Elt F .f32 :=
  if live (tab a) k then slabs (accOf a m ρ c k 7) else k0_pay12

/-- The invariant before point `n`: the table, and the two scratch buffers, which inside a live tile hold its rows and its
    accumulator so far. -/
def Phi (c : Dev nD) (n : ℕ) : sProp 𝕄 :=
  iprop((tbM.view.loc (c : Thread nD τ) ↦{fullShare} tab a)
    ∗ ∃ (xn : S1024x1024.Idx → Elt F .bf16) (acc : S1024x1024.Idx → Elt F .f32),
        ⌜n % 7 ≠ 0 → live (tab a) (n / 7) → xn = xnOf a m ρ c (n / 7) ∧ acc = accOf a m ρ c (n / 7) (n % 7)⌝
          ∗ owns (c : Thread nD τ) scX fullShare xn ∗ owns (c : Thread nD τ) scA fullShare acc)

/-- The pipeline's proof data on core `c`. -/
def dats (_ : Fin 1) (c : Dev nD) : Dat τ (Elt F) Unit ℕ (UR sig nD τ) ℕ (cfg0 a) c where
  A w := V m ρ c (Pipeline.arrRef spec0 w)
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outOf a m ρ c (t.val / 7)
  Φ t := Phi a m ρ c t.val
  q _ := fullShare
  owed _ := 0

theorem A_eq (c : Dev nD) (w : Fin (cfg0 a).W) : (dats a m ρ 0 c).A w = V m ρ c (Pipeline.arrRef spec0 w) := by
  dsimp only [dats]

theorem after_0 (c : Dev nD) (t : Fin (cfg0 a).N) : (dats a m ρ 0 c).after (0 : Fin 5) t = iblk a m ρ c (0 : Fin 5) t := by dsimp only [dats]
theorem after_1 (c : Dev nD) (t : Fin (cfg0 a).N) : (dats a m ρ 0 c).after (1 : Fin 5) t = iblk a m ρ c (1 : Fin 5) t := by dsimp only [dats]
theorem after_2 (c : Dev nD) (t : Fin (cfg0 a).N) : (dats a m ρ 0 c).after (2 : Fin 5) t = iblk a m ρ c (2 : Fin 5) t := by dsimp only [dats]
theorem after_3 (c : Dev nD) (t : Fin (cfg0 a).N) : (dats a m ρ 0 c).after (3 : Fin 5) t = iblk a m ρ c (3 : Fin 5) t := by dsimp only [dats]
theorem after_4 (c : Dev nD) (t : Fin (cfg0 a).N) : (dats a m ρ 0 c).after (4 : Fin 5) t = outOf a m ρ c (t.val / 7) := by dsimp only [dats]

/-- Each input window holds its block when the body runs, fetched there or not. -/
theorem before_0 (c : Dev nD) (t : Fin (cfg0 a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin (cfg0 a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin (cfg0 a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin (cfg0 a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rw [A_eq]) t d).trans
    (by unfold Dat.fetched Dat.blockOf iblk; rw [A_eq]; rfl)

/-! ## The body obligation -/

/-- The run of the body at a point: whatever the scratch buffers hold subject to the invariant, they end subject to the next
    point's, and the output's block is left as it was except at a tile's last step, which leaves the tile's result. -/
theorem point_run (c : Dev nD) (t : Fin (cfg0 a).N) (xn : S1024x1024.Idx → Elt F .bf16) (acc : S1024x1024.Idx → Elt F .f32) (y : S8192x128.Idx → Elt F .f32)
    (hinv : t.val % 7 ≠ 0 → live (tab a) (t.val / 7) → xn = xnOf a m ρ c (t.val / 7) ∧ acc = accOf a m ρ c (t.val / 7) (t.val % 7)) :
    ∃ xn' acc' y', BodyRun c (grid0.coords t) (ms0 a t) (hs0 a t) (ms1 a t) (hs1 a t) (ms2 a t) (hs2 a t) (ms3 a t) (hs3 a t) (ms4 a t) (hs4 a t) (tab a)
        (iblk a m ρ c (0 : Fin 5) t) (iblk a m ρ c (1 : Fin 5) t) (iblk a m ρ c (2 : Fin 5) t) (iblk a m ρ c (3 : Fin 5) t) xn acc y xn' acc' y'
      ∧ ((t.val + 1) % 7 ≠ 0 → live (tab a) ((t.val + 1) / 7) → xn' = xnOf a m ρ c ((t.val + 1) / 7) ∧ acc' = accOf a m ρ c ((t.val + 1) / 7) ((t.val + 1) % 7))
      ∧ (t.val % 7 ≠ 6 → y' = y) ∧ (t.val % 7 = 6 → y' = outOf a m ρ c (t.val / 7)) := by
  obtain ⟨h1, h2, h3, h4⟩ := conds (tab a) t
  have hpt : pt a (7 * (t.val / 7) + t.val % 7) = t := by
    rw [Nat.div_add_mod]; exact pt_eq a t
  by_cases hl : live (tab a) (t.val / 7)
  · by_cases h0 : t.val % 7 = 0
    · refine ⟨_, _, _, run_A c _ _ _ _ _ _ _ _ _ _ _ _ _ _ _ _ xn acc y (h1.mpr ⟨hl, h0⟩) (h2.mpr hl) (fun h => by have := (h3.mp h).2; omega) (fun h => (h4.mp h).1 hl), ?_, fun _ => rfl, fun h => by omega⟩
      intro _ _
      have e1 : (t.val + 1) / 7 = t.val / 7 := by omega
      have e2 : (t.val + 1) % 7 = 0 + 1 := by omega
      rw [e1, e2]
      have hpt0 : pt a (7 * (t.val / 7)) = t := by rw [h0] at hpt; exact hpt
      have hx : xnOf a m ρ c (t.val / 7) = packX (iblk a m ρ c (0 : Fin 5) t) := by unfold xnOf; rw [hpt0]
      refine ⟨hx.symm, ?_⟩
      unfold accOf
      rw [hx, Nat.add_zero, hpt0]; rfl
    · obtain ⟨rfl, rfl⟩ := hinv h0 hl
      have hstep : k0_pay3 (xnOf a m ρ c (t.val / 7)) (iblk a m ρ c (1 : Fin 5) t) (iblk a m ρ c (2 : Fin 5) t) (accOf a m ρ c (t.val / 7) (t.val % 7)) (iblk a m ρ c (3 : Fin 5) t)
          = accOf a m ρ c (t.val / 7) (t.val % 7 + 1) := by
        conv_rhs => unfold accOf
        rw [hpt]
      by_cases h6 : t.val % 7 = 6
      · refine ⟨_, _, _, run_C c _ _ _ _ _ _ _ _ _ _ _ _ _ _ _ _ _ _ y (fun h => h0 (h1.mp h).2) (h2.mpr hl) (h3.mpr ⟨hl, h6⟩) (fun h => (h4.mp h).1 hl), fun h => by omega, fun h => by omega, fun _ => ?_⟩
        rw [hstep, h6]
        unfold outOf; rw [if_pos hl]
      · refine ⟨_, _, _, run_B c _ _ _ _ _ _ _ _ _ _ _ _ _ _ _ _ _ _ y (fun h => h0 (h1.mp h).2) (h2.mpr hl) (fun h => h6 (h3.mp h).2) (fun h => (h4.mp h).1 hl), ?_, fun _ => rfl, fun h => absurd h h6⟩
        intro _ _
        have e1 : (t.val + 1) / 7 = t.val / 7 := by omega
        have e2 : (t.val + 1) % 7 = t.val % 7 + 1 := by omega
        rw [e1, e2]
        exact ⟨rfl, hstep⟩
  · have hnext : (t.val + 1) % 7 ≠ 0 → live (tab a) ((t.val + 1) / 7) → False := fun h hl' => hl (by
      have e1 : (t.val + 1) / 7 = t.val / 7 := by omega
      rwa [e1] at hl')
    by_cases h6 : t.val % 7 = 6
    · refine ⟨_, _, _, run_E c _ _ _ _ _ _ _ _ _ _ _ _ _ _ _ _ xn acc y (fun h => hl (h1.mp h).1) (fun h => hl (h2.mp h)) (fun h => hl (h3.mp h).1) (h4.mpr ⟨hl, h6⟩), fun h hl' => (hnext h hl').elim, fun h => absurd h6 h, fun _ => ?_⟩
      unfold outOf; rw [if_neg hl]
    · exact ⟨_, _, _, run_D c _ _ _ _ _ _ _ _ _ _ _ _ _ _ _ _ xn acc y (fun h => hl (h1.mp h).1) (fun h => hl (h2.mp h)) (fun h => hl (h3.mp h).1) (fun h => h6 (h4.mp h).2), fun h hl' => (hnext h hl').elim, fun _ => rfl, fun h => absurd h h6⟩

theorem flush_false (t : Fin (cfg0 a).N) (h : t.val % 7 ≠ 6) : ((cfg0 a).win (4 : Fin 5)).flush t = false :=
  (Pipeline.Window.flush_eq_flushOf _ _).trans (flush_facts t h)

set_option maxHeartbeats 4000000 in
/-- The library's body obligation, at every point. -/
theorem body_obligation (c : Dev nD) : BodyObligation (dats a m ρ 0 c) (defs₀ (F := F)) Variants.none () Set.univ := fun t => by
  rw [bigSep_W0, bigSep_W0]
  have hidle : (cfg0 a).idle (4 : Fin 5) ((cfg0 a).grid.coords t) = decide (t.val % 7 ≠ 6) := idle_iff a t
  rewrite [hidle]
  simp only [before_0, before_1, before_2, before_3, after_0, after_1, after_2, after_3, after_4]
  rewrite [show (dats a m ρ 0 c).Φ t.succ = Phi a m ρ c (t.val + 1) from rfl, show (dats a m ρ 0 c).Φ t.castSucc = Phi a m ρ c t.val from rfl,
    show (dats a m ρ 0 c).owesAt () t.succ = (dats a m ρ 0 c).owesAt () t.castSucc from rfl]
  unfold Phi
  iintro ⟨⟨HT, %xn, %acc, %hinv, HX, HA⟩, Ho, ⟨%d0, H0⟩, ⟨%d1, H1⟩, ⟨%d2, H2⟩, ⟨%d3, H3⟩, ⟨%d4, H4⟩⟩
  obtain ⟨xn', acc', y', hrun, hinv', hy, hy6⟩ := point_run a m ρ c t xn acc ((dats a m ρ 0 c).before (4 : Fin 5) t d4) hinv
  iapply (hrun fullShare _)
  isplitl [H0]; · iapply rep_of_owns; iexact H0
  isplitl [H1]; · iapply rep_of_owns; iexact H1
  isplitl [H2]; · iapply rep_of_owns; iexact H2
  isplitl [H3]; · iapply rep_of_owns; iexact H3
  isplitl [HT]; · iexact HT
  isplitl [H4]; · iexact H4
  isplitl [HX]; · iexact HX
  isplitl [HA]; · iexact HA
  iintro ⟨H0, H1, H2, H3, HT, H4, HX, HA⟩
  isplitl [HT HX HA]
  · isplitl [HT]; · iexact HT
    iexists xn'; iexists acc'
    isplitr; · ipureintro; exact hinv'
    isplitl [HX] <;> iassumption
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  by_cases h6 : t.val % 7 = 6
  · rewrite [decide_eq_false (show ¬ (t.val % 7 ≠ 6) from fun h => h h6)]
    rw [hy6 h6]
    iexact H4
  · rewrite [decide_eq_true h6, flush_false a t h6]
    rw [hy h6]
    iexists d4
    iexact H4

/-! ## The launch: @main as the host segment and the region -/

/-- The launch element. -/
def u₀ : UR sig nD τ := initOf (Pipeline.cells (Pipeline.pin (pcfgs (F := F)) fun _ => a) (cellOf_inj fun _ => a))
  (Pipeline.launchToks (Pipeline.pin (pcfgs (F := F)) fun _ => a) (cellOf_inj fun _ => a))

theorem share_full (c : Dev nD) (w : Fin (cfg0 a).W) : (dats a m ρ 0 c).share w = fullShare := by unfold Dat.share; split <;> rfl

/-- The table as the launch hands it to the region. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- The unscoped buffers that are no window's array, listed. -/
theorem rest_eq (c : Dev nD) (W : (b : Ref sig .tc) → Buf (Elt F) ((c : Thread nD τ).loc b)) :
    (Pipeline.unscopedRest (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3) ∗ (((c : Thread nD τ).loc main_arg4) ↦{fullShare} W main_arg4)) :=
  Pipeline.unscopedRest_eq_of_list spec0 c W [main_arg0, main_arg1, main_arg2, main_arg3, main_arg4] (by decide) (by decide)

/-- No core owes another anything. -/
abbrev L : GSem nD τ sig → Finset Unit := fun _ => ∅
abbrev lv : GSem nD τ sig → Unit → ℕ := fun _ _ => 0

/-- What rides beside the buffers through the host operations. -/
abbrev R (c : Dev nD) : sProp 𝕄 := iprop(∃ W, owes (c : Thread nD τ) (0 : CellTallies nD τ sig Unit) W)

/-- The host segment: the four operations over the unscoped buffers. -/
def seg0 : Pipeline.HostSeg (Name := ℕ) (U := UR sig nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The arguments as launched, beside the pipeline. -/
abbrev Args (c : Dev nD) : sProp 𝕄 :=
  iprop((((c : Thread nD τ).loc main_arg0) ↦{fullShare} m ((c : Thread nD τ).loc main_arg0))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4)))

/-- What the region leaves: its arrays at the final contents, the table and the other arguments as launched. -/
abbrev Tₙ (c : Dev nD) : sProp 𝕄 :=
  iprop((dats a m ρ 0 c).arrays ((dats a m ρ 0 c).arrAt · (cfg0 a).N) ∗ (((c : Thread nD τ).loc main_arg1) ↦{fullShare} tab a) ∗ Args m c)

theorem noSemFacts : Pipeline.OwnSemFacts spec0 (fun k : Fin 0 => k.elim0) := by decide

set_option backward.isDefEq.respectTransparency.types false in
set_option maxHeartbeats 4000000 in
/-- The region, entered from what the host operations left, the table at the contents the pipeline is pinned at. -/
def reg0 (ha : ∀ c : Dev nD, m ((c : Thread nD τ).loc main_arg1) = tab a) :
    Pipeline.RegionSeg (pcfgs (F := F)) (fun _ => a) (dats a m ρ) () defs₀ Variants.none L lv 0 where
  win := (launch0 (F := F)).win.to₀
  block_pos := (launch0 (F := F)).block_pos
  stage_whole := (launch0 (F := F)).stage_whole
  K := Fin 0
  osem := fun k => k.elim0
  ho := noSemFacts
  hbody c := (body_obligation a m ρ c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ a m ρ c ∗ R c)
  X c := iprop(emp)
  Y c := iprop(((c : Thread nD τ).loc main_arg1) ↦{fullShare} tab a)
  Z c := Args m c
  hentry c := by
    rw [show StableHlo.held (c : Thread nD τ) ucRefs (StableHlo.after hostOps0 (V₀ m ρ c)) = unscopedBufs c (V m ρ c) from (unscopedBufs_held c _).symm]
    have hsplit := (Pipeline.arrays_of_unscopedBufs (pcfgs (F := F)) (fun _ => a) (dats a m ρ) (launch0 (F := F)).win (launch0 (F := F)).arr_whole c
      (share_full a m ρ c) (V m ρ c) (A_eq a m ρ c)).trans (sep_mono .rfl (Entails.of_eq (rest_eq c (V m ρ c))))
    rw [V_kept m ρ c main_arg0 (by decide), V_kept m ρ c main_arg1 (by decide), V_kept m ρ c main_arg2 (by decide), V_kept m ρ c main_arg3 (by decide), V_kept m ρ c main_arg4 (by decide), ha c] at hsplit
    iintro ⟨⟨Hub, HO⟩, -, -⟩
    ihave H := hsplit $$ Hub
    icases H with ⟨Ha, H0, H1, H2, H3, H4⟩
    imodintro
    isplitl [Ha]; · iexact Ha
    isplitl [H1]; · rw [prefHeld_eq]; iexact H1
    isplitl [HO]
    · unfold Pipeline.Dat.owesAt Pipeline.owesWithin
      icases HO with ⟨%W, HO⟩; iexists W; isplitr; · ipureintro; exact fun _ _ => Or.inl trivial
      iexact HO
    isplitr [H0 H2 H3 H4]; · iempintro
    isplitl [H0]; · iexact H0
    isplitl [H2]; · iexact H2
    isplitl [H3] <;> iassumption
  hin c := by
    rw [show (dats a m ρ 0 c).Φ 0 = Phi a m ρ c 0 from rfl, prefHeld_eq, scopedRest0_eq]; unfold Phi
    iintro ⟨-, HT, ⟨%f0, HX⟩, ⟨%f1, HA⟩⟩
    isplitl [HT]; · iexact HT
    iexists f0; iexists f1
    isplitr; · ipureintro; intro h; exact absurd rfl h
    rw [owns_whole_eq, owns_whole_eq]
    isplitl [HX]
    · iexists f0; isplitr; · ipureintro; rfl
      iexact HX
    · iexists f1; isplitr; · ipureintro; rfl
      iexact HA
  hout c := by
    rw [show (dats a m ρ 0 c).Φ (Fin.last (cfg0 a).N) = Phi a m ρ c (cfg0 a).N from rfl, scopedRest0_eq]; unfold Phi
    simp only [owns_whole_eq]
    iintro ⟨HT, %xn, %acc, -, ⟨%f0, -, HX⟩, ⟨%f1, -, HA⟩⟩
    isplitl [HT]; · iexact HT
    isplitr
    · unfold Pipeline.ownSems0
      rw [show (Finset.univ : Finset (Fin 0)) = ∅ from rfl, BI.bigSep_empty]; iempintro
    isplitl [HX]
    · iexists f0; iexact HX
    · iexists f1; iexact HA
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- @main as the list of the two. -/
abbrev segs (ha : ∀ c : Dev nD, m ((c : Thread nD τ).loc main_arg1) = tab a) :
    List (Pipeline.Seg (pcfgs (F := F)) (fun _ => a) (dats a m ρ) () defs₀ Variants.none L lv) := [.host (seg0 m ρ), .region (reg0 a m ρ ha)]

/-- The physical post: the pipeline's arrays at the computed contents, the arguments as launched. -/
def QC : PUnit × MemSt nD τ sig (Elt F) → Prop := fun r =>
  ∀ c : Dev nD, (∀ w : Fin (cfg0 a).W, r.2.mem (((cfg0 a).win w).arr.view.loc (c : Thread nD τ)) = (dats a m ρ 0 c).arrAt w (cfg0 a).N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

set_option backward.isDefEq.respectTransparency.types false in
set_option maxHeartbeats 4000000 in
/-- For any float values and any launch memory whose table is the admissible one: every execution of @main terminates, the
    pipeline's arrays end at the computed contents, the arguments unchanged, every semaphore counter at zero. -/
theorem run_main (ha : ∀ c : Dev nD, m ((c : Thread nD τ).loc main_arg1) = tab a) :
    θ_run defs (onTc (τ := τ) (main (F := F))) (s₀ m ρ) (fun r => QC a m ρ r ∧ r.2.sem = fun _ => 0) :=
  Pipeline.θ_run_regions_kit_sems (pcfgs (F := F)) (fun _ => a) (dats a m ρ) () (cellOf_inj fun _ => a) EP defs₀ Variants.none L lv m ρ main (segs a m ρ ha)
    (fun c Q => by rw [main_segs (fun _ => a) (dats a m ρ) () Variants.none L lv (seg0 m ρ) (reg0 a m ρ ha) rfl c])
    (by simp only [Pipeline.Seg.pipes_host, Pipeline.Seg.pipes_region, Pipeline.Seg.pipes_nil]; decide) (O₀ := 0) (hL := fun _ _ => rfl) (G := fun _ => iprop(emp)) (u₀ := u₀ a)
    (hu₀ := by
      iintro Hu
      ihave HP := (show (ownU (u₀ a) : sProp 𝕄) ⊢ BI.own (EP (u₀ a)) from .rfl) $$ Hu
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ a m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin (cfg0 a).W, s.mem (((cfg0 a).win w).arr.view.loc (c : Thread nD τ)) = (dats a m ρ 0 c).arrAt w (cfg0 a).N)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    (hfin := fun c s' => by
      dsimp only [Tₙ, Args]
      iintro ⟨⟨Ha, H1, H0, H2, H3, H4⟩, HSI⟩
      icombine HSI H0 gives %h0
      icombine HSI H1 gives %h1
      icombine HSI H2 gives %h2
      icombine HSI H3 gives %h3
      icombine HSI H4 gives %h4
      ihave Hr := (Pipeline.arrays_read (pcfgs (F := F)) (fun _ => a) (dats a m ρ) (launch0 (F := F)).arr_whole c (share_full a m ρ c) _ s') $$ [Ha HSI]
      · isplitl [Ha] <;> iassumption
      icases Hr with ⟨%hA, HSI⟩
      imodintro
      isplitr
      · ipureintro
        exact ⟨hA, Buf.eq_of_forall_mem_univ h0, (Buf.eq_of_forall_mem_univ h1).trans (ha c).symm, Buf.eq_of_forall_mem_univ h2, Buf.eq_of_forall_mem_univ h3, Buf.eq_of_forall_mem_univ h4⟩
      iexact HSI)
    (hQ := fun _ h hz => ⟨h, funext fun g => hz g (.inr (by revert g; decide))⟩)

end Cert.KernelIdeal.Hand

end
-- ==== Proof.Pre.lean ====
/- The table a launch meeting the precondition holds is admissible: every tile's expert is one of the eight, so every
   weight block lies inside its array. The two kernel frames follow from the run over any float values. -/
module

public import proofs.«01_k».proof.Defs
public import proofs.«01_k».proof.Proof.Frame
public import proofs.«01_k».proof.Proof.Gen.Kernel
public import proofs.«01_k».proof.Proof.Gen.Pre_experts_in_range
public import Idealize.ShloMosaic.Lib.ReduceAll
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]

instance subsingleton_scalar : Subsingleton (Cert.Pre_experts_in_range.S_).Idx := ⟨fun a b => funext fun k => k.elim0⟩

/-- Every tile's expert, among the first 136 words of the table, is one of the eight. -/
def InRange (T : S137.Idx → BitVec 32) : Prop := ∀ k : Fin 136, (T (ix1 ⟨k.val, by omega⟩)).toNat < 8

/-- The precondition says so of the table. -/
theorem inRange_of_pre (x : FVec F Cert.Pre_experts_in_range.S139264x8x128 .f32) (T : S137.Idx → BitVec 32)
    (w0 w1 : FVec F Cert.Pre_experts_in_range.S8x1024x3584 .f32) (w2 : FVec F Cert.Pre_experts_in_range.S8x3584x1024 .f32)
    (h : Cert.Pre_experts_in_range.fn (F := F) x T w0 w1 w2 = fun _ => 1#1) : InRange T := by
  intro k
  have h1 := Host.reduce_andi_all _ _ _ _ (fun a => a.elim0) (congrFun h (fun a => a.elim0)) (ix1 k)
  obtain ⟨ha, hb⟩ := IntOp.andi_eq_one.1 h1
  have hs : extractStridedSlice Cert.Pre_experts_in_range.S136 ![0] T Cert.Pre_experts_in_range.Facts.slices_S137_S136_0 (ix1 k) = T (ix1 ⟨k.val, by omega⟩) :=
    extractStridedSlice_apply _ _ _ _ _ (fun a => by fin_cases a; simp)
  have ha' : (0#32 : BitVec 32).toInt ≤ (extractStridedSlice Cert.Pre_experts_in_range.S136 ![0] T Cert.Pre_experts_in_range.Facts.slices_S137_S136_0 (ix1 k)).toInt := IntOp.cmpi_sge.1 ha
  have hb' : (extractStridedSlice Cert.Pre_experts_in_range.S136 ![0] T Cert.Pre_experts_in_range.Facts.slices_S137_S136_0 (ix1 k)).toInt < (8#32 : BitVec 32).toInt := IntOp.cmpi_slt.1 hb
  rw [hs] at ha' hb'
  have e0 : (0#32 : BitVec 32).toInt = 0 := by decide
  have e8 : (8#32 : BitVec 32).toInt = 8 := by decide
  rw [e0] at ha'; rw [e8] at hb'
  have := BitVec.toInt_eq_toNat_cond (T (ix1 ⟨k.val, by omega⟩))
  split at this <;> omega

/-- Grid axis 0's bound. -/
theorem tile_lt (i : grid0.Coords) : (i 0).val < 136 := (i 0).isLt
theorem step_lt (i : grid0.Coords) : (i 1).val < 7 := (i 1).isLt

/-- The word the weights' index maps read at a grid point: the table's at the tile. -/
theorem word_eq (pf : pre0.Contents (Elt F)) (i : grid0.Coords) :
    (pf.at 0 (Rect.unit (s := S137) ![(Scalar.indexCast (BitVec.ofNat 32 (i 0).val)).toNat] S1.size (k0_off1_inb i)) numel1_S1 : BitVec 32)
      = pf 0 (ix1 ⟨(i 0).val, by have := tile_lt i; omega⟩) := by
  have h := tile_lt i
  show pf 0 _ = _
  congr 1
  funext a
  fin_cases a
  apply Fin.ext
  show (BitVec.ofNat 32 (i 0).val).toNat + _ = (i 0).val
  rw [BitVec.toNat_ofNat, Nat.mod_eq_of_lt (by omega)]
  rfl

/-- A table in range is admissible. -/
theorem ok_of_inRange (pf : pre0.Contents (Elt F)) (h : InRange (pf 0)) : ok0 pf := by
  have hw : ∀ i : grid0.Coords, (pf.at 0 (Rect.unit (s := S137) ![(Scalar.indexCast (BitVec.ofNat 32 (i 0).val)).toNat] S1.size (k0_off1_inb i)) numel1_S1 : BitVec 32).toNat < 8 :=
    fun i => by rw [word_eq]; exact h ⟨(i 0).val, tile_lt i⟩
  have hs : ∀ i : grid0.Coords, (BitVec.ofNat 32 (i 1).val).toNat < 7 := fun i => by
    have := step_lt i
    rw [BitVec.toNat_ofNat, Nat.mod_eq_of_lt (by omega)]; exact this
  refine ⟨fun i => ⟨fun a => ?_, .inr (Affine.block_words_dvd (s := S8x1024x3584) (p := EltTy.packing .bf16) (by decide) (by decide))⟩,
    fun i => ⟨fun a => ?_, .inr (Affine.block_words_dvd (s := S8x1024x3584) (p := EltTy.packing .bf16) (by decide) (by decide))⟩,
    fun i => ⟨fun a => ?_, .inr (Affine.block_words_dvd (s := S8x3584x1024) (p := EltTy.packing .bf16) (by decide) (by decide))⟩⟩
  · have h0 := hw i; have h1 := hs i
    fin_cases a
    · show (_ + 1) * 1 ≤ 8; exact (Nat.mul_one _).le.trans h0
    · show (0 + 1) * 1024 ≤ 1024; omega
    · show (_ + 1) * 512 ≤ 3584; exact (Nat.mul_le_mul_right 512 h1)
  · have h0 := hw i; have h1 := hs i
    fin_cases a
    · show (_ + 1) * 1 ≤ 8; exact (Nat.mul_one _).le.trans h0
    · show (0 + 1) * 1024 ≤ 1024; omega
    · show (_ + 1) * 512 ≤ 3584; exact (Nat.mul_le_mul_right 512 h1)
  · have h0 := hw i; have h1 := hs i
    fin_cases a
    · show (_ + 1) * 1 ≤ 8; exact (Nat.mul_one _).le.trans h0
    · show (_ + 1) * 512 ≤ 3584; exact (Nat.mul_le_mul_right 512 h1)
    · show (0 + 1) * 1024 ≤ 1024; omega

/-- The launch's table as the pipeline's prefetched contents. -/
def pfOf (T : S137.Idx → BitVec 32) : pre0.Contents (Elt F) := fun k => match k with | ⟨0, _⟩ => T

/-- An in-range table as admissible contents. -/
def admOf (T : S137.Idx → BitVec 32) (h : InRange T) : (pcfg0 (F := F)).Adm := ⟨pfOf T, ok_of_inRange _ h⟩

theorem dev_eq (c : Dev nD) : c = 0 := by revert c; decide

/-- From a launch memory whose table is in range: the run. -/
theorem run_inRange (m : (ℓ : Loc nD τ sig) → Buf (Elt F) ℓ) (ρ : Dev nD → PrngReg)
    (h : InRange (m (((0 : Dev nD) : Thread nD τ).loc main_arg1))) :
    θ_run defs (onTc (τ := τ) (main (F := F))) (s₀ m ρ)
      (fun r => QC (admOf (F := F) (m (((0 : Dev nD) : Thread nD τ).loc main_arg1)) h) m ρ r ∧ r.2.sem = fun _ => 0) :=
  run_main (admOf (F := F) (m (((0 : Dev nD) : Thread nD τ).loc main_arg1)) h) m ρ (fun c => by rw [dev_eq c]; rfl)

/-- The idealized kernel's frame. -/
theorem frame_ideal : Cert.quiescent_KernelIdeal := fun m ρ hp =>
  (θ_run Cert.KernelIdeal.defs _ _).mono (fun _ h => ⟨fun c => (h.1 c).2, h.2⟩)
    (run_inRange (F := Ideal) m ρ (inRange_of_pre _ _ _ _ _ (hp 0)))

end Cert.KernelIdeal.Hand

end
-- ==== Proof.FrameK.lean ====
/- The kernel's frame at the bit-exact values: its printed text and the idealized kernel's are the same program, so the
   run over any float values is a run of both. -/
module

public import proofs.«01_k».proof.Proof.Pre

@[expose] public section

set_option maxRecDepth 16384

noncomputable section

namespace Cert.KernelIdeal.Hand

open Idealize.ShloMosaic Idealize.ShloMosaic.TcCoe Idealize.SL.Sem

set_option maxHeartbeats 1000000 in
/-- The two programs' kernel bodies are one. -/
theorem body_table_eq : @Cert.Kernel.defs₀ Bits _ _ = @Cert.KernelIdeal.defs₀ Bits _ _ := by
  unfold Cert.Kernel.defs₀ Cert.KernelIdeal.defs₀
  refine congrArg Defs.onTc ?_
  funext l p
  match l, p with
  | 0, (t, s) => rfl

set_option maxHeartbeats 1000000 in
/-- So are their regions and pipelines; -/
theorem defs_eq : @Cert.Kernel.defs Bits _ _ = @Cert.KernelIdeal.defs Bits _ _ :=
  congrArg (Pipeline.defs (@Cert.KernelIdeal.pcfgs Bits _ _)) body_table_eq

set_option maxHeartbeats 1000000 in
/-- and so is @main. -/
theorem main_eq_kernel : @Cert.Kernel.main Bits _ _ = @Cert.KernelIdeal.main Bits _ _ := rfl

set_option maxHeartbeats 1000000 in
/-- The kernel's frame: the same run at the bit-exact values. -/
theorem frame_kernel : Cert.quiescent_Kernel := by
  intro m ρ hp
  have h := (θ_run (Cert.KernelIdeal.defs (F := Bits)) _ _).mono (fun _ h => And.intro (fun c => (h.1 c).2) h.2)
    (run_inRange (F := Bits) m ρ (inRange_of_pre _ _ _ _ _ (hp 0)))
  exact (congrArg₂ (fun d p => θ_run d (onTc (τ := Cert.KernelIdeal.τ) p) _ _) defs_eq main_eq_kernel).mpr h

end Cert.KernelIdeal.Hand

end
-- ==== Proof.Spec.lean ====
/- The value both programs compute, as sums over plain indices: a row's gated feed-forward through one expert, and the
   array of rows, each tile through its own expert, the tiles past the live count at zero. -/
module

public import proofs.«01_k».proof.KernelIdeal
public import Idealize.ShloMosaic.PureOps.Ideal
public import Idealize.ShloMosaic.Lib.ValueIdx
public import Idealize.ShloMosaic.Lib.Pointwise

@[expose] public section

set_option maxRecDepth 16384

noncomputable section

namespace Cert.MoE

open Cert.KernelIdeal Idealize.ShloMosaic

/-- Row `r` of the tokens times column `f` of expert `e`'s matrix. -/
def proj (X : FVec Ideal S139264x8x128 .f32) (W : FVec Ideal S8x1024x3584 .f32) (e : Fin 8) (r : Fin 139264) (f : Fin 3584) : EReal :=
  ∑ k : Fin 1024, X (ix3 r ⟨k.val / 128, by omega⟩ ⟨k.val % 128, by omega⟩) * W (ix3 e k f)

/-- The gated activation: silu of the gate's projection times the up projection. -/
def act (X : FVec Ideal S139264x8x128 .f32) (G U : FVec Ideal S8x1024x3584 .f32) (e : Fin 8) (r : Fin 139264) (f : Fin 3584) : EReal :=
  proj X G e r f * Ideal.div 1 (1 + Ideal.exp (-(proj X G e r f))) * proj X U e r f

/-- Row `r`'s feed-forward through expert `e`, column `d`. -/
def ffn (X : FVec Ideal S139264x8x128 .f32) (G U : FVec Ideal S8x1024x3584 .f32) (D : FVec Ideal S8x3584x1024 .f32) (e : Fin 8) (r : Fin 139264) (d : Fin 1024) : EReal :=
  ∑ f : Fin 3584, act X G U e r f * D (ix3 e f d)

/-- The table's word for tile `k`, -/
def word (T : S137.Idx → BitVec 32) (k : Fin 137) : BitVec 32 := T (ix1 k)
/-- its expert, -/
def expert (T : S137.Idx → BitVec 32) (k : Fin 136) : Fin 8 := ⟨(word T ⟨k.val, by omega⟩).toNat % 8, Nat.mod_lt _ (by decide)⟩
/-- and whether the tile is live: below the last word. -/
def isLive (T : S137.Idx → BitVec 32) (k : Fin 136) : Prop := IntOp.cmpi .slt (BitVec.ofNat 32 k.val) (word T ⟨136, by decide⟩) = 1#1

open Classical in
/-- Row `r`, column `d` of the grouped products. -/
def moe (X : FVec Ideal S139264x8x128 .f32) (T : S137.Idx → BitVec 32) (G U : FVec Ideal S8x1024x3584 .f32) (D : FVec Ideal S8x3584x1024 .f32) (r : Fin 139264) (d : Fin 1024) : EReal :=
  if isLive T ⟨r.val / 1024, by omega⟩ then ffn X G U D (expert T ⟨r.val / 1024, by omega⟩) r d else 0

/-- The result array: row `8 r + s`, lane `j` holds column `128 s + j` of row `r`. -/
def result (X : FVec Ideal S139264x8x128 .f32) (T : S137.Idx → BitVec 32) (G U : FVec Ideal S8x1024x3584 .f32) (D : FVec Ideal S8x3584x1024 .f32) : FVec Ideal S1114112x128 .f32 :=
  fun y => moe X T G U D ⟨(y 0).val / 8, by have := ValueIdx.idx2_lt0 y; omega⟩ ⟨128 * ((y 0).val % 8) + (y 1).val, by have := ValueIdx.idx2_lt1 y; omega⟩

end Cert.MoE

end
-- ==== Proof.KerVal.lean ====
/- The kernel's result array at the ideal values: the staged rows, a step's contribution, the sum over a tile's steps, and
   the blocks put together, are `Spec.lean`'s result of the arguments. -/
module

public import proofs.«01_k».proof.Proof.Spec
public import proofs.«01_k».proof.Proof.Pre
public import Idealize.ShloMosaic.Lib.Pipeline.ValueKit
public import Idealize.ShloMosaic.Lib.Pipeline.Covers

@[expose] public section

set_option maxRecDepth 16384

noncomputable section

namespace Cert.KernelIdeal.Hand

open Cert.KernelIdeal Cert.KernelIdeal.Gen Cert.MoE
open Idealize.ShloMosaic Idealize.ShloMosaic.TcCoe Idealize.SL.Sem
open Idealize.ShloMosaic.Pipeline (Dat)

/-! ## The payloads at an index -/

/-- The staged rows: row `r`, column `k` is row `8 r + k / 128`, lane `k % 128` of the block. -/
theorem packX_at (x : FVec Ideal S8192x128 .f32) (r k : Fin 1024) :
    packX (F := Ideal) x (ix2 r k) = x (ix2 ⟨8 * r.val + k.val / 128, by omega⟩ ⟨k.val % 128, by omega⟩) := by
  have key : ∀ (R : Fin 8192) (c : Fin 128), R.val = 8 * r.val + k.val / 128 → c.val = k.val % 128 →
      x (ix2 R c) = x (ix2 ⟨8 * r.val + k.val / 128, by omega⟩ ⟨k.val % 128, by omega⟩) := fun R c h0 h1 => by
    rw [show R = ⟨8 * r.val + k.val / 128, by omega⟩ from Fin.ext h0, show c = ⟨k.val % 128, by omega⟩ from Fin.ext h1]
  pointwise [packX, k0_pay1]
  split_ifs <;> exact key _ _ (by dsimp only; omega) (by dsimp only; omega)

/-- One step's contribution at an index. -/
theorem pay3_at (xn : FVec Ideal S1024x1024 .bf16) (wg wu : FVec Ideal S1x1024x512 .bf16) (acc : FVec Ideal S1024x1024 .f32) (wd : FVec Ideal S1x512x1024 .bf16) (r d : Fin 1024) :
    k0_pay3 (F := Ideal) xn wg wu acc wd (ix2 r d) = acc (ix2 r d) + ∑ f : Fin 512,
      ((∑ k : Fin 1024, xn (ix2 r k) * wg (ix3 0 k f)) * Ideal.div 1 (1 + Ideal.exp (-(∑ k : Fin 1024, xn (ix2 r k) * wg (ix3 0 k f)))) * (∑ k : Fin 1024, xn (ix2 r k) * wu (ix3 0 k f))) * wd (ix3 0 f d) := by
  pointwise [k0_pay3, zero_sub]

variable (a : (pcfg0 (F := Ideal)).Adm)
variable (m : (ℓ : Loc nD τ sig) → Buf (Elt Ideal) ℓ) (ρ : Dev nD → PrngReg)

/-! ## The region's arrays -/

theorem V_v0 (c : Dev nD) : (V m ρ c main_v0 : FVec Ideal S8x1024x3584 .bf16) = (m ((c : Thread nD τ).loc main_arg2) : FVec Ideal S8x1024x3584 .f32) := rfl
theorem V_v1 (c : Dev nD) : (V m ρ c main_v1 : FVec Ideal S8x1024x3584 .bf16) = (m ((c : Thread nD τ).loc main_arg3) : FVec Ideal S8x1024x3584 .f32) := rfl
theorem V_v2 (c : Dev nD) : (V m ρ c main_v2 : FVec Ideal S8x3584x1024 .bf16) = (m ((c : Thread nD τ).loc main_arg4) : FVec Ideal S8x3584x1024 .f32) := rfl
theorem V_v3 (c : Dev nD) : (V m ρ c main_v3 : FVec Ideal S1114112x128 .f32) = shapeCast _ (m ((c : Thread nD τ).loc main_arg0) : FVec Ideal S139264x8x128 .f32) shapeCasts_S139264x8x128_S1114112x128 := rfl

/-! ## The blocks at coordinates -/

theorem emb0 (t : Fin (cfg0 a).N) (y : S8192x128.Idx) (d : Fin 2) :
    ((((cfg0 a).win (0 : Fin 5)).blk t).view.emb y d : ℕ) = cc0_transform_0 (grid0.coords t) d * S8192x128.size d + (y d).val := ((cfg0 a).win (0 : Fin 5)).rect_emb_val t y d rfl
theorem emb4 (t : Fin (cfg0 a).N) (y : S8192x128.Idx) (d : Fin 2) :
    ((((cfg0 a).win (4 : Fin 5)).blk t).view.emb y d : ℕ) = cc0_transform_4 (grid0.coords t) d * S8192x128.size d + (y d).val := ((cfg0 a).win (4 : Fin 5)).rect_emb_val t y d rfl
theorem emb1 (t : Fin (cfg0 a).N) (y : S1x1024x512.Idx) (d : Fin 3) :
    ((((cfg0 a).win (1 : Fin 5)).blk t).view.emb y d : ℕ) = cc0_transform_1 k0_off1_inb numel1_S1 a.1 (grid0.coords t) d * S1x1024x512.size d + (y d).val := ((cfg0 a).win (1 : Fin 5)).rect_emb_val t y d rfl
theorem emb2 (t : Fin (cfg0 a).N) (y : S1x1024x512.Idx) (d : Fin 3) :
    ((((cfg0 a).win (2 : Fin 5)).blk t).view.emb y d : ℕ) = cc0_transform_2 k0_off1_inb numel1_S1 a.1 (grid0.coords t) d * S1x1024x512.size d + (y d).val := ((cfg0 a).win (2 : Fin 5)).rect_emb_val t y d rfl
theorem emb3 (t : Fin (cfg0 a).N) (y : S1x512x1024.Idx) (d : Fin 3) :
    ((((cfg0 a).win (3 : Fin 5)).blk t).view.emb y d : ℕ) = cc0_transform_3 k0_off1_inb numel1_S1 a.1 (grid0.coords t) d * S1x512x1024.size d + (y d).val := ((cfg0 a).win (3 : Fin 5)).rect_emb_val t y d rfl

/-- The rows with their slabs joined: row `R` of the long array is slab `R % 8` of row `R / 8`. -/
theorem slab_at (X : FVec Ideal S139264x8x128 .f32) (h) (R : Fin 1114112) (j : Fin 128) :
    shapeCast S1114112x128 X h (ix2 R j) = X (ix3 ⟨R.val / 8, by omega⟩ ⟨R.val % 8, by omega⟩ j) := by
  pointwise

/-- A number below eight is its own remainder. -/
theorem small_mod (w : ℕ) (h : w < 8) : w * 1 + 0 = w % 8 := by omega

/-- A point lies on the grid. -/
theorem pt_lt (t : Fin (cfg0 a).N) : t.val < 952 := by have := t.isLt; have h := N_0; change t.val < grid0.N at this; omega

/-- The words of a point's coordinates. -/
theorem coord_words (t : Fin (cfg0 a).N) : (BitVec.ofNat 32 (grid0.coords t 0).val).toNat = t.val / 7 ∧ (BitVec.ofNat 32 (grid0.coords t 1).val).toNat = t.val % 7 := by
  have hc := coords_facts t
  have ht := pt_lt a t
  rw [hc.1, hc.2, BitVec.toNat_ofNat, BitVec.toNat_ofNat, Nat.mod_eq_of_lt (by omega), Nat.mod_eq_of_lt (by omega)]
  exact ⟨rfl, rfl⟩

/-- The expert the weights' windows read at a point. -/
theorem word_pt (t : Fin (cfg0 a).N) :
    (a.1.at 0 (Rect.unit (s := S137) ![(Scalar.indexCast (BitVec.ofNat 32 (grid0.coords t 0).val)).toNat] S1.size (k0_off1_inb (grid0.coords t))) numel1_S1 : BitVec 32)
      = tab a (ix1 ⟨t.val / 7, by have := pt_lt a t; omega⟩) := by
  refine (word_eq a.1 (grid0.coords t)).trans (congrArg (tab a) (funext fun d => ?_))
  match d with
  | ⟨0, _⟩ => exact Fin.ext (coords_facts t).1

/-- The rows' block at a point: row `R`, lane `j` of tile `t / 7`. -/
theorem blk0_at (c : Dev nD) (t : Fin (cfg0 a).N) (R : Fin 8192) (j : Fin 128) :
    (iblk a m ρ c (0 : Fin 5) t : FVec Ideal S8192x128 .f32) (ix2 R j)
      = (m ((c : Thread nD τ).loc main_arg0) : FVec Ideal S139264x8x128 .f32) (ix3 ⟨1024 * (t.val / 7) + R.val / 8, by have := pt_lt a t; omega⟩ ⟨R.val % 8, by omega⟩ j) := by
  have ht := pt_lt a t
  have h0 : ((((cfg0 a).win (0 : Fin 5)).blk t).view.emb (ix2 R j : S8192x128.Idx) : S1114112x128.Idx) = ix2 ⟨8192 * (t.val / 7) + R.val, by omega⟩ j := by
    funext d
    match d with
    | ⟨0, _⟩ =>
      refine Fin.ext ((emb0 a t _ 0).trans ?_)
      show (BitVec.ofNat 32 (grid0.coords t 0).val).toNat * 8192 + R.val = 8192 * (t.val / 7) + R.val
      rw [(coord_words a t).1]; omega
    | ⟨1, _⟩ =>
      refine Fin.ext ((emb0 a t _ 1).trans ?_)
      show 0 * 128 + j.val = j.val
      omega
  refine (congrArg (V m ρ c main_v3 : FVec Ideal S1114112x128 .f32) h0).trans ?_
  refine (slab_at (m ((c : Thread nD τ).loc main_arg0) : FVec Ideal S139264x8x128 .f32) _ _ _).trans ?_
  refine congrArg (m ((c : Thread nD τ).loc main_arg0) : FVec Ideal S139264x8x128 .f32) ?_
  exact congrArg₂ (fun p q => ix3 p q j) (Fin.ext (by dsimp only; omega)) (Fin.ext (by dsimp only; omega))

/-- A gate block at a point: the tile's expert, columns `512 (t % 7) + f`. -/
theorem blk1_at (hT : InRange (tab a)) (c : Dev nD) (t : Fin (cfg0 a).N) (k : Fin 1024) (f : Fin 512) :
    (iblk a m ρ c (1 : Fin 5) t : FVec Ideal S1x1024x512 .bf16) (ix3 0 k f)
      = (m ((c : Thread nD τ).loc main_arg2) : FVec Ideal S8x1024x3584 .f32) (ix3 (expert (tab a) ⟨t.val / 7, by have := pt_lt a t; omega⟩) k ⟨512 * (t.val % 7) + f.val, by omega⟩) := by
  have ht := pt_lt a t
  refine congrArg (m ((c : Thread nD τ).loc main_arg2) : FVec Ideal S8x1024x3584 .f32) (funext fun d => ?_)
  match d with
  | ⟨0, _⟩ =>
    refine Fin.ext ((emb1 a t _ 0).trans ?_)
    show BitVec.toNat _ * 1 + 0 = BitVec.toNat _ % 8
    rw [word_pt]
    exact small_mod _ (hT ⟨t.val / 7, by omega⟩)
  | ⟨1, _⟩ =>
    refine Fin.ext ((emb1 a t _ 1).trans ?_)
    show 0 * 1024 + k.val = k.val
    omega
  | ⟨2, _⟩ =>
    refine Fin.ext ((emb1 a t _ 2).trans ?_)
    show (BitVec.ofNat 32 (grid0.coords t 1).val).toNat * 512 + f.val = 512 * (t.val % 7) + f.val
    rw [(coord_words a t).2]; omega

/-- An up block at a point: the tile's expert, columns `512 (t % 7) + f`. -/
theorem blk2_at (hT : InRange (tab a)) (c : Dev nD) (t : Fin (cfg0 a).N) (k : Fin 1024) (f : Fin 512) :
    (iblk a m ρ c (2 : Fin 5) t : FVec Ideal S1x1024x512 .bf16) (ix3 0 k f)
      = (m ((c : Thread nD τ).loc main_arg3) : FVec Ideal S8x1024x3584 .f32) (ix3 (expert (tab a) ⟨t.val / 7, by have := pt_lt a t; omega⟩) k ⟨512 * (t.val % 7) + f.val, by omega⟩) := by
  have ht := pt_lt a t
  refine congrArg (m ((c : Thread nD τ).loc main_arg3) : FVec Ideal S8x1024x3584 .f32) (funext fun d => ?_)
  match d with
  | ⟨0, _⟩ =>
    refine Fin.ext ((emb2 a t _ 0).trans ?_)
    show BitVec.toNat _ * 1 + 0 = BitVec.toNat _ % 8
    rw [word_pt]
    exact small_mod _ (hT ⟨t.val / 7, by omega⟩)
  | ⟨1, _⟩ =>
    refine Fin.ext ((emb2 a t _ 1).trans ?_)
    show 0 * 1024 + k.val = k.val
    omega
  | ⟨2, _⟩ =>
    refine Fin.ext ((emb2 a t _ 2).trans ?_)
    show (BitVec.ofNat 32 (grid0.coords t 1).val).toNat * 512 + f.val = 512 * (t.val % 7) + f.val
    rw [(coord_words a t).2]; omega

/-- A down block at a point: the tile's expert, rows `512 (t % 7) + f`. -/
theorem blk3_at (hT : InRange (tab a)) (c : Dev nD) (t : Fin (cfg0 a).N) (f : Fin 512) (d : Fin 1024) :
    (iblk a m ρ c (3 : Fin 5) t : FVec Ideal S1x512x1024 .bf16) (ix3 0 f d)
      = (m ((c : Thread nD τ).loc main_arg4) : FVec Ideal S8x3584x1024 .f32) (ix3 (expert (tab a) ⟨t.val / 7, by have := pt_lt a t; omega⟩) ⟨512 * (t.val % 7) + f.val, by omega⟩ d) := by
  have ht := pt_lt a t
  refine congrArg (m ((c : Thread nD τ).loc main_arg4) : FVec Ideal S8x3584x1024 .f32) (funext fun x => ?_)
  match x with
  | ⟨0, _⟩ =>
    refine Fin.ext ((emb3 a t _ 0).trans ?_)
    show BitVec.toNat _ * 1 + 0 = BitVec.toNat _ % 8
    rw [word_pt]
    exact small_mod _ (hT ⟨t.val / 7, by omega⟩)
  | ⟨1, _⟩ =>
    refine Fin.ext ((emb3 a t _ 1).trans ?_)
    show (BitVec.ofNat 32 (grid0.coords t 1).val).toNat * 512 + f.val = 512 * (t.val % 7) + f.val
    rw [(coord_words a t).2]; omega
  | ⟨2, _⟩ =>
    refine Fin.ext ((emb3 a t _ 2).trans ?_)
    show 0 * 1024 + d.val = d.val
    omega

/-! ## A tile's accumulator -/

/-- Tile `k`'s staged rows are the rows `1024 k + r`. -/
theorem xnOf_at (c : Dev nD) (k : Fin 136) (r j : Fin 1024) :
    (xnOf a m ρ c k.val : FVec Ideal S1024x1024 .bf16) (ix2 r j)
      = (m ((c : Thread nD τ).loc main_arg0) : FVec Ideal S139264x8x128 .f32) (ix3 ⟨1024 * k.val + r.val, by omega⟩ ⟨j.val / 128, by omega⟩ ⟨j.val % 128, by omega⟩) := by
  have hv := pt_val a (7 * k.val) (by omega)
  refine (packX_at (iblk a m ρ c (0 : Fin 5) (pt a (7 * k.val)) : FVec Ideal S8192x128 .f32) r j).trans ((blk0_at a m ρ c _ _ _).trans ?_)
  refine congrArg (m ((c : Thread nD τ).loc main_arg0) : FVec Ideal S139264x8x128 .f32) ?_
  exact congrArg₂ (fun p q => ix3 p q _) (Fin.ext (by dsimp only; omega)) (Fin.ext (by dsimp only; omega))

/-- Hidden columns `512 g … 512 g + 511` of a row's feed-forward. -/
def part (X : FVec Ideal S139264x8x128 .f32) (G U : FVec Ideal S8x1024x3584 .f32) (D : FVec Ideal S8x3584x1024 .f32) (e : Fin 8) (r : Fin 139264) (d : Fin 1024) (g : ℕ) : EReal :=
  if h : g < 7 then ∑ f : Fin 512, act X G U e r ⟨512 * g + f.val, by omega⟩ * D (ix3 e ⟨512 * g + f.val, by omega⟩ d) else 0

/-- The seven parts are the whole. -/
theorem parts_eq (X : FVec Ideal S139264x8x128 .f32) (G U : FVec Ideal S8x1024x3584 .f32) (D : FVec Ideal S8x3584x1024 .f32) (e : Fin 8) (r : Fin 139264) (d : Fin 1024) :
    ∑ g ∈ Finset.range 7, part X G U D e r d g = ffn X G U D e r d := by
  unfold ffn
  rw [Finset.sum_range, Fin.sum_univ_tiles 7 512 rfl]
  refine Finset.sum_congr rfl fun g _ => ?_
  unfold part
  rw [dif_pos g.isLt]
  refine Finset.sum_congr rfl fun f _ => ?_
  rw [show (⟨512 * g.val + f.val, by omega⟩ : Fin 3584) = ⟨g.val * 512 + f.val, by omega⟩ from Fin.ext (by dsimp only; omega)]

/-- After `n` steps of tile `k` the accumulator holds the first `n` parts. -/
theorem accOf_at (hT : InRange (tab a)) (c : Dev nD) (k : Fin 136) (r d : Fin 1024) : ∀ n, n ≤ 7 →
    (accOf a m ρ c k.val n : FVec Ideal S1024x1024 .f32) (ix2 r d)
      = ∑ g ∈ Finset.range n, part (m ((c : Thread nD τ).loc main_arg0)) (m ((c : Thread nD τ).loc main_arg2)) (m ((c : Thread nD τ).loc main_arg3)) (m ((c : Thread nD τ).loc main_arg4))
          (expert (tab a) k) ⟨1024 * k.val + r.val, by omega⟩ d g
  | 0, _ => by
    rw [Finset.sum_range_zero]
    show k0_pay2 (F := Ideal) (ix2 r d) = 0
    pointwise [k0_pay2]
  | n + 1, hn => by
    have hv := pt_val a (7 * k.val + n) (by omega)
    have e0 : (expert (tab a) ⟨(pt a (7 * k.val + n)).val / 7, by omega⟩) = expert (tab a) k := congrArg (expert (tab a)) (Fin.ext (by dsimp only; omega))
    have hcol : ∀ f : Fin 512, (⟨512 * ((pt a (7 * k.val + n)).val % 7) + f.val, by omega⟩ : Fin 3584) = ⟨512 * n + f.val, by omega⟩ := fun f => Fin.ext (by dsimp only; rw [hv]; omega)
    have hg : ∀ (i : Fin 1024) (f : Fin 512), (iblk a m ρ c (1 : Fin 5) (pt a (7 * k.val + n)) : FVec Ideal S1x1024x512 .bf16) (ix3 0 i f)
        = (m ((c : Thread nD τ).loc main_arg2) : FVec Ideal S8x1024x3584 .f32) (ix3 (expert (tab a) k) i ⟨512 * n + f.val, by omega⟩) := fun i f => by
      rw [blk1_at a m ρ hT, e0, hcol]
    have hu : ∀ (i : Fin 1024) (f : Fin 512), (iblk a m ρ c (2 : Fin 5) (pt a (7 * k.val + n)) : FVec Ideal S1x1024x512 .bf16) (ix3 0 i f)
        = (m ((c : Thread nD τ).loc main_arg3) : FVec Ideal S8x1024x3584 .f32) (ix3 (expert (tab a) k) i ⟨512 * n + f.val, by omega⟩) := fun i f => by
      rw [blk2_at a m ρ hT, e0, hcol]
    have hd : ∀ (f : Fin 512), (iblk a m ρ c (3 : Fin 5) (pt a (7 * k.val + n)) : FVec Ideal S1x512x1024 .bf16) (ix3 0 f d)
        = (m ((c : Thread nD τ).loc main_arg4) : FVec Ideal S8x3584x1024 .f32) (ix3 (expert (tab a) k) ⟨512 * n + f.val, by omega⟩ d) := fun f => by
      rw [blk3_at a m ρ hT, e0, hcol]
    have ih := accOf_at hT c k r d n (by omega)
    rw [Finset.sum_range_succ]
    refine (pay3_at (xnOf a m ρ c k.val) (iblk a m ρ c (1 : Fin 5) (pt a (7 * k.val + n))) (iblk a m ρ c (2 : Fin 5) (pt a (7 * k.val + n)))
      (accOf a m ρ c k.val n) (iblk a m ρ c (3 : Fin 5) (pt a (7 * k.val + n))) r d).trans ?_
    refine congrArg₂ (· + ·) ih ?_
    unfold part
    rw [dif_pos (by omega)]
    refine Finset.sum_congr rfl fun f _ => ?_
    have pg : (∑ i : Fin 1024, (xnOf a m ρ c k.val : FVec Ideal S1024x1024 .bf16) (ix2 r i) * (iblk a m ρ c (1 : Fin 5) (pt a (7 * k.val + n)) : FVec Ideal S1x1024x512 .bf16) (ix3 0 i f) : EReal)
        = proj (m ((c : Thread nD τ).loc main_arg0)) (m ((c : Thread nD τ).loc main_arg2)) (expert (tab a) k) ⟨1024 * k.val + r.val, by omega⟩ ⟨512 * n + f.val, by omega⟩ :=
      Finset.sum_congr rfl fun i _ => congrArg₂ (· * ·) (xnOf_at a m ρ c k r i) (hg i f)
    have pu : (∑ i : Fin 1024, (xnOf a m ρ c k.val : FVec Ideal S1024x1024 .bf16) (ix2 r i) * (iblk a m ρ c (2 : Fin 5) (pt a (7 * k.val + n)) : FVec Ideal S1x1024x512 .bf16) (ix3 0 i f) : EReal)
        = proj (m ((c : Thread nD τ).loc main_arg0)) (m ((c : Thread nD τ).loc main_arg3)) (expert (tab a) k) ⟨1024 * k.val + r.val, by omega⟩ ⟨512 * n + f.val, by omega⟩ :=
      Finset.sum_congr rfl fun i _ => congrArg₂ (· * ·) (xnOf_at a m ρ c k r i) (hu i f)
    unfold act
    exact congrArg₂ (· * ·) (congrArg₂ (· * ·) (congrArg (fun z : EReal => z * Ideal.div 1 (1 + Ideal.exp (-z))) pg) pu) (hd f)

/-! ## The array the launch leaves -/

/-- A tile is live in the run exactly when it is in the specification. -/
theorem live_iff (T : S137.Idx → BitVec 32) (k : Fin 136) : live (F := Ideal) T k.val ↔ isLive T k := by
  have h : liveW (F := Ideal) T = word T ⟨136, by decide⟩ := by
    unfold word
    refine congrArg T (funext fun x => ?_)
    match x with
    | ⟨0, _⟩ => rfl
  unfold live isLive
  rw [h]; rfl

/-- An accumulator in slabs: row `R`, lane `j` is row `R / 8`, column `128 (R % 8) + j`. -/
theorem slabs_at (A : FVec Ideal S1024x1024 .f32) (R : Fin 8192) (j : Fin 128) :
    (slabs (F := Ideal) A : FVec Ideal S8192x128 .f32) (ix2 R j) = A (ix2 ⟨R.val / 8, by omega⟩ ⟨128 * (R.val % 8) + j.val, by omega⟩) := by
  unfold slabs
  refine congrArg A (funext fun x => ?_)
  match x with
  | ⟨0, _⟩ => rfl
  | ⟨1, _⟩ => rfl

/-- Tile `k`'s block of the result. -/
theorem outOf_at (hT : InRange (tab a)) (c : Dev nD) (k : Fin 136) (R : Fin 8192) (j : Fin 128) :
    (outOf a m ρ c k.val : FVec Ideal S8192x128 .f32) (ix2 R j)
      = result (m ((c : Thread nD τ).loc main_arg0)) (tab a) (m ((c : Thread nD τ).loc main_arg2)) (m ((c : Thread nD τ).loc main_arg3)) (m ((c : Thread nD τ).loc main_arg4))
          (ix2 ⟨8192 * k.val + R.val, by omega⟩ j) := by
  have hk : (⟨(8192 * k.val + R.val) / 8 / 1024, by omega⟩ : Fin 136) = k := Fin.ext (by dsimp only; omega)
  have hr : (⟨(8192 * k.val + R.val) / 8, by omega⟩ : Fin 139264) = ⟨1024 * k.val + R.val / 8, by omega⟩ := Fin.ext (by dsimp only; omega)
  have hc : (⟨128 * ((8192 * k.val + R.val) % 8) + j.val, by omega⟩ : Fin 1024) = ⟨128 * (R.val % 8) + j.val, by omega⟩ := Fin.ext (by dsimp only; omega)
  have h1 : R.val / 8 < 1024 := by omega
  have h2 : 128 * (R.val % 8) + j.val < 1024 := by omega
  show _ = moe _ _ _ _ _ ⟨(8192 * k.val + R.val) / 8, _⟩ ⟨128 * ((8192 * k.val + R.val) % 8) + j.val, _⟩
  unfold moe outOf
  rw [hk, hr, hc]
  by_cases hl : live (tab a) k.val
  · rw [if_pos hl, if_pos ((live_iff _ k).mp hl), ← parts_eq]
    exact (slabs_at (accOf a m ρ c k.val 7) R j).trans (accOf_at a m ρ hT c k ⟨R.val / 8, h1⟩ ⟨128 * (R.val % 8) + j.val, h2⟩ 7 (le_refl 7))
  · rw [if_neg hl, if_neg (fun h => hl ((live_iff _ k).mpr h))]
    show k0_pay12 (F := Ideal) (ix2 R j) = 0
    pointwise [k0_pay12]

/-- The output's array has 136 blocks of rows and one of lanes. -/
theorem nblk_4 : ((cfg0 a).win (4 : Fin 5)).nblk (0 : Fin 2) = 136 ∧ ((cfg0 a).win (4 : Fin 5)).nblk (1 : Fin 2) = 1 := by
  have e0 : ((cfg0 a).win (4 : Fin 5)).shape.size (0 : Fin 2) = 1114112 := rfl
  have e1 : ((cfg0 a).win (4 : Fin 5)).size (0 : Fin 2) = 8192 := rfl
  have e2 : ((cfg0 a).win (4 : Fin 5)).shape.size (1 : Fin 2) = 128 := rfl
  have e3 : ((cfg0 a).win (4 : Fin 5)).size (1 : Fin 2) = 128 := rfl
  unfold Pipeline.Window.nblk
  exact ⟨by rw [e0, e1], by rw [e2, e3]⟩

/-- Every block of the output's array is some point's. -/
theorem covers_4 : ((cfg0 a).win (4 : Fin 5)).Covers :=
  Pipeline.Window.covers_of_index_surj _ rfl (fun x => by match x with | ⟨0, _⟩ => exact (show 0 < 8192 by decide) | ⟨1, _⟩ => exact (show 0 < 128 by decide)) fun β => by
    have h0 : (β 0).val < 136 := lt_of_lt_of_eq (β 0).isLt (nblk_4 a).1
    have h1 : (β 1).val < 1 := lt_of_lt_of_eq (β 1).isLt (nblk_4 a).2
    refine ⟨pt a (7 * (β 0).val), fun x => ?_⟩
    match x with
    | ⟨0, _⟩ =>
      show (BitVec.ofNat 32 (grid0.coords (pt a (7 * (β 0).val)) 0).val).toNat = (β 0).val
      rw [(coord_words a _).1, pt_val a _ (by omega)]; omega
    | ⟨1, _⟩ =>
      show 0 = (β 1).val
      omega

/-- What the launch leaves in the output's array. -/
theorem arr_4 (hT : InRange (tab a)) (c : Dev nD) :
    ((dats a m ρ 0 c).arrAt (4 : Fin 5) (cfg0 a).N : FVec Ideal S1114112x128 .f32)
      = result (m ((c : Thread nD τ).loc main_arg0)) (tab a) (m ((c : Thread nD τ).loc main_arg2)) (m ((c : Thread nD τ).loc main_arg3)) (m ((c : Thread nD τ).loc main_arg4)) := by
  refine (dats a m ρ 0 c).arrAt_eq_of_covers (4 : Fin 5) _ (covers_4 a) fun t _ y => ?_
  have ht := pt_lt a t
  change S8192x128.Idx at y
  rw [after_4]
  have hy : ((((cfg0 a).win (4 : Fin 5)).blk t).view.emb y : S1114112x128.Idx) = ix2 ⟨8192 * (t.val / 7) + (y 0).val, by have := ValueIdx.idx2_lt0 y; omega⟩ ⟨(y 1).val, ValueIdx.idx2_lt1 y⟩ := by
    funext d
    match d with
    | ⟨0, _⟩ =>
      refine Fin.ext ((emb4 a t _ 0).trans ?_)
      show (BitVec.ofNat 32 (grid0.coords t 0).val).toNat * 8192 + (y 0).val = 8192 * (t.val / 7) + (y 0).val
      rw [(coord_words a t).1]; omega
    | ⟨1, _⟩ =>
      refine Fin.ext ((emb4 a t _ 1).trans ?_)
      show 0 * 128 + (y 1).val = (y 1).val
      omega
  refine Eq.trans ?_ (congrArg (result (m ((c : Thread nD τ).loc main_arg0)) (tab a) (m ((c : Thread nD τ).loc main_arg2)) (m ((c : Thread nD τ).loc main_arg3)) (m ((c : Thread nD τ).loc main_arg4))) hy.symm)
  refine Eq.trans ?_ (outOf_at a m ρ hT c ⟨t.val / 7, by omega⟩ ⟨(y 0).val, ValueIdx.idx2_lt0 y⟩ ⟨(y 1).val, ValueIdx.idx2_lt1 y⟩)
  exact congrArg (outOf a m ρ c (t.val / 7) : FVec Ideal S8192x128 .f32) (funext fun x => by match x with | ⟨0, _⟩ => rfl | ⟨1, _⟩ => rfl)

end Cert.KernelIdeal.Hand

end
-- ==== Proof.RefVal.lean ====
/- The reference's composed term, read at an index: the grouped products of `Spec.lean`. -/
module

public import proofs.«01_k».proof.Proof.Spec
public import proofs.«01_k».proof.Proof.Gen.ReferenceIdeal.Run
public import Idealize.ShloMosaic.Lib.Routing.Words
public import Idealize.ShloMosaic.Lib.Affine

@[expose] public section

set_option maxRecDepth 16384

noncomputable section

namespace Cert.MoE

open Cert.ReferenceIdeal Cert.ReferenceIdeal.Gen Idealize.ShloMosaic Idealize.ShloMosaic.TcCoe Idealize.SL.Sem

/-- One expert's feed-forward of every row, as the reference prints it. -/
def refFfn (X : FVec Ideal S139264x8x128 .f32) (G U : FVec Ideal S8x1024x3584 .f32) (D : FVec Ideal S8x3584x1024 .f32) (e : ℕ)
    (h1 : S8x1024x3584.Slices ![e, 0, 0] S1x1024x3584) (h2 : S8x3584x1024.Slices ![e, 0, 0] S1x3584x1024) : FVec Ideal S139264x1024 .f32 :=
  Host.dotGeneral (φ₁ := .f32) (φ₂ := .f32) dot_S139264x3584_S3584x1024_S139264x1024_1_0_0_1_n_n none
    (mulf (mulf (Host.dotGeneral (φ₁ := .f32) (φ₂ := .f32) dot_S139264x1024_S1024x3584_S139264x3584_1_0_0_1_n_n none (shapeCast _ X shapeCasts_S139264x8x128_S139264x1024) (shapeCast _ (extractStridedSlice S1x1024x3584 ![e, 0, 0] G h1) shapeCasts_S1x1024x3584_S1024x3584))
      (Host.divf (broadcastInDim S139264x3584 ![] bcast_S_S139264x3584 (constant S_ .f32 0x3F800000#32))
        (addf (broadcastInDim S139264x3584 ![] bcast_S_S139264x3584 (constant S_ .f32 0x3F800000#32))
          (Host.exp (Host.negf (Host.dotGeneral (φ₁ := .f32) (φ₂ := .f32) dot_S139264x1024_S1024x3584_S139264x3584_1_0_0_1_n_n none (shapeCast _ X shapeCasts_S139264x8x128_S139264x1024) (shapeCast _ (extractStridedSlice S1x1024x3584 ![e, 0, 0] G h1) shapeCasts_S1x1024x3584_S1024x3584)))))))
      (Host.dotGeneral (φ₁ := .f32) (φ₂ := .f32) dot_S139264x1024_S1024x3584_S139264x3584_1_0_0_1_n_n none (shapeCast _ X shapeCasts_S139264x8x128_S139264x1024) (shapeCast _ (extractStridedSlice S1x1024x3584 ![e, 0, 0] U h1) shapeCasts_S1x1024x3584_S1024x3584)))
    (shapeCast _ (extractStridedSlice S1x3584x1024 ![e, 0, 0] D h2) shapeCasts_S1x3584x1024_S3584x1024)

/-- It is the feed-forward of `Spec.lean`. -/
theorem refFfn_at (X : FVec Ideal S139264x8x128 .f32) (G U : FVec Ideal S8x1024x3584 .f32) (D : FVec Ideal S8x3584x1024 .f32) (e : Fin 8) (h1) (h2) (r : Fin 139264) (d : Fin 1024) :
    refFfn X G U D e.val h1 h2 (ix2 r d) = ffn X G U D e r d := by
  pointwise [refFfn, ffn, act, proj]

/-- The rows' numbers. -/
abbrev rowIota : S139264.Idx → BitVec 32 := iotaInDim S139264 32 0
/-- A word at every row. -/
abbrev atRows (x : S_.Idx → BitVec 32) : S139264.Idx → BitVec 32 := broadcastInDim S139264 ![] bcast_S_S139264 x
/-- The rows' tiles, as the reference divides. -/
def rowTile : S139264.Idx → BitVec 32 :=
  select (andi (cmpi .ne (signi rowIota) (atRows (signi (id (constantI S_ 32 1024#32))))) (cmpi .ne (Host.remsi rowIota (atRows (id (constantI S_ 32 1024#32)))) (atRows (constantI S_ 32 0#32))))
    (subi (Host.divsi rowIota (atRows (id (constantI S_ 32 1024#32)))) (atRows (constantI S_ 32 1#32))) (Host.divsi rowIota (atRows (id (constantI S_ 32 1024#32))))

/-- The combine weights, as the reference prints them. -/
def comb (T : S137.Idx → BitVec 32) : FVec Ideal S139264x8 .f32 :=
  select (broadcastInDim S139264x8 ![0, 1] bcast_S139264x1_S139264x8_0_1 (broadcastInDim S139264x1 ![0] bcast_S139264_S139264x1_0 (cmpi .slt rowTile (broadcastInDim S139264 ![] bcast_S_S139264 (shapeCast _ (extractStridedSlice S1 ![136] T slices_S137_S1_136) shapeCasts_S1_S_)))))
    (uitofp .f32 (cmpi .eq (broadcastInDim S139264x8 ![0, 1] bcast_S139264x1_S139264x8_0_1 (broadcastInDim S139264x1 ![0] bcast_S139264_S139264x1_0 (shapeCast _ (broadcastInDim S136x1024 ![0] bcast_S136_S136x1024_0 (extractStridedSlice S136 ![0] T slices_S137_S136_0)) shapeCasts_S136x1024_S139264)))
      (broadcastInDim S139264x8 ![0, 1] bcast_S1x8_S139264x8_0_1 (iotaInDim S1x8 32 1))))
    (broadcastInDim S139264x8 ![] bcast_S_S139264x8 (id (constant S_ .f32 0x00000000#32)))

/-- A small row's quotient by 1024, as the reference divides it: the correction toward the floor never applies. -/
theorem quot_at (n : ℕ) (hn : n < 2 ^ 31) :
    Scalar.select (IntOp.andi (IntOp.cmpi CmpIPredicate.ne (if BitVec.ofNat 32 n = 0 then 0 else if (BitVec.ofNat 32 n).msb = true then -1 else 1 : BitVec 32)
          (if (1024#32 : BitVec 32) = 0 then 0 else if (1024#32 : BitVec 32).msb = true then -1 else 1))
        (IntOp.cmpi CmpIPredicate.ne (IntOp.remsi ArithUnit.host (BitVec.ofNat 32 n) 1024#32) 0#32))
      (IntOp.subi (IntOp.divsi ArithUnit.host (BitVec.ofNat 32 n) 1024#32) 1#32) (IntOp.divsi ArithUnit.host (BitVec.ofNat 32 n) 1024#32)
      = BitVec.ofNat 32 (n / 1024) := by
  rw [Routing.remsi_word (b := 1024) _ hn (by decide) (by decide), Routing.divsi_word (b := 1024) _ hn (by decide) (by decide)]
  have hm : (BitVec.ofNat 32 n).msb = false := by
    rw [BitVec.msb_eq_false_iff_two_mul_lt, BitVec.toNat_ofNat, Nat.mod_eq_of_lt (by omega)]; omega
  have hs : (if (1024#32 : BitVec 32) = 0 then 0 else if (1024#32 : BitVec 32).msb = true then -1 else 1 : BitVec 32) = 1 := by decide
  rw [hm, hs]
  by_cases h0 : n = 0
  · subst h0; decide
  · have hz : ¬ BitVec.ofNat 32 n = 0 := fun h => h0 (by
      have := congrArg BitVec.toNat h
      rw [BitVec.toNat_ofNat, Nat.mod_eq_of_lt (by omega)] at this
      exact this)
    rw [if_neg hz, if_neg Bool.false_ne_true]
    have e : ∀ b : BitVec 1, IntOp.andi (IntOp.cmpi CmpIPredicate.ne (1 : BitVec 32) 1) b = 0#1 := by decide
    rw [e]; rfl

/-- A row's tile. -/
theorem rowTile_at (r : Fin 139264) : rowTile (ix1 r) = BitVec.ofNat 32 (r.val / 1024) := quot_at r.val (by omega)

theorem bit_zero {b : BitVec 1} (h : ¬ b = 1#1) : b = 0#1 := by revert b; decide

open Classical in
/-- A combine weight: one at a live row's own expert, zero elsewhere. -/
theorem comb_at (T : S137.Idx → BitVec 32) (r : Fin 139264) (e : Fin 8) :
    comb T (ix2 r e) = if isLive T ⟨r.val / 1024, by omega⟩ ∧ T (ix1 ⟨r.val / 1024, by omega⟩) = BitVec.ofNat 32 e.val then 1 else 0 := by
  have hid' : ∀ x : FVec Ideal S_ .f32, id x = x := fun _ => rfl
  pointwise [comb, hid', rowTile_at]
  by_cases hl : isLive T ⟨r.val / 1024, by omega⟩
  · have hl' : IntOp.cmpi CmpIPredicate.slt (BitVec.ofNat 32 (r.val / 1024)) (T (ix1 136)) = 1#1 := hl
    rw [hl']
    by_cases he : T (ix1 ⟨r.val / 1024, by omega⟩) = BitVec.ofNat 32 e.val
    · rw [if_pos ⟨hl, he⟩, IntOp.cmpi_eq.2 he]
      show (((1#1 : BitVec 1).toNat : ℝ) : EReal) = 1
      simp
    · rw [if_neg (fun h => he h.2), bit_zero (fun h => he (IntOp.cmpi_eq.1 h))]
      show (((0#1 : BitVec 1).toNat : ℝ) : EReal) = 0
      simp
  · have hl' : ¬ IntOp.cmpi CmpIPredicate.slt (BitVec.ofNat 32 (r.val / 1024)) (T (ix1 136)) = 1#1 := hl
    rw [if_neg (fun h => hl h.1)]
    exact if_neg hl'

/-- One expert's share of the result, as the reference prints it: its combine weight times its feed-forward. -/
def refTerm (X : FVec Ideal S139264x8x128 .f32) (T : S137.Idx → BitVec 32) (G U : FVec Ideal S8x1024x3584 .f32) (D : FVec Ideal S8x3584x1024 .f32) (e : ℕ)
    (h1 : S8x1024x3584.Slices ![e, 0, 0] S1x1024x3584) (h2 : S8x3584x1024.Slices ![e, 0, 0] S1x3584x1024) (h3 : S139264x8.Slices ![0, e] S139264x1) : FVec Ideal S139264x1024 .f32 :=
  mulf (broadcastInDim S139264x1024 ![0, 1] bcast_S139264x1_S139264x1024_0_1 (extractStridedSlice S139264x1 ![0, e] (comb T) h3)) (refFfn X G U D e h1 h2)

open Classical in
theorem refTerm_at (X : FVec Ideal S139264x8x128 .f32) (T : S137.Idx → BitVec 32) (G U : FVec Ideal S8x1024x3584 .f32) (D : FVec Ideal S8x3584x1024 .f32) (e : Fin 8) (h1) (h2) (h3) (r : Fin 139264) (d : Fin 1024) :
    refTerm X T G U D e.val h1 h2 h3 (ix2 r d)
      = if isLive T ⟨r.val / 1024, by omega⟩ ∧ T (ix1 ⟨r.val / 1024, by omega⟩) = BitVec.ofNat 32 e.val then ffn X G U D e r d else 0 := by
  have h := comb_at T r e
  pointwise [refTerm, refFfn_at]
  rw [h]
  split_ifs
  · exact one_mul _
  · exact zero_mul _

open Classical in
/-- The same at a literal expert. -/
theorem refTerm_nat (X : FVec Ideal S139264x8x128 .f32) (T : S137.Idx → BitVec 32) (G U : FVec Ideal S8x1024x3584 .f32) (D : FVec Ideal S8x3584x1024 .f32) (e : ℕ) (he : e < 8) (h1) (h2) (h3) (r : Fin 139264) (d : Fin 1024) :
    refTerm X T G U D e h1 h2 h3 (ix2 r d)
      = if isLive T ⟨r.val / 1024, by omega⟩ ∧ T (ix1 ⟨r.val / 1024, by omega⟩) = BitVec.ofNat 32 e then ffn X G U D ⟨e, he⟩ r d else 0 :=
  refTerm_at X T G U D ⟨e, he⟩ h1 h2 h3 r d

/-- The reference's result, as printed. -/
def refOut (X : FVec Ideal S139264x8x128 .f32) (T : S137.Idx → BitVec 32) (G U : FVec Ideal S8x1024x3584 .f32) (D : FVec Ideal S8x3584x1024 .f32) : FVec Ideal S1114112x128 .f32 :=
  shapeCast _ (addf (addf (addf (addf (addf (addf (addf (addf (broadcastInDim S139264x1024 ![] bcast_S_S139264x1024 (constant S_ .f32 0x00000000#32))
    (refTerm X T G U D 0 slices_S8x1024x3584_S1x1024x3584_0_0_0 slices_S8x3584x1024_S1x3584x1024_0_0_0 slices_S139264x8_S139264x1_0_0))
    (refTerm X T G U D 1 slices_S8x1024x3584_S1x1024x3584_1_0_0 slices_S8x3584x1024_S1x3584x1024_1_0_0 slices_S139264x8_S139264x1_0_1))
    (refTerm X T G U D 2 slices_S8x1024x3584_S1x1024x3584_2_0_0 slices_S8x3584x1024_S1x3584x1024_2_0_0 slices_S139264x8_S139264x1_0_2))
    (refTerm X T G U D 3 slices_S8x1024x3584_S1x1024x3584_3_0_0 slices_S8x3584x1024_S1x3584x1024_3_0_0 slices_S139264x8_S139264x1_0_3))
    (refTerm X T G U D 4 slices_S8x1024x3584_S1x1024x3584_4_0_0 slices_S8x3584x1024_S1x3584x1024_4_0_0 slices_S139264x8_S139264x1_0_4))
    (refTerm X T G U D 5 slices_S8x1024x3584_S1x1024x3584_5_0_0 slices_S8x3584x1024_S1x3584x1024_5_0_0 slices_S139264x8_S139264x1_0_5))
    (refTerm X T G U D 6 slices_S8x1024x3584_S1x1024x3584_6_0_0 slices_S8x3584x1024_S1x3584x1024_6_0_0 slices_S139264x8_S139264x1_0_6))
    (refTerm X T G U D 7 slices_S8x1024x3584_S1x1024x3584_7_0_0 slices_S8x3584x1024_S1x3584x1024_7_0_0 slices_S139264x8_S139264x1_0_7)) shapeCasts_S139264x1024_S1114112x128

/-- Of eight terms, one per expert, at most one of which is not zero, the sum is the word's own. -/
theorem sum_eight (f : Fin 8 → EReal) (w : BitVec 32) (hw : w.toNat < 8) :
    (if w = BitVec.ofNat 32 0 then f ⟨0, by decide⟩ else 0) + (if w = BitVec.ofNat 32 1 then f ⟨1, by decide⟩ else 0) + (if w = BitVec.ofNat 32 2 then f ⟨2, by decide⟩ else 0)
      + (if w = BitVec.ofNat 32 3 then f ⟨3, by decide⟩ else 0) + (if w = BitVec.ofNat 32 4 then f ⟨4, by decide⟩ else 0) + (if w = BitVec.ofNat 32 5 then f ⟨5, by decide⟩ else 0)
      + (if w = BitVec.ofNat 32 6 then f ⟨6, by decide⟩ else 0) + (if w = BitVec.ofNat 32 7 then f ⟨7, by decide⟩ else 0) = f ⟨w.toNat % 8, Nat.mod_lt _ (by decide)⟩ := by
  have hk : w = BitVec.ofNat 32 w.toNat := by simp
  generalize w.toNat = k at hk hw
  subst hk
  interval_cases k <;> simp

/-- The reference's result is `Spec.lean`'s, for a table whose experts are among the eight. -/
theorem refOut_eq (X : FVec Ideal S139264x8x128 .f32) (T : S137.Idx → BitVec 32) (G U : FVec Ideal S8x1024x3584 .f32) (D : FVec Ideal S8x3584x1024 .f32)
    (hT : ∀ k : Fin 136, (T (ix1 ⟨k.val, by omega⟩)).toNat < 8) : refOut X T G U D = result X T G U D := by
  funext y
  have h0 : (y 0).val < 1114112 := ValueIdx.idx2_lt0 y
  have h1 : (y 1).val < 128 := ValueIdx.idx2_lt1 y
  unfold result
  idx_vars y
  pointwise [refOut]
  have hd : (⟨128 * (y0.val % 8) + y1.val, by omega⟩ : Fin 1024) = ⟨y0.val % 8 * 128 + y1.val, by omega⟩ := Fin.ext (by show 128 * (y0.val % 8) + y1.val = y0.val % 8 * 128 + y1.val; omega)
  rw [hd]
  generalize (⟨y0.val / 8, _⟩ : Fin 139264) = r
  generalize (⟨y0.val % 8 * 128 + y1.val, _⟩ : Fin 1024) = d
  rw [refTerm_nat X T G U D 0 (by decide), refTerm_nat X T G U D 1 (by decide), refTerm_nat X T G U D 2 (by decide), refTerm_nat X T G U D 3 (by decide),
    refTerm_nat X T G U D 4 (by decide), refTerm_nat X T G U D 5 (by decide), refTerm_nat X T G U D 6 (by decide), refTerm_nat X T G U D 7 (by decide)]
  unfold moe
  by_cases hl : isLive T ⟨r.val / 1024, by omega⟩
  · rw [if_pos hl]
    simp only [hl, true_and]
    exact sum_eight (fun e => ffn X G U D e r d) _ (hT ⟨r.val / 1024, by omega⟩)
  · rw [if_neg hl]
    simp only [hl, false_and, if_false, add_zero]

/-- The reference's run leaves `Spec.lean`'s result of its arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2⟩) (Cert.ReferenceIdeal.Value.run (F := Ideal) m ρ)

end Cert.MoE

end
-- ==== Proof.Algebraic.lean ====
/- The kernel's and the reference's results agree: each is the array of the specification. -/
module

public import proofs.«01_k».proof.Defs
public import proofs.«01_k».proof.Proof.KerVal
public import proofs.«01_k».proof.Proof.RefVal
public import Idealize.ShloMosaic.Init

@[expose] public section

set_option maxRecDepth 16384

noncomputable section

namespace Cert.MoE

open Idealize.ShloMosaic Idealize.ShloMosaic.TcCoe Idealize.SL.Sem

/-- The idealized reference's frame. -/
theorem frame_ref : Cert.quiescent_ReferenceIdeal := by
  intro m ρ _
  exact (θ_run Cert.ReferenceIdeal.defs _ _).mono (fun r h => ⟨fun c => (h c).2, Idealize.ShloMosaic.sem_eq_zero_of_no_sems (by decide) r.2⟩)
    (ref_run m ρ)

/-- On the same arguments the idealized kernel and the idealized reference leave the same result. -/
theorem algebraic : Cert.algebraic_KernelIdeal_ReferenceIdeal := by
  intro m g m' g' hp hargs
  have hT := Cert.KernelIdeal.Hand.inRange_of_pre _ _ _ _ _ (hp 0)
  refine ⟨fun c => result (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)), ?_, ?_⟩
  · refine (θ_run Cert.KernelIdeal.defs _ _).mono (fun r h c => ⟨?_, (h.1 c).2⟩) (Cert.KernelIdeal.Hand.run_inRange (F := Ideal) m g hT)
    have hc := Cert.KernelIdeal.Hand.dev_eq c
    subst hc
    exact ((h.1 0).1 (4 : Fin 5)).trans (Cert.KernelIdeal.Hand.arr_4 (Cert.KernelIdeal.Hand.admOf (F := Ideal) _ hT) m g hT 0)
  · refine (θ_run Cert.ReferenceIdeal.defs _ _).mono (fun r h c => ⟨?_, (h c).2⟩) (ref_run m' g')
    obtain ⟨h0, h1, h2, h3, h4⟩ := hargs c
    have hc := Cert.KernelIdeal.Hand.dev_eq c
    subst hc
    rw [(h 0).1, h0, h1, h2, h3, h4]
    exact refOut_eq _ _ _ _ _ hT

end Cert.MoE

end
-- ==== Proof.DenseSpec.lean ====
/- The dense feed-forward as sums over plain indices: a row normalized and modulated, its gated hidden layer, and the
   result added to the row. -/
module

public import proofs.«01_k».proof.DenseIdeal
public import Idealize.ShloMosaic.PureOps.Ideal
public import Idealize.ShloMosaic.Lib.ValueIdx
public import Idealize.ShloMosaic.Lib.Pointwise

@[expose] public section

set_option maxRecDepth 16384

noncomputable section

namespace Cert.DenseFfn

open Cert.DenseIdeal Idealize.ShloMosaic

/-- The factor that normalizes row `r` of batch `b`: one over the root of the mean square plus the printed constant. -/
def inv (X : FVec Ideal S16x4096x1024 .f32) (b : Fin 16) (r : Fin 4096) : EReal :=
  Ideal.rsqrt (Ideal.div (∑ k : Fin 1024, X (ix3 b r k) * X (ix3 b r k)) (Ideal.ofBits .f32 0x44800000#32) + Ideal.ofBits .f32 0x358637BD#32)

/-- The row normalized, scaled and shifted. -/
def normed (X : FVec Ideal S16x4096x1024 .f32) (g : FVec Ideal S1024 .f32) (sh sc : FVec Ideal S16x1x1024 .f32) (b : Fin 16) (r : Fin 4096) (k : Fin 1024) : EReal :=
  X (ix3 b r k) * inv X b r * g (ix1 k) * (1 + sc (ix3 b 0 k)) + sh (ix3 b 0 k)

/-- A row times a column of a matrix. -/
def proj (N : Fin 1024 → EReal) (W : FVec Ideal S1024x2816 .f32) (f : Fin 2816) : EReal := ∑ k : Fin 1024, N k * W (ix2 k f)

/-- The gated activation: silu of the gate's projection times the up projection. -/
def act (N : Fin 1024 → EReal) (G U : FVec Ideal S1024x2816 .f32) (f : Fin 2816) : EReal :=
  proj N G f * Ideal.div 1 (1 + Ideal.exp (-(proj N G f))) * proj N U f

/-- The row's feed-forward, column `d`. -/
def ffn (N : Fin 1024 → EReal) (G U : FVec Ideal S1024x2816 .f32) (D : FVec Ideal S2816x1024 .f32) (d : Fin 1024) : EReal :=
  ∑ f : Fin 2816, act N G U f * D (ix2 f d)

/-- Row `r` of batch `b`, column `d`, of the result: the row plus the gate times its feed-forward. -/
def dense (X : FVec Ideal S16x4096x1024 .f32) (g : FVec Ideal S1024 .f32) (sh sc gt : FVec Ideal S16x1x1024 .f32) (G U : FVec Ideal S1024x2816 .f32) (D : FVec Ideal S2816x1024 .f32)
    (b : Fin 16) (r : Fin 4096) (d : Fin 1024) : EReal :=
  X (ix3 b r d) + gt (ix3 b 0 d) * ffn (normed X g sh sc b r) G U D d

/-- The result array. -/
def result (X : FVec Ideal S16x4096x1024 .f32) (g : FVec Ideal S1024 .f32) (sh sc gt : FVec Ideal S16x1x1024 .f32) (G U : FVec Ideal S1024x2816 .f32) (D : FVec Ideal S2816x1024 .f32) :
    FVec Ideal S16x4096x1024 .f32 :=
  fun y => dense X g sh sc gt G U D (y 0) (y 1) (y 2)

end Cert.DenseFfn

end
-- ==== Proof.DenseKer.lean ====
/- The dense feed-forward kernel's result array at the ideal values: what the points leave, the blocks at coordinates, the
   two halves of the hidden layer put together, are the array of `DenseSpec.lean`. -/
module

public import proofs.«01_k».proof.Proof.DenseSpec
public import proofs.«01_k».proof.Proof.Gen.DenseIdeal.Value
public import Idealize.ShloMosaic.Lib.Pipeline.ValueKit

@[expose] public section

set_option maxRecDepth 16384

noncomputable section

namespace Cert.DenseFfn

open Cert.DenseIdeal Cert.DenseIdeal.Gen
open Idealize.ShloMosaic Idealize.ShloMosaic.TcCoe Idealize.SL.Sem

/-! ## What the points leave -/

section Points

variable {F : FTy → Type} [FloatOps F]
variable (m : (ℓ : Loc nD τ sig) → Buf (Elt F) ℓ)

/-- A first point leaves the normalized rows in the first scratch, -/
theorem rows_first (c : Dev nD) (t : Fin cfg0.N) (h0 : t.val % 2 = 0) :
    (outsAt0 m c t.val t.isLt).2.1 = k0_pay1 (iblk m c 0 t) (iblk m c 1 t) (iblk m c 2 t) (iblk m c 3 t) := by
  rw [outsAt0_A m c t h0 (by omega)]
  dsimp only
  frame_out

/-- and the first half's contribution to zero in the second. -/
theorem acc_first (c : Dev nD) (t : Fin cfg0.N) (h0 : t.val % 2 = 0) :
    (outsAt0 m c t.val t.isLt).2.2
      = k0_pay3 (k0_pay1 (iblk m c 0 t) (iblk m c 1 t) (iblk m c 2 t) (iblk m c 3 t)) (iblk m c 5 t) (iblk m c 6 t) k0_pay2 (iblk m c 7 t) := by
  rw [outsAt0_A m c t h0 (by omega)]
  dsimp only
  frame_out

/-- A second point leaves in the output's block the rows plus the gate times both halves. -/
theorem out_second (c : Dev nD) (t : Fin cfg0.N) (h1 : t.val % 2 = 1) :
    (outsAt0 m c t.val t.isLt).1 = k0_pay4 (iblk m c 0 t) (iblk m c 4 t)
      (k0_pay3 (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t)) := by
  rw [outsAt0_B m c t (by omega) h1]
  dsimp only
  frame_out
  exact congrArg₂ (fun p q => k0_pay4 (iblk m c 0 t) (iblk m c 4 t) (k0_pay3 p (iblk m c 5 t) (iblk m c 6 t) q (iblk m c 7 t)))
    ((Memref.isWhole_whole cc0_scratch0).read_unread _) ((Memref.isWhole_whole cc0_scratch1).read_unread _)

end Points

/-! ## The payloads at an index -/

/-- The normalized rows of a block. -/
theorem pay1_at (x : FVec Ideal S1x1024x1024 .f32) (g : FVec Ideal S1x1024 .f32) (sh sc : FVec Ideal S1x1x1024 .f32) (r k : Fin 1024) :
    k0_pay1 (F := Ideal) x g sh sc (ix2 r k)
      = x (ix3 0 r k) * Ideal.rsqrt (Ideal.div (∑ j : Fin 1024, x (ix3 0 r j) * x (ix3 0 r j)) (Ideal.ofBits .f32 0x44800000#32) + Ideal.ofBits .f32 0x358637BD#32)
        * g (ix2 0 k) * (1 + sc (ix3 0 0 k)) + sh (ix3 0 0 k) := by
  pointwise [k0_pay1]

/-- The zero the accumulator starts from. -/
theorem pay2_at (r d : Fin 1024) : k0_pay2 (F := Ideal) (ix2 r d) = 0 := by
  pointwise [k0_pay2]

/-- One half's contribution. -/
theorem pay3_at (xn : FVec Ideal S1024x1024 .bf16) (wg wu : FVec Ideal S1024x1408 .bf16) (acc : FVec Ideal S1024x1024 .f32) (wd : FVec Ideal S1408x1024 .bf16) (r d : Fin 1024) :
    k0_pay3 (F := Ideal) xn wg wu acc wd (ix2 r d) = acc (ix2 r d) + ∑ f : Fin 1408,
      ((∑ k : Fin 1024, xn (ix2 r k) * wg (ix2 k f)) * Ideal.div 1 (1 + Ideal.exp (-(∑ k : Fin 1024, xn (ix2 r k) * wg (ix2 k f)))) * (∑ k : Fin 1024, xn (ix2 r k) * wu (ix2 k f))) * wd (ix2 f d) := by
  pointwise [k0_pay3, zero_sub]

/-- The result block. -/
theorem pay4_at (x : FVec Ideal S1x1024x1024 .f32) (g : FVec Ideal S1x1x1024 .f32) (a : FVec Ideal S1024x1024 .f32) (r k : Fin 1024) :
    k0_pay4 (F := Ideal) x g a (ix3 0 r k) = x (ix3 0 r k) + g (ix3 0 0 k) * a (ix2 r k) := by
  pointwise [k0_pay4]

/-! ## The blocks at coordinates -/

variable (m : (ℓ : Loc nD τ sig) → Buf (Elt Ideal) ℓ)

/-- Point `t`'s coordinates: the batch, the block of rows and the half. -/
theorem coords_facts : ∀ t : Fin grid0.N, (grid0.coords t 0).val = t.val / 8 ∧ (grid0.coords t 1).val = t.val / 2 % 4 ∧ (grid0.coords t 2).val = t.val % 2 := by
  decide +kernel

/-- A point lies on the grid. -/
theorem pt_lt (t : Fin cfg0.N) : t.val < 128 := by have := t.isLt; have h := N_0; change t.val < grid0.N at this; omega

/-- The words of a point's coordinates. -/
theorem coord_words (t : Fin cfg0.N) : (BitVec.ofNat 32 (grid0.coords t 0).val).toNat = t.val / 8 ∧ (BitVec.ofNat 32 (grid0.coords t 1).val).toNat = t.val / 2 % 4
    ∧ (BitVec.ofNat 32 (grid0.coords t 2).val).toNat = t.val % 2 := by
  obtain ⟨h0, h1, h2⟩ := coords_facts t
  have ht := pt_lt t
  have hw : ∀ n : ℕ, n < 128 → (BitVec.ofNat 32 n).toNat = n := fun n hn => by rw [BitVec.toNat_ofNat]; exact Nat.mod_eq_of_lt (by omega)
  exact ⟨(hw _ (by omega)).trans h0, (hw _ (by omega)).trans h1, (hw _ (by omega)).trans h2⟩

/-- Point `t`'s batch, -/
def bat (t : Fin cfg0.N) : Fin 16 := ⟨t.val / 8, by have := pt_lt t; omega⟩
/-- row `r` of its block, -/
def row (t : Fin cfg0.N) (r : Fin 1024) : Fin 4096 := ⟨1024 * (t.val / 2 % 4) + r.val, by omega⟩
/-- and column `f` of its half. -/
def col (t : Fin cfg0.N) (f : Fin 1408) : Fin 2816 := ⟨1408 * (t.val % 2) + f.val, by omega⟩

theorem emb0 (t : Fin cfg0.N) (y : S1x1024x1024.Idx) (d : Fin 3) :
    ((((cfg0).win (0 : Fin 10)).blk t).view.emb y d : ℕ) = cc0_transform_0 (grid0.coords t) d * S1x1024x1024.size d + (y d).val := (cfg0.win (0 : Fin 10)).rect_emb_val t y d rfl
theorem emb1 (t : Fin cfg0.N) (y : S1x1024.Idx) (d : Fin 2) :
    ((((cfg0).win (1 : Fin 10)).blk t).view.emb y d : ℕ) = cc0_transform_1 (grid0.coords t) d * S1x1024.size d + (y d).val := (cfg0.win (1 : Fin 10)).rect_emb_val t y d rfl
theorem emb2 (t : Fin cfg0.N) (y : S1x1x1024.Idx) (d : Fin 3) :
    ((((cfg0).win (2 : Fin 10)).blk t).view.emb y d : ℕ) = cc0_transform_2 (grid0.coords t) d * S1x1x1024.size d + (y d).val := (cfg0.win (2 : Fin 10)).rect_emb_val t y d rfl
theorem emb3 (t : Fin cfg0.N) (y : S1x1x1024.Idx) (d : Fin 3) :
    ((((cfg0).win (3 : Fin 10)).blk t).view.emb y d : ℕ) = cc0_transform_3 (grid0.coords t) d * S1x1x1024.size d + (y d).val := (cfg0.win (3 : Fin 10)).rect_emb_val t y d rfl
theorem emb4 (t : Fin cfg0.N) (y : S1x1x1024.Idx) (d : Fin 3) :
    ((((cfg0).win (4 : Fin 10)).blk t).view.emb y d : ℕ) = cc0_transform_4 (grid0.coords t) d * S1x1x1024.size d + (y d).val := (cfg0.win (4 : Fin 10)).rect_emb_val t y d rfl
theorem emb5 (t : Fin cfg0.N) (y : S1024x1408.Idx) (d : Fin 2) :
    ((((cfg0).win (5 : Fin 10)).blk t).view.emb y d : ℕ) = cc0_transform_5 (grid0.coords t) d * S1024x1408.size d + (y d).val := (cfg0.win (5 : Fin 10)).rect_emb_val t y d rfl
theorem emb6 (t : Fin cfg0.N) (y : S1024x1408.Idx) (d : Fin 2) :
    ((((cfg0).win (6 : Fin 10)).blk t).view.emb y d : ℕ) = cc0_transform_6 (grid0.coords t) d * S1024x1408.size d + (y d).val := (cfg0.win (6 : Fin 10)).rect_emb_val t y d rfl
theorem emb7 (t : Fin cfg0.N) (y : S1408x1024.Idx) (d : Fin 2) :
    ((((cfg0).win (7 : Fin 10)).blk t).view.emb y d : ℕ) = cc0_transform_7 (grid0.coords t) d * S1408x1024.size d + (y d).val := (cfg0.win (7 : Fin 10)).rect_emb_val t y d rfl

/-- The rows' block. -/
theorem blk0_at (c : Dev nD) (t : Fin cfg0.N) (r k : Fin 1024) :
    (iblk m c 0 t : FVec Ideal S1x1024x1024 .f32) (ix3 0 r k) = (m ((c : Thread nD τ).loc main_arg0) : FVec Ideal S16x4096x1024 .f32) (ix3 (bat t) (row t r) k) := by
  refine congrArg (V m c main_arg0 : FVec Ideal S16x4096x1024 .f32) (a₂ := ix3 (bat t) (row t r) k) (funext fun d => ?_)
  obtain ⟨h0, h1, h2⟩ := coord_words t
  match d with
  | ⟨0, _⟩ =>
    refine Fin.ext ((emb0 t _ 0).trans ?_)
    show (BitVec.ofNat 32 (grid0.coords t 0).val).toNat * 1 + 0 = t.val / 8
    omega
  | ⟨1, _⟩ =>
    refine Fin.ext ((emb0 t _ 1).trans ?_)
    show (BitVec.ofNat 32 (grid0.coords t 1).val).toNat * 1024 + r.val = 1024 * (t.val / 2 % 4) + r.val
    omega
  | ⟨2, _⟩ =>
    refine Fin.ext ((emb0 t _ 2).trans ?_)
    show 0 * 1024 + k.val = k.val
    omega

/-- A vector as a one-row matrix. -/
theorem vec_at (g : FVec Ideal S1024 .f32) (h) (k : Fin 1024) : shapeCast S1x1024 g h (ix2 0 k) = g (ix1 k) := by
  pointwise

/-- The norm's gains. -/
theorem blk1_at (c : Dev nD) (t : Fin cfg0.N) (k : Fin 1024) :
    (iblk m c 1 t : FVec Ideal S1x1024 .f32) (ix2 0 k) = (m ((c : Thread nD τ).loc main_arg1) : FVec Ideal S1024 .f32) (ix1 k) := by
  have h0 : (((cfg0.win (1 : Fin 10)).blk t).view.emb (ix2 0 k : S1x1024.Idx) : S1x1024.Idx) = ix2 0 k := by
    funext d
    match d with
    | ⟨0, _⟩ =>
      refine Fin.ext ((emb1 t _ 0).trans ?_)
      show 0 * 1 + 0 = 0
      omega
    | ⟨1, _⟩ =>
      refine Fin.ext ((emb1 t _ 1).trans ?_)
      show 0 * 1024 + k.val = k.val
      omega
  refine (congrArg (V m c main_v0 : FVec Ideal S1x1024 .f32) h0).trans ?_
  exact vec_at (m ((c : Thread nD τ).loc main_arg1) : FVec Ideal S1024 .f32) shapeCasts_S1024_S1x1024 k

/-- The batch's shift, -/
theorem blk2_at (c : Dev nD) (t : Fin cfg0.N) (k : Fin 1024) :
    (iblk m c 2 t : FVec Ideal S1x1x1024 .f32) (ix3 0 0 k) = (m ((c : Thread nD τ).loc main_arg2) : FVec Ideal S16x1x1024 .f32) (ix3 (bat t) 0 k) := by
  refine congrArg (V m c main_arg2 : FVec Ideal S16x1x1024 .f32) (a₂ := ix3 (bat t) 0 k) (funext fun d => ?_)
  obtain ⟨h0, h1, h2⟩ := coord_words t
  match d with
  | ⟨0, _⟩ =>
    refine Fin.ext ((emb2 t _ 0).trans ?_)
    show (BitVec.ofNat 32 (grid0.coords t 0).val).toNat * 1 + 0 = t.val / 8
    omega
  | ⟨1, _⟩ =>
    refine Fin.ext ((emb2 t _ 1).trans ?_)
    show 0 * 1 + 0 = 0
    omega
  | ⟨2, _⟩ =>
    refine Fin.ext ((emb2 t _ 2).trans ?_)
    show 0 * 1024 + k.val = k.val
    omega

/-- its scale -/
theorem blk3_at (c : Dev nD) (t : Fin cfg0.N) (k : Fin 1024) :
    (iblk m c 3 t : FVec Ideal S1x1x1024 .f32) (ix3 0 0 k) = (m ((c : Thread nD τ).loc main_arg3) : FVec Ideal S16x1x1024 .f32) (ix3 (bat t) 0 k) := by
  refine congrArg (V m c main_arg3 : FVec Ideal S16x1x1024 .f32) (a₂ := ix3 (bat t) 0 k) (funext fun d => ?_)
  obtain ⟨h0, h1, h2⟩ := coord_words t
  match d with
  | ⟨0, _⟩ =>
    refine Fin.ext ((emb3 t _ 0).trans ?_)
    show (BitVec.ofNat 32 (grid0.coords t 0).val).toNat * 1 + 0 = t.val / 8
    omega
  | ⟨1, _⟩ =>
    refine Fin.ext ((emb3 t _ 1).trans ?_)
    show 0 * 1 + 0 = 0
    omega
  | ⟨2, _⟩ =>
    refine Fin.ext ((emb3 t _ 2).trans ?_)
    show 0 * 1024 + k.val = k.val
    omega

/-- and its gate. -/
theorem blk4_at (c : Dev nD) (t : Fin cfg0.N) (k : Fin 1024) :
    (iblk m c 4 t : FVec Ideal S1x1x1024 .f32) (ix3 0 0 k) = (m ((c : Thread nD τ).loc main_arg4) : FVec Ideal S16x1x1024 .f32) (ix3 (bat t) 0 k) := by
  refine congrArg (V m c main_arg4 : FVec Ideal S16x1x1024 .f32) (a₂ := ix3 (bat t) 0 k) (funext fun d => ?_)
  obtain ⟨h0, h1, h2⟩ := coord_words t
  match d with
  | ⟨0, _⟩ =>
    refine Fin.ext ((emb4 t _ 0).trans ?_)
    show (BitVec.ofNat 32 (grid0.coords t 0).val).toNat * 1 + 0 = t.val / 8
    omega
  | ⟨1, _⟩ =>
    refine Fin.ext ((emb4 t _ 1).trans ?_)
    show 0 * 1 + 0 = 0
    omega
  | ⟨2, _⟩ =>
    refine Fin.ext ((emb4 t _ 2).trans ?_)
    show 0 * 1024 + k.val = k.val
    omega

/-- The gate matrix's half, -/
theorem blk5_at (c : Dev nD) (t : Fin cfg0.N) (k : Fin 1024) (f : Fin 1408) :
    (iblk m c 5 t : FVec Ideal S1024x1408 .bf16) (ix2 k f) = (m ((c : Thread nD τ).loc main_arg5) : FVec Ideal S1024x2816 .f32) (ix2 k (col t f)) := by
  refine congrArg (m ((c : Thread nD τ).loc main_arg5) : FVec Ideal S1024x2816 .f32) (funext fun d => ?_)
  obtain ⟨h0, h1, h2⟩ := coord_words t
  match d with
  | ⟨0, _⟩ =>
    refine Fin.ext ((emb5 t _ 0).trans ?_)
    show 0 * 1024 + k.val = k.val
    omega
  | ⟨1, _⟩ =>
    refine Fin.ext ((emb5 t _ 1).trans ?_)
    show (BitVec.ofNat 32 (grid0.coords t 2).val).toNat * 1408 + f.val = 1408 * (t.val % 2) + f.val
    omega

/-- the up matrix's -/
theorem blk6_at (c : Dev nD) (t : Fin cfg0.N) (k : Fin 1024) (f : Fin 1408) :
    (iblk m c 6 t : FVec Ideal S1024x1408 .bf16) (ix2 k f) = (m ((c : Thread nD τ).loc main_arg6) : FVec Ideal S1024x2816 .f32) (ix2 k (col t f)) := by
  refine congrArg (m ((c : Thread nD τ).loc main_arg6) : FVec Ideal S1024x2816 .f32) (funext fun d => ?_)
  obtain ⟨h0, h1, h2⟩ := coord_words t
  match d with
  | ⟨0, _⟩ =>
    refine Fin.ext ((emb6 t _ 0).trans ?_)
    show 0 * 1024 + k.val = k.val
    omega
  | ⟨1, _⟩ =>
    refine Fin.ext ((emb6 t _ 1).trans ?_)
    show (BitVec.ofNat 32 (grid0.coords t 2).val).toNat * 1408 + f.val = 1408 * (t.val % 2) + f.val
    omega

/-- and the down matrix's. -/
theorem blk7_at (c : Dev nD) (t : Fin cfg0.N) (f : Fin 1408) (d : Fin 1024) :
    (iblk m c 7 t : FVec Ideal S1408x1024 .bf16) (ix2 f d) = (m ((c : Thread nD τ).loc main_arg7) : FVec Ideal S2816x1024 .f32) (ix2 (col t f) d) := by
  refine congrArg (m ((c : Thread nD τ).loc main_arg7) : FVec Ideal S2816x1024 .f32) (funext fun x => ?_)
  obtain ⟨h0, h1, h2⟩ := coord_words t
  match x with
  | ⟨0, _⟩ =>
    refine Fin.ext ((emb7 t _ 0).trans ?_)
    show (BitVec.ofNat 32 (grid0.coords t 2).val).toNat * 1408 + f.val = 1408 * (t.val % 2) + f.val
    omega
  | ⟨1, _⟩ =>
    refine Fin.ext ((emb7 t _ 1).trans ?_)
    show 0 * 1024 + d.val = d.val
    omega

/-! ## A block of the result -/

/-- The specification's array of the launch's arguments. -/
def resultOf (c : Dev nD) : FVec Ideal S16x4096x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The normalized row of the launch's arguments. -/
def rowOf (c : Dev nD) (b : Fin 16) (r : Fin 4096) : Fin 1024 → EReal :=
  normed (m ((c : Thread nD τ).loc main_arg0)) (m ((c : Thread nD τ).loc main_arg1)) (m ((c : Thread nD τ).loc main_arg2)) (m ((c : Thread nD τ).loc main_arg3)) b r

/-- Half `h` of a row's feed-forward. -/
def half (N : Fin 1024 → EReal) (G U : FVec Ideal S1024x2816 .f32) (D : FVec Ideal S2816x1024 .f32) (d : Fin 1024) (h : Fin 2) : EReal :=
  ∑ f : Fin 1408, act N G U ⟨h.val * 1408 + f.val, by omega⟩ * D (ix2 ⟨h.val * 1408 + f.val, by omega⟩ d)

/-- The two halves are the whole. -/
theorem halves (N : Fin 1024 → EReal) (G U : FVec Ideal S1024x2816 .f32) (D : FVec Ideal S2816x1024 .f32) (d : Fin 1024) :
    0 + half N G U D d 0 + half N G U D d 1 = ffn N G U D d := by
  unfold ffn half
  rw [Fin.sum_univ_tiles 2 1408 rfl, Fin.sum_univ_two, zero_add]

/-- A first point's normalized rows. -/
theorem rows_at (c : Dev nD) (t : Fin cfg0.N) (r k : Fin 1024) :
    k0_pay1 (F := Ideal) (iblk m c 0 t) (iblk m c 1 t) (iblk m c 2 t) (iblk m c 3 t) (ix2 r k) = rowOf m c (bat t) (row t r) k := by
  refine (pay1_at _ _ _ _ r k).trans ?_
  unfold rowOf normed inv
  simp only [blk0_at m c t, blk1_at m c t, blk2_at m c t, blk3_at m c t]

/-- A point's contribution to the accumulator, when the staged rows are the launch's. -/
theorem step_at (c : Dev nD) (t : Fin cfg0.N) (h : Fin 2) (ht : t.val % 2 = h.val) (N : Fin 1024 → EReal) (xn : FVec Ideal S1024x1024 .bf16) (acc : FVec Ideal S1024x1024 .f32) (r d : Fin 1024)
    (hx : ∀ k, xn (ix2 r k) = N k) :
    k0_pay3 (F := Ideal) xn (iblk m c 5 t) (iblk m c 6 t) acc (iblk m c 7 t) (ix2 r d)
      = acc (ix2 r d) + half N (m ((c : Thread nD τ).loc main_arg5)) (m ((c : Thread nD τ).loc main_arg6)) (m ((c : Thread nD τ).loc main_arg7)) d h := by
  refine (pay3_at _ _ _ _ _ r d).trans (congrArg (acc (ix2 r d) + ·) ?_)
  unfold half act proj
  refine Finset.sum_congr rfl fun f _ => ?_
  have hc : col t f = ⟨h.val * 1408 + f.val, by omega⟩ := Fin.ext (by unfold col; dsimp only; omega)
  simp only [hx, blk5_at m c t, blk6_at m c t, blk7_at m c t, hc]

/-- What a second point leaves in the output's block. -/
theorem block_at (c : Dev nD) (t : Fin cfg0.N) (h1 : t.val % 2 = 1) (r d : Fin 1024) :
    ((outsAt0 m c t.val t.isLt).1 : FVec Ideal S1x1024x1024 .f32) (ix3 0 r d) = resultOf m c (ix3 (bat t) (row t r) d) := by
  have hlt : t.val - 1 < cfg0.N := Nat.lt_of_le_of_lt (Nat.sub_le _ _) t.isLt
  have hb : bat ⟨t.val - 1, hlt⟩ = bat t := Fin.ext (by unfold bat; dsimp only; omega)
  have hr : row ⟨t.val - 1, hlt⟩ r = row t r := Fin.ext (by unfold row; dsimp only; omega)
  have hx : ∀ k, ((outsAt0 m c (t.val - 1) hlt).2.1 : FVec Ideal S1024x1024 .bf16) (ix2 r k) = rowOf m c (bat t) (row t r) k := fun k => by
    rw [rows_first m c ⟨t.val - 1, hlt⟩ (by dsimp only; omega)]
    exact (rows_at m c ⟨t.val - 1, hlt⟩ r k).trans (by rw [hb, hr])
  have ha : ((outsAt0 m c (t.val - 1) hlt).2.2 : FVec Ideal S1024x1024 .f32) (ix2 r d)
      = 0 + half (rowOf m c (bat t) (row t r)) (m ((c : Thread nD τ).loc main_arg5)) (m ((c : Thread nD τ).loc main_arg6)) (m ((c : Thread nD τ).loc main_arg7)) d 0 := by
    rw [acc_first m c ⟨t.val - 1, hlt⟩ (by dsimp only; omega)]
    refine (step_at m c ⟨t.val - 1, hlt⟩ 0 (by dsimp only; show _ = 0; omega) (rowOf m c (bat t) (row t r)) _ _ r d (fun k => ?_)).trans ?_
    · exact (rows_at m c ⟨t.val - 1, hlt⟩ r k).trans (by rw [hb, hr])
    · rw [pay2_at]
  rw [out_second m c t h1]
  refine (pay4_at _ _ _ r d).trans ?_
  rw [blk0_at m c t, blk4_at m c t, step_at m c t 1 h1 (rowOf m c (bat t) (row t r)) _ _ r d hx, ha, halves]
  rfl

/-- The kernel's result array is the specification's. -/
theorem kernel_result (c : Dev nD) : Cert.DenseIdeal.Value.G9 m c = resultOf m c := by
  funext i
  have i0 : (i 0).val < 16 := (i 0).isLt
  have i1 : (i 1).val < 4096 := (i 1).isLt
  have i2 : (i 2).val < 1024 := (i 2).isLt
  have hp : Cert.DenseIdeal.Value.pt9Of i = 2 * (4 * (i 0).val + (i 1).val / 1024) + 1 := by
    show 2 * (4 * ((i 0).val / 1 - 0) + 1 * ((i 1).val / 1024 - 0) + 1 * ((i 2).val / 1024 - 0)) + 1 = _
    omega
  have hN : cfg0.N = 128 := N_0
  have hlt : Cert.DenseIdeal.Value.pt9Of i < cfg0.N := by omega
  unfold Cert.DenseIdeal.Value.G9
  rw [dif_pos hlt, ← Cert.DenseIdeal.Value.outsAt0_sweep]
  have hl : Cert.DenseIdeal.Value.loc9Of i = ix3 0 ⟨(i 1).val % 1024, by omega⟩ ⟨(i 2).val, i2⟩ := funext fun a => match a with
    | ⟨0, _⟩ => Fin.ext (Nat.mod_one _)
    | ⟨1, _⟩ => rfl
    | ⟨2, _⟩ => Fin.ext (Nat.mod_eq_of_lt i2)
  rw [hl]
  refine (block_at m c ⟨Cert.DenseIdeal.Value.pt9Of i, hlt⟩ (by dsimp only; omega) _ _).trans (congrArg (resultOf m c) (funext fun a => ?_))
  match a with
  | ⟨0, _⟩ => exact Fin.ext (by show Cert.DenseIdeal.Value.pt9Of i / 8 = (i 0).val; omega)
  | ⟨1, _⟩ => exact Fin.ext (by show 1024 * (Cert.DenseIdeal.Value.pt9Of i / 2 % 4) + (i 1).val % 1024 = (i 1).val; omega)
  | ⟨2, _⟩ => rfl

end Cert.DenseFfn

end
-- ==== Proof.DenseRef.lean ====
/- The dense feed-forward's reference term, read at an index, is the array of `DenseSpec.lean`. -/
module

public import proofs.«01_k».proof.Proof.DenseSpec
public import proofs.«01_k».proof.Proof.Gen.DenseReferenceIdeal.Run

@[expose] public section

set_option maxRecDepth 16384

noncomputable section

namespace Cert.DenseFfn

open Cert.DenseReferenceIdeal Cert.DenseReferenceIdeal.Gen Idealize.ShloMosaic Idealize.ShloMosaic.TcCoe Idealize.SL.Sem

/-- The normalized and modulated rows, as the reference prints them. -/
def refNormed (X : FVec Ideal S16x4096x1024 .f32) (g : FVec Ideal S1024 .f32) (sh sc : FVec Ideal S16x1x1024 .f32) : FVec Ideal S16x4096x1024 .f32 :=
  addf (mulf (mulf (mulf X (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf X X) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g)))
      (broadcastInDim S16x4096x1024 ![0, 1, 2] bcast_S16x1x1024_S16x4096x1024_0_1_2 (addf (broadcastInDim S16x1x1024 ![] bcast_S_S16x1x1024 (constant S_ .f32 0x3F800000#32)) sc)))
    (broadcastInDim S16x4096x1024 ![0, 1, 2] bcast_S16x1x1024_S16x4096x1024_0_1_2 sh)

/-- At an index they are the specification's. -/
theorem refNormed_at (X : FVec Ideal S16x4096x1024 .f32) (g : FVec Ideal S1024 .f32) (sh sc : FVec Ideal S16x1x1024 .f32) (b : Fin 16) (r : Fin 4096) (k : Fin 1024) :
    refNormed X g sh sc (ix3 b r k) = normed X g sh sc b r k := by
  pointwise [refNormed, normed, inv]

/-- The result of rows `X` whose normalized rows are `N`, as the reference prints it. -/
def refOut (X N : FVec Ideal S16x4096x1024 .f32) (gt : FVec Ideal S16x1x1024 .f32) (G U : FVec Ideal S1024x2816 .f32) (D : FVec Ideal S2816x1024 .f32) : FVec Ideal S16x4096x1024 .f32 :=
  addf X (mulf (broadcastInDim S16x4096x1024 ![0, 1, 2] bcast_S16x1x1024_S16x4096x1024_0_1_2 gt) (Host.dotGeneral (φ₁ := .f32) (φ₂ := .f32) dot_S16x4096x2816_S2816x1024_S16x4096x1024_2_0_01_1_n_n none
    (mulf (mulf (Host.dotGeneral (φ₁ := .f32) (φ₂ := .f32) dot_S16x4096x1024_S1024x2816_S16x4096x2816_2_0_01_1_n_n none N G)
        (Host.divf (broadcastInDim S16x4096x2816 ![] bcast_S_S16x4096x2816 (constant S_ .f32 0x3F800000#32)) (addf (broadcastInDim S16x4096x2816 ![] bcast_S_S16x4096x2816 (constant S_ .f32 0x3F800000#32))
          (Host.exp (Host.negf (Host.dotGeneral (φ₁ := .f32) (φ₂ := .f32) dot_S16x4096x1024_S1024x2816_S16x4096x2816_2_0_01_1_n_n none N G))))))
      (Host.dotGeneral (φ₁ := .f32) (φ₂ := .f32) dot_S16x4096x1024_S1024x2816_S16x4096x2816_2_0_01_1_n_n none N U)) D))

/-- At an index it is the row plus the gate times its feed-forward. -/
theorem refOut_at (X N : FVec Ideal S16x4096x1024 .f32) (gt : FVec Ideal S16x1x1024 .f32) (G U : FVec Ideal S1024x2816 .f32) (D : FVec Ideal S2816x1024 .f32) (b : Fin 16) (r : Fin 4096) (d : Fin 1024) :
    refOut X N gt G U D (ix3 b r d) = X (ix3 b r d) + gt (ix3 b 0 d) * ffn (fun k => N (ix3 b r k)) G U D d := by
  pointwise [refOut, ffn, act, proj]

/-- The reference's result is that term of its arguments. -/
theorem res_eq (m : (ℓ : Loc nD τ sig) → Buf (Elt Ideal) ℓ) (c : Dev nD) :
    Cert.DenseReferenceIdeal.Value.res_main_v26 m c = refOut (m ((c.tc : Thread nD τ).loc main_arg0))
      (refNormed (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (m ((c.tc : Thread nD τ).loc main_arg5)) (m ((c.tc : Thread nD τ).loc main_arg6)) (m ((c.tc : Thread nD τ).loc main_arg7)) := by
  unfold Cert.DenseReferenceIdeal.Value.res_main_v26 refOut refNormed
  rfl

/-- The reference's array is the specification's. -/
theorem refOut_eq (X : FVec Ideal S16x4096x1024 .f32) (g : FVec Ideal S1024 .f32) (sh sc gt : FVec Ideal S16x1x1024 .f32) (G U : FVec Ideal S1024x2816 .f32) (D : FVec Ideal S2816x1024 .f32) :
    refOut X (refNormed X g sh sc) gt G U D = result X g sh sc gt G U D := by
  funext y
  have hy : y = ix3 (y 0) (y 1) (y 2) := funext fun a => match a with | ⟨0, _⟩ => rfl | ⟨1, _⟩ => rfl | ⟨2, _⟩ => rfl
  have hN : (fun k => refNormed X g sh sc (ix3 (y 0) (y 1) k)) = normed X g sh sc (y 0) (y 1) := funext fun k => refNormed_at X g sh sc (y 0) (y 1) k
  refine (congrArg (refOut X (refNormed X g sh sc) gt G U D) hy).trans ((refOut_at X _ gt G U D (y 0) (y 1) (y 2)).trans ?_)
  rw [hN]
  rfl

end Cert.DenseFfn

end
-- ==== Proof.DenseAlgebraic.lean ====
/- The dense feed-forward's kernel and reference leave the same result: each is the array of the specification. -/
module

public import proofs.«01_k».proof.Defs
public import proofs.«01_k».proof.Proof.DenseKer
public import proofs.«01_k».proof.Proof.DenseRef
public import Idealize.ShloMosaic.Init

@[expose] public section

set_option maxRecDepth 16384

noncomputable section

namespace Cert.DenseFfn

open Idealize.ShloMosaic Idealize.ShloMosaic.TcCoe Idealize.SL.Sem

/-- The idealized dense reference's frame. -/
theorem frame_ref : Cert.quiescent_DenseReferenceIdeal := by
  intro m ρ _
  exact (θ_run Cert.DenseReferenceIdeal.defs _ _).mono (fun r h => ⟨fun c => (h c).2, Idealize.ShloMosaic.sem_eq_zero_of_no_sems (by decide) r.2⟩)
    (Cert.DenseReferenceIdeal.Value.run m ρ)

/-- On the same arguments the idealized dense kernel and its idealized reference leave the same result. -/
theorem algebraic : Cert.algebraic_DenseIdeal_DenseReferenceIdeal := by
  intro m g m' g' _ hargs
  refine ⟨fun c => resultOf m c, ?_, ?_⟩
  · refine (θ_run Cert.DenseIdeal.defs _ _).mono (fun r h c => ⟨?_, (h c).2⟩) (Cert.DenseIdeal.Value.run m g)
    exact (h c).1.trans (kernel_result m c)
  · refine (θ_run Cert.DenseReferenceIdeal.defs _ _).mono (fun r h c => ⟨?_, (h c).2⟩) (Cert.DenseReferenceIdeal.Value.run m' g')
    obtain ⟨h0, h1, h2, h3, h4, h5, h6, h7⟩ := hargs c
    rw [(h c).1, res_eq, h0, h1, h2, h3, h4, h5, h6, h7]
    exact refOut_eq _ _ _ _ _ _ _ _

end Cert.DenseFfn

end
-- ==== Proof.OutSpec.lean ====
/- The output projection as sums over plain indices: the three branches' rows side by side times the matrix, gated and
   added to the row. -/
module

public import Idealize.ShloMosaic.PureOps.Ideal
public import Idealize.ShloMosaic.Lib.ValueIdx
public import Idealize.ShloMosaic.Lib.Pointwise

@[expose] public section

set_option maxRecDepth 16384

noncomputable section

namespace Cert.OutProjection

open Idealize.ShloMosaic

abbrev TFour : Shape := ⟨3, ![16, 4096, 256]⟩
abbrev TFold : Shape := ⟨4, ![16, 2, 2048, 384]⟩
abbrev TBranch : Shape := ⟨3, ![16, 4096, 384]⟩
abbrev TModel : Shape := ⟨3, ![16, 4096, 1024]⟩
abbrev TGate : Shape := ⟨3, ![16, 1, 1024]⟩
abbrev TOut : Shape := ⟨2, ![1024, 1024]⟩
abbrev TGlu : Shape := ⟨2, ![384, 384]⟩
abbrev TBias : Shape := ⟨1, ![384]⟩

/-- The tanh form of the GELU with its printed constants. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- The gated branch of a row `Y`, column `k`: the GELU times the logistic of its product with a matrix plus a bias. -/
def gated (Y : Fin 384 → EReal) (W : FVec Ideal TGlu .f32) (b : FVec Ideal TBias .f32) (k : Fin 384) : EReal :=
  gelu (Y k) * Ideal.div 1 (1 + Ideal.exp (-((∑ j : Fin 384, gelu (Y j) * W (ix2 j k)) + b (ix1 k))))

/-- Row `r` of the branch kept as two halves, the second from its end to its beginning. -/
def unfolded (Z : FVec Ideal TFold .f32) (b : Fin 16) (r : Fin 4096) (k : Fin 384) : EReal :=
  if h : r.val < 2048 then Z (ix4 b 0 ⟨r.val, h⟩ k) else Z (ix4 b 1 ⟨4095 - r.val, by omega⟩ k)

/-- The three branches' rows times the matrix, column `d`. -/
def mixed (F : Fin 256 → EReal) (H S : Fin 384 → EReal) (W : FVec Ideal TOut .f32) (d : Fin 1024) : EReal :=
  (∑ k : Fin 256, F k * W (ix2 ⟨k.val, by omega⟩ d)) + (∑ k : Fin 384, H k * W (ix2 ⟨256 + k.val, by omega⟩ d)) + ∑ k : Fin 384, S k * W (ix2 ⟨640 + k.val, by omega⟩ d)

/-- Row `r` of batch `b`, column `d`, of the result. -/
def outAt (YF : FVec Ideal TFour .f32) (YH : FVec Ideal TFold .f32) (YS : FVec Ideal TBranch .f32) (X : FVec Ideal TModel .f32) (gt : FVec Ideal TGate .f32)
    (W : FVec Ideal TOut .f32) (GW : FVec Ideal TGlu .f32) (gb : FVec Ideal TBias .f32) (b : Fin 16) (r : Fin 4096) (d : Fin 1024) : EReal :=
  X (ix3 b r d) + gt (ix3 b 0 d) * mixed (fun k => YF (ix3 b r k)) (unfolded YH b r) (gated (fun k => YS (ix3 b r k)) GW gb) W d

/-- The result array. -/
def result (YF : FVec Ideal TFour .f32) (YH : FVec Ideal TFold .f32) (YS : FVec Ideal TBranch .f32) (X : FVec Ideal TModel .f32) (gt : FVec Ideal TGate .f32)
    (W : FVec Ideal TOut .f32) (GW : FVec Ideal TGlu .f32) (gb : FVec Ideal TBias .f32) : FVec Ideal TModel .f32 :=
  fun y => outAt YF YH YS X gt W GW gb (y 0) (y 1) (y 2)

/-- A sum over 1024 positions, cut after 256 and after 640. -/
theorem sum_cut (f : Fin 1024 → EReal) :
    ∑ k, f k = (∑ k : Fin 256, f ⟨k.val, by omega⟩) + (∑ k : Fin 384, f ⟨256 + k.val, by omega⟩) + ∑ k : Fin 384, f ⟨640 + k.val, by omega⟩ := by
  refine (Fin.sum_univ_add (a := 256 + 384) (b := 384) f).trans (congrArg₂ (· + ·) ?_ rfl)
  exact Fin.sum_univ_add (a := 256) (b := 384) (fun k : Fin (256 + 384) => f ⟨k.val, by omega⟩)

end Cert.OutProjection

end
-- ==== Proof.OutPay.lean ====
/- What the output projection's points leave, and its payloads at an index. -/
module

public import proofs.«01_k».proof.Proof.OutSpec
public import proofs.«01_k».proof.Proof.Gen.OutProjIdeal.Value
public import Idealize.ShloMosaic.Lib.Pipeline.ValueKit

@[expose] public section

set_option maxRecDepth 16384

noncomputable section

namespace Cert.OutProjection

open Cert.OutProjIdeal Cert.OutProjIdeal.Gen
open Idealize.ShloMosaic Idealize.ShloMosaic.TcCoe Idealize.SL.Sem

section Points

variable {F : FTy → Type} [FloatOps F]
variable (m : (ℓ : Loc nD τ sig) → Buf (Elt F) ℓ)

/-- A block's result, of the folded branch's rows `h`. -/
def closed (v30 : FVec F S512x384 .f32) (v36 : FVec F S512x1024 .f32) (v38 : FVec F S384x1024 .bf16) (h : FVec F S512x384 .f32) (x : FVec F S1x512x1024 .f32) (g : FVec F S1x1x1024 .f32)
    (w : FVec F S384x1024 .bf16) : FVec F S1x512x1024 .f32 :=
  shapeCast S1x512x1024 (addf (shapeCast S512x1024 x shapeCasts_S1x512x1024_S512x1024) (mulf (broadcastTo S512x1024 (shapeCast S1x1024 g shapeCasts_S1x1x1024_S1x1024) broadcasts_S1x1024_S512x1024)
    (addf (k0_pay1 v30 v36 v38) (matmul dot_S512x384_S384x1024_S512x1024_1_0_0_1_n_n none (truncf .bf16 h bitsLt_bf16_f32 : FVec F S512x384 .bf16) (shapeCast S384x1024 w shapeCasts_S384x1024_S384x1024 : FVec F S384x1024 .bf16) (constant S512x1024 .f32 0x00000000#32)))))
    shapeCasts_S512x1024_S1x512x1024

/-- The upper part of a block's rows. -/
def highPart (v : FVec F S512x384 .f32) : FVec F S512x384 .bf16 := truncf .bf16 v bitsLt_bf16_f32

/-- What is left of the rows. -/
def lowPart (v : FVec F S512x384 .f32) : FVec F S512x384 .bf16 := truncf .bf16 (subf v (extf .f32 (highPart v) bitsLt_bf16_f32)) bitsLt_bf16_f32

/-- The rows from the last to the first, by products with the flip matrix. -/
def flipped (v : FVec F S512x384 .f32) (J : FVec F S256x256 .bf16) : FVec F S512x384 .f32 :=
  concatenate S512x384 0
    [⟨S256x384, addf (matmul dot_S256x256_S256x384_S256x384_1_0_0_1_n_n none J (extractStridedSlice S256x384 ![256, 0] (highPart v) slices_S512x384_o256_0_S256x384) (constant S256x384 .f32 0x00000000#32))
        (matmul dot_S256x256_S256x384_S256x384_1_0_0_1_n_n none J (extractStridedSlice S256x384 ![256, 0] (lowPart v) slices_S512x384_o256_0_S256x384) (constant S256x384 .f32 0x00000000#32))⟩,
      ⟨S256x384, addf (matmul dot_S256x256_S256x384_S256x384_1_0_0_1_n_n none J (extractStridedSlice S256x384 ![0, 0] (highPart v) slices_S512x384_o0_0_S256x384) (constant S256x384 .f32 0x00000000#32))
        (matmul dot_S256x256_S256x384_S256x384_1_0_0_1_n_n none J (extractStridedSlice S256x384 ![0, 0] (lowPart v) slices_S512x384_o0_0_S256x384) (constant S256x384 .f32 0x00000000#32))⟩]
    concatenates_S256x384_S256x384_S512x384_d0

theorem pay2_eq (v30 : FVec F S512x384 .f32) (v36 : FVec F S512x1024 .f32) (v38 : FVec F S384x1024 .bf16) (v48 : FVec F S1x1x512x384 .f32) (x : FVec F S1x512x1024 .f32) (g : FVec F S1x1x1024 .f32) (w : FVec F S384x1024 .bf16) :
    k0_pay2 v30 v36 v38 v48 x g w = closed v30 v36 v38 (shapeCast S512x384 v48 shapeCasts_S1x1x512x384_S512x384) x g w := rfl

theorem pay3_eq (v30 : FVec F S512x384 .f32) (v36 : FVec F S512x1024 .f32) (v38 : FVec F S384x1024 .bf16) (v48 : FVec F S1x1x512x384 .f32) (J : FVec F S256x256 .bf16) (x : FVec F S1x512x1024 .f32) (g : FVec F S1x1x1024 .f32) (w : FVec F S384x1024 .bf16) :
    k0_pay3 v30 v36 v38 v48 J x g w = closed v30 v36 v38 (flipped (shapeCast S512x384 v48 shapeCasts_S1x1x512x384_S512x384) J) x g w := rfl

/-- A point of the first half leaves the result of the rows as they stand, -/
theorem out_first (c : Dev nD) (t : Fin cfg0.N) (h0 : t.val % 8 ≤ 3) :
    outsAt0 m c t.val t.isLt = closed (k0_pay4 (iblk m c 2 t) (iblk m c 8 t) (iblk m c 9 t)) (k0_pay5 (iblk m c 0 t) (iblk m c 5 t)) (iblk m c 7 t)
      (shapeCast S512x384 (iblk m c 1 t : FVec F S1x1x512x384 .f32) shapeCasts_S1x1x512x384_S512x384) (iblk m c 3 t) (iblk m c 4 t) (iblk m c 6 t) := by
  rw [← pay2_eq, outsAt0_A m c t h0 (by omega)]
  frame_out

/-- and one of the second half that of the rows flipped. -/
theorem out_second (c : Dev nD) (t : Fin cfg0.N) (h1 : 4 ≤ t.val % 8) :
    outsAt0 m c t.val t.isLt = closed (k0_pay4 (iblk m c 2 t) (iblk m c 8 t) (iblk m c 9 t)) (k0_pay5 (iblk m c 0 t) (iblk m c 5 t)) (iblk m c 7 t)
      (flipped (shapeCast S512x384 (iblk m c 1 t : FVec F S1x1x512x384 .f32) shapeCasts_S1x1x512x384_S512x384) (iblk m c 10 t)) (iblk m c 3 t) (iblk m c 4 t) (iblk m c 6 t) := by
  rw [← pay3_eq, outsAt0_B m c t (by omega) h1]
  frame_out

end Points

/-- A block of the folded branch as rows. -/
theorem rows_at (v : FVec Ideal S1x1x512x384 .f32) (r : Fin 512) (k : Fin 384) :
    shapeCast S512x384 v shapeCasts_S1x1x512x384_S512x384 (ix2 r k) = v (ix4 0 0 r k) := by
  pointwise

/-- The gated branch's rows. -/
theorem pay4_at (y : FVec Ideal S1x512x384 .f32) (w : FVec Ideal S384x384 .bf16) (b : FVec Ideal S1x384 .f32) (r : Fin 512) (k : Fin 384) :
    k0_pay4 (F := Ideal) y w b (ix2 r k)
      = gelu (y (ix3 0 r k)) * Ideal.div 1 (1 + Ideal.exp (-((∑ j : Fin 384, gelu (y (ix3 0 r j)) * w (ix2 j k)) + b (ix2 0 k)))) := by
  have hg : ∀ v : EReal, Ideal.ofBits .f32 0x3F000000#32 * v * (1 + Ideal.tanh (Ideal.ofBits .f32 0x3F4C422A#32 * (v + Ideal.ofBits .f32 0x3D372713#32 * (v * v * v)))) = gelu v :=
    fun v => by unfold gelu; rw [mul_comm (Ideal.ofBits .f32 0x3F000000#32) v, mul_assoc]
  pointwise [k0_pay4, zero_sub]
  simp only [hg]

/-- A block's result at an index. -/
theorem closed_at (s : FVec Ideal S512x384 .f32) (y : FVec Ideal S1x512x256 .f32) (w1 : FVec Ideal S256x1024 .bf16) (w3 : FVec Ideal S384x1024 .bf16) (h : FVec Ideal S512x384 .f32)
    (x : FVec Ideal S1x512x1024 .f32) (g : FVec Ideal S1x1x1024 .f32) (w : FVec Ideal S384x1024 .bf16) (r : Fin 512) (d : Fin 1024) :
    closed (F := Ideal) s (k0_pay5 y w1) w3 h x g w (ix3 0 r d) = x (ix3 0 r d) + g (ix3 0 0 d) *
      ((∑ k : Fin 256, y (ix3 0 r k) * w1 (ix2 k d)) + (∑ k : Fin 384, s (ix2 r k) * w3 (ix2 k d)) + ∑ k : Fin 384, h (ix2 r k) * w (ix2 k d)) := by
  pointwise [closed, k0_pay5, k0_pay1]

/-- A row of the flip matrix picks one entry. -/
theorem pick (a : Nat) (ha : a < 256) (f : Fin 256 → EReal) : ∑ k : Fin 256, (if a + k.val = 255 then 1 else 0) * f k = f ⟨255 - a, by omega⟩ := by
  rw [Finset.sum_eq_single (⟨255 - a, by omega⟩ : Fin 256)]
  · rw [if_pos (by dsimp only; omega), one_mul]
  · intro k _ hk
    rw [if_neg (fun h => hk (Fin.ext (by dsimp only; omega))), zero_mul]
  · intro h
    exact absurd (Finset.mem_univ _) h

/-- Finite rows flipped. -/
theorem flipped_at (v : FVec Ideal S512x384 .f32) (J : FVec Ideal S256x256 .bf16) (hJ : ∀ a k : Fin 256, (J (ix2 a k) : EReal) = if a.val + k.val = 255 then 1 else 0)
    (hv : ∀ (r : Fin 512) (k : Fin 384), (v (ix2 r k) : EReal) - v (ix2 r k) = 0) (r : Fin 512) (k : Fin 384) :
    flipped (F := Ideal) v J (ix2 r k) = v (ix2 ⟨511 - r.val, by omega⟩ k) := by
  pointwise [flipped, highPart, lowPart]
  simp only [hJ, hv, mul_zero, Finset.sum_const_zero, add_zero]
  split
  · next h =>
    rw [pick r.val h]
    exact congrArg (fun i : Fin 512 => (v (ix2 i k) : EReal)) (Fin.ext (by dsimp only; omega))
  · next h =>
    rw [pick (r.val - 256) (by omega)]
    exact congrArg (fun i : Fin 512 => (v (ix2 i k) : EReal)) (Fin.ext (by dsimp only; omega))

end Cert.OutProjection

end
-- ==== Proof.OutBlk.lean ====
/- The output projection's blocks at coordinates. -/
module

public import proofs.«01_k».proof.Proof.OutSpec
public import proofs.«01_k».proof.Proof.Gen.OutProjIdeal.Value

@[expose] public section

set_option maxRecDepth 16384

noncomputable section

namespace Cert.OutProjection

open Cert.OutProjIdeal Cert.OutProjIdeal.Gen
open Idealize.ShloMosaic Idealize.ShloMosaic.TcCoe Idealize.SL.Sem

variable (m : (ℓ : Loc nD τ sig) → Buf (Elt Ideal) ℓ)

/-- Point `t`'s coordinates: the batch and the block of rows. -/
theorem coords_facts : ∀ t : Fin grid0.N, (grid0.coords t 0).val = t.val / 8 ∧ (grid0.coords t 1).val = t.val % 8 := by
  decide +kernel

/-- The block of the folded branch point `t` reads: the half, and its place there, counted from the end in the second. -/
theorem fold_facts : ∀ t : Fin grid0.N, cc0_transform_1 (grid0.coords t) 0 = t.val / 8 ∧ cc0_transform_1 (grid0.coords t) 1 = t.val % 8 / 4
    ∧ cc0_transform_1 (grid0.coords t) 2 = (if t.val % 8 < 4 then t.val % 8 else 7 - t.val % 8) ∧ cc0_transform_1 (grid0.coords t) 3 = 0 := by
  decide +kernel

/-- A point lies on the grid. -/
theorem pt_lt (t : Fin cfg0.N) : t.val < 128 := by have := t.isLt; have h := N_0; change t.val < grid0.N at this; omega

/-- The words of a point's coordinates. -/
theorem coord_words (t : Fin cfg0.N) : (BitVec.ofNat 32 (grid0.coords t 0).val).toNat = t.val / 8 ∧ (BitVec.ofNat 32 (grid0.coords t 1).val).toNat = t.val % 8 := by
  obtain ⟨h0, h1⟩ := coords_facts t
  have ht := pt_lt t
  have hw : ∀ n : ℕ, n < 128 → (BitVec.ofNat 32 n).toNat = n := fun n hn => by rw [BitVec.toNat_ofNat]; exact Nat.mod_eq_of_lt (by omega)
  exact ⟨(hw _ (by omega)).trans h0, (hw _ (by omega)).trans h1⟩

/-- Point `t`'s batch, -/
def bat (t : Fin cfg0.N) : Fin 16 := ⟨t.val / 8, by have := pt_lt t; omega⟩
/-- and row `r` of its block. -/
def row (t : Fin cfg0.N) (r : Fin 512) : Fin 4096 := ⟨512 * (t.val % 8) + r.val, by omega⟩

theorem emb0 (t : Fin cfg0.N) (y : S1x512x256.Idx) (d : Fin 3) :
    ((((cfg0).win (0 : Fin 12)).blk t).view.emb y d : ℕ) = cc0_transform_0 (grid0.coords t) d * S1x512x256.size d + (y d).val := (cfg0.win (0 : Fin 12)).rect_emb_val t y d rfl
theorem emb1 (t : Fin cfg0.N) (y : S1x1x512x384.Idx) (d : Fin 4) :
    ((((cfg0).win (1 : Fin 12)).blk t).view.emb y d : ℕ) = cc0_transform_1 (grid0.coords t) d * S1x1x512x384.size d + (y d).val := (cfg0.win (1 : Fin 12)).rect_emb_val t y d rfl
theorem emb2 (t : Fin cfg0.N) (y : S1x512x384.Idx) (d : Fin 3) :
    ((((cfg0).win (2 : Fin 12)).blk t).view.emb y d : ℕ) = cc0_transform_2 (grid0.coords t) d * S1x512x384.size d + (y d).val := (cfg0.win (2 : Fin 12)).rect_emb_val t y d rfl
theorem emb3 (t : Fin cfg0.N) (y : S1x512x1024.Idx) (d : Fin 3) :
    ((((cfg0).win (3 : Fin 12)).blk t).view.emb y d : ℕ) = cc0_transform_3 (grid0.coords t) d * S1x512x1024.size d + (y d).val := (cfg0.win (3 : Fin 12)).rect_emb_val t y d rfl
theorem emb4 (t : Fin cfg0.N) (y : S1x1x1024.Idx) (d : Fin 3) :
    ((((cfg0).win (4 : Fin 12)).blk t).view.emb y d : ℕ) = cc0_transform_4 (grid0.coords t) d * S1x1x1024.size d + (y d).val := (cfg0.win (4 : Fin 12)).rect_emb_val t y d rfl
theorem emb5 (t : Fin cfg0.N) (y : S256x1024.Idx) (d : Fin 2) :
    ((((cfg0).win (5 : Fin 12)).blk t).view.emb y d : ℕ) = cc0_transform_5 (grid0.coords t) d * S256x1024.size d + (y d).val := (cfg0.win (5 : Fin 12)).rect_emb_val t y d rfl
theorem emb6 (t : Fin cfg0.N) (y : S384x1024.Idx) (d : Fin 2) :
    ((((cfg0).win (6 : Fin 12)).blk t).view.emb y d : ℕ) = cc0_transform_6 (grid0.coords t) d * S384x1024.size d + (y d).val := (cfg0.win (6 : Fin 12)).rect_emb_val t y d rfl
theorem emb7 (t : Fin cfg0.N) (y : S384x1024.Idx) (d : Fin 2) :
    ((((cfg0).win (7 : Fin 12)).blk t).view.emb y d : ℕ) = cc0_transform_7 (grid0.coords t) d * S384x1024.size d + (y d).val := (cfg0.win (7 : Fin 12)).rect_emb_val t y d rfl
theorem emb8 (t : Fin cfg0.N) (y : S384x384.Idx) (d : Fin 2) :
    ((((cfg0).win (8 : Fin 12)).blk t).view.emb y d : ℕ) = cc0_transform_8 (grid0.coords t) d * S384x384.size d + (y d).val := (cfg0.win (8 : Fin 12)).rect_emb_val t y d rfl
theorem emb9 (t : Fin cfg0.N) (y : S1x384.Idx) (d : Fin 2) :
    ((((cfg0).win (9 : Fin 12)).blk t).view.emb y d : ℕ) = cc0_transform_9 (grid0.coords t) d * S1x384.size d + (y d).val := (cfg0.win (9 : Fin 12)).rect_emb_val t y d rfl
theorem emb10 (t : Fin cfg0.N) (y : S256x256.Idx) (d : Fin 2) :
    ((((cfg0).win (10 : Fin 12)).blk t).view.emb y d : ℕ) = cc0_transform_10 (grid0.coords t) d * S256x256.size d + (y d).val := (cfg0.win (10 : Fin 12)).rect_emb_val t y d rfl
theorem emb11 (t : Fin cfg0.N) (y : S1x512x1024.Idx) (d : Fin 3) :
    ((((cfg0).win (11 : Fin 12)).blk t).view.emb y d : ℕ) = cc0_transform_11 (grid0.coords t) d * S1x512x1024.size d + (y d).val := (cfg0.win (11 : Fin 12)).rect_emb_val t y d rfl

/-- The Fourier branch's block. -/
theorem blk0_at (c : Dev nD) (t : Fin cfg0.N) (r : Fin 512) (k : Fin 256) :
    (iblk m c 0 t : FVec Ideal S1x512x256 .f32) (ix3 0 r k) = (m ((c : Thread nD τ).loc main_arg0) : FVec Ideal S16x4096x256 .f32) (ix3 (bat t) (row t r) k) := by
  refine congrArg (V m c main_arg0 : FVec Ideal S16x4096x256 .f32) (a₂ := ix3 (bat t) (row t r) k) (funext fun d => ?_)
  obtain ⟨h0, h1⟩ := coord_words t
  match d with
  | ⟨0, _⟩ =>
    refine Fin.ext ((emb0 t _ 0).trans ?_)
    show (BitVec.ofNat 32 (grid0.coords t 0).val).toNat * 1 + 0 = t.val / 8
    omega
  | ⟨1, _⟩ =>
    refine Fin.ext ((emb0 t _ 1).trans ?_)
    show (BitVec.ofNat 32 (grid0.coords t 1).val).toNat * 512 + r.val = 512 * (t.val % 8) + r.val
    omega
  | ⟨2, _⟩ =>
    refine Fin.ext ((emb0 t _ 2).trans ?_)
    show 0 * 256 + k.val = k.val
    omega

/-- The gated branch's block. -/
theorem blk2_at (c : Dev nD) (t : Fin cfg0.N) (r : Fin 512) (k : Fin 384) :
    (iblk m c 2 t : FVec Ideal S1x512x384 .f32) (ix3 0 r k) = (m ((c : Thread nD τ).loc main_arg2) : FVec Ideal S16x4096x384 .f32) (ix3 (bat t) (row t r) k) := by
  refine congrArg (V m c main_arg2 : FVec Ideal S16x4096x384 .f32) (a₂ := ix3 (bat t) (row t r) k) (funext fun d => ?_)
  obtain ⟨h0, h1⟩ := coord_words t
  match d with
  | ⟨0, _⟩ =>
    refine Fin.ext ((emb2 t _ 0).trans ?_)
    show (BitVec.ofNat 32 (grid0.coords t 0).val).toNat * 1 + 0 = t.val / 8
    omega
  | ⟨1, _⟩ =>
    refine Fin.ext ((emb2 t _ 1).trans ?_)
    show (BitVec.ofNat 32 (grid0.coords t 1).val).toNat * 512 + r.val = 512 * (t.val % 8) + r.val
    omega
  | ⟨2, _⟩ =>
    refine Fin.ext ((emb2 t _ 2).trans ?_)
    show 0 * 384 + k.val = k.val
    omega

/-- The rows' block. -/
theorem blk3_at (c : Dev nD) (t : Fin cfg0.N) (r : Fin 512) (k : Fin 1024) :
    (iblk m c 3 t : FVec Ideal S1x512x1024 .f32) (ix3 0 r k) = (m ((c : Thread nD τ).loc main_arg3) : FVec Ideal S16x4096x1024 .f32) (ix3 (bat t) (row t r) k) := by
  refine congrArg (V m c main_arg3 : FVec Ideal S16x4096x1024 .f32) (a₂ := ix3 (bat t) (row t r) k) (funext fun d => ?_)
  obtain ⟨h0, h1⟩ := coord_words t
  match d with
  | ⟨0, _⟩ =>
    refine Fin.ext ((emb3 t _ 0).trans ?_)
    show (BitVec.ofNat 32 (grid0.coords t 0).val).toNat * 1 + 0 = t.val / 8
    omega
  | ⟨1, _⟩ =>
    refine Fin.ext ((emb3 t _ 1).trans ?_)
    show (BitVec.ofNat 32 (grid0.coords t 1).val).toNat * 512 + r.val = 512 * (t.val % 8) + r.val
    omega
  | ⟨2, _⟩ =>
    refine Fin.ext ((emb3 t _ 2).trans ?_)
    show 0 * 1024 + k.val = k.val
    omega

/-- The batch's gate. -/
theorem blk4_at (c : Dev nD) (t : Fin cfg0.N) (k : Fin 1024) :
    (iblk m c 4 t : FVec Ideal S1x1x1024 .f32) (ix3 0 0 k) = (m ((c : Thread nD τ).loc main_arg4) : FVec Ideal S16x1x1024 .f32) (ix3 (bat t) 0 k) := by
  refine congrArg (V m c main_arg4 : FVec Ideal S16x1x1024 .f32) (a₂ := ix3 (bat t) 0 k) (funext fun d => ?_)
  obtain ⟨h0, h1⟩ := coord_words t
  match d with
  | ⟨0, _⟩ =>
    refine Fin.ext ((emb4 t _ 0).trans ?_)
    show (BitVec.ofNat 32 (grid0.coords t 0).val).toNat * 1 + 0 = t.val / 8
    omega
  | ⟨1, _⟩ =>
    refine Fin.ext ((emb4 t _ 1).trans ?_)
    show 0 * 1 + 0 = 0
    omega
  | ⟨2, _⟩ =>
    refine Fin.ext ((emb4 t _ 2).trans ?_)
    show 0 * 1024 + k.val = k.val
    omega

/-- The folded branch's block: in the first half of the points it holds the points' own rows, -/
theorem blk1_first (c : Dev nD) (t : Fin cfg0.N) (ht : t.val % 8 < 4) (r : Fin 512) (k : Fin 384) :
    (iblk m c 1 t : FVec Ideal S1x1x512x384 .f32) (ix4 0 0 r k) = (m ((c : Thread nD τ).loc main_arg1) : FVec Ideal S16x2x2048x384 .f32) (ix4 (bat t) 0 ⟨512 * (t.val % 8) + r.val, by omega⟩ k) := by
  refine congrArg (V m c main_arg1 : FVec Ideal S16x2x2048x384 .f32) (a₂ := ix4 (bat t) 0 ⟨512 * (t.val % 8) + r.val, by omega⟩ k) (funext fun d => ?_)
  obtain ⟨h0, h1, h2, h3⟩ := fold_facts t
  rw [if_pos ht] at h2
  match d with
  | ⟨0, _⟩ =>
    refine Fin.ext ((emb1 t _ 0).trans ?_)
    show cc0_transform_1 (grid0.coords t) 0 * 1 + 0 = t.val / 8
    omega
  | ⟨1, _⟩ =>
    refine Fin.ext ((emb1 t _ 1).trans ?_)
    show cc0_transform_1 (grid0.coords t) 1 * 1 + 0 = 0
    omega
  | ⟨2, _⟩ =>
    refine Fin.ext ((emb1 t _ 2).trans ?_)
    show cc0_transform_1 (grid0.coords t) 2 * 512 + r.val = 512 * (t.val % 8) + r.val
    omega
  | ⟨3, _⟩ =>
    refine Fin.ext ((emb1 t _ 3).trans ?_)
    show cc0_transform_1 (grid0.coords t) 3 * 384 + k.val = k.val
    omega

/-- and in the second half it holds the rows from the end. -/
theorem blk1_second (c : Dev nD) (t : Fin cfg0.N) (ht : 4 ≤ t.val % 8) (r : Fin 512) (k : Fin 384) :
    (iblk m c 1 t : FVec Ideal S1x1x512x384 .f32) (ix4 0 0 r k) = (m ((c : Thread nD τ).loc main_arg1) : FVec Ideal S16x2x2048x384 .f32) (ix4 (bat t) 1 ⟨512 * (7 - t.val % 8) + r.val, by omega⟩ k) := by
  refine congrArg (V m c main_arg1 : FVec Ideal S16x2x2048x384 .f32) (a₂ := ix4 (bat t) 1 ⟨512 * (7 - t.val % 8) + r.val, by omega⟩ k) (funext fun d => ?_)
  obtain ⟨h0, h1, h2, h3⟩ := fold_facts t
  rw [if_neg (by omega)] at h2
  match d with
  | ⟨0, _⟩ =>
    refine Fin.ext ((emb1 t _ 0).trans ?_)
    show cc0_transform_1 (grid0.coords t) 0 * 1 + 0 = t.val / 8
    omega
  | ⟨1, _⟩ =>
    refine Fin.ext ((emb1 t _ 1).trans ?_)
    show cc0_transform_1 (grid0.coords t) 1 * 1 + 0 = 1
    omega
  | ⟨2, _⟩ =>
    refine Fin.ext ((emb1 t _ 2).trans ?_)
    show cc0_transform_1 (grid0.coords t) 2 * 512 + r.val = 512 * (7 - t.val % 8) + r.val
    omega
  | ⟨3, _⟩ =>
    refine Fin.ext ((emb1 t _ 3).trans ?_)
    show cc0_transform_1 (grid0.coords t) 3 * 384 + k.val = k.val
    omega

/-! ## The whole arrays a point reads -/

/-- A part of the matrix's rows. -/
theorem part1_at (w : FVec Ideal S1024x1024 .f32) (h) (h') (k : Fin 256) (d : Fin 1024) :
    (extractStridedSlice S256x1024 ![0, 0] (truncf .bf16 w h : FVec Ideal S1024x1024 .bf16) h' (ix2 k d) : EReal) = w (ix2 ⟨k.val, by omega⟩ d) := by
  pointwise
theorem part2_at (w : FVec Ideal S1024x1024 .f32) (h) (h') (k : Fin 384) (d : Fin 1024) :
    (extractStridedSlice S384x1024 ![256, 0] (truncf .bf16 w h : FVec Ideal S1024x1024 .bf16) h' (ix2 k d) : EReal) = w (ix2 ⟨256 + k.val, by omega⟩ d) := by
  pointwise
theorem part3_at (w : FVec Ideal S1024x1024 .f32) (h) (h') (k : Fin 384) (d : Fin 1024) :
    (extractStridedSlice S384x1024 ![640, 0] (truncf .bf16 w h : FVec Ideal S1024x1024 .bf16) h' (ix2 k d) : EReal) = w (ix2 ⟨640 + k.val, by omega⟩ d) := by
  pointwise

/-- A vector as a one-row matrix. -/
theorem vec_at (g : FVec Ideal S384 .f32) (h) (k : Fin 384) : shapeCast S1x384 g h (ix2 0 k) = g (ix1 k) := by
  pointwise

/-- The matrix's first rows, -/
theorem blk5_at (c : Dev nD) (t : Fin cfg0.N) (a : Fin 256) (k : Fin 1024) :
    (iblk m c 5 t : FVec Ideal S256x1024 .bf16) (ix2 a k) = (m ((c : Thread nD τ).loc main_arg5) : FVec Ideal S1024x1024 .f32) (ix2 ⟨a.val, by omega⟩ k) := by
  have h0 : (((cfg0.win (5 : Fin 12)).blk t).view.emb (ix2 a k : S256x1024.Idx) : S256x1024.Idx) = ix2 a k := by
    funext d
    match d with
    | ⟨0, _⟩ =>
      refine Fin.ext ((emb5 t _ 0).trans ?_)
      show 0 * 256 + a.val = a.val
      omega
    | ⟨1, _⟩ =>
      refine Fin.ext ((emb5 t _ 1).trans ?_)
      show 0 * 1024 + k.val = k.val
      omega
  refine (congrArg (V m c main_v1 : FVec Ideal S256x1024 .bf16) h0).trans ?_
  exact part1_at (m ((c : Thread nD τ).loc main_arg5) : FVec Ideal S1024x1024 .f32) bitsLt_bf16_f32 slices_S1024x1024_S256x1024_0_0 a k

/-- its middle rows, -/
theorem blk6_at (c : Dev nD) (t : Fin cfg0.N) (a : Fin 384) (k : Fin 1024) :
    (iblk m c 6 t : FVec Ideal S384x1024 .bf16) (ix2 a k) = (m ((c : Thread nD τ).loc main_arg5) : FVec Ideal S1024x1024 .f32) (ix2 ⟨256 + a.val, by omega⟩ k) := by
  have h0 : (((cfg0.win (6 : Fin 12)).blk t).view.emb (ix2 a k : S384x1024.Idx) : S384x1024.Idx) = ix2 a k := by
    funext d
    match d with
    | ⟨0, _⟩ =>
      refine Fin.ext ((emb6 t _ 0).trans ?_)
      show 0 * 384 + a.val = a.val
      omega
    | ⟨1, _⟩ =>
      refine Fin.ext ((emb6 t _ 1).trans ?_)
      show 0 * 1024 + k.val = k.val
      omega
  refine (congrArg (V m c main_v2 : FVec Ideal S384x1024 .bf16) h0).trans ?_
  exact part2_at (m ((c : Thread nD τ).loc main_arg5) : FVec Ideal S1024x1024 .f32) bitsLt_bf16_f32 slices_S1024x1024_S384x1024_256_0 a k

/-- and its last. -/
theorem blk7_at (c : Dev nD) (t : Fin cfg0.N) (a : Fin 384) (k : Fin 1024) :
    (iblk m c 7 t : FVec Ideal S384x1024 .bf16) (ix2 a k) = (m ((c : Thread nD τ).loc main_arg5) : FVec Ideal S1024x1024 .f32) (ix2 ⟨640 + a.val, by omega⟩ k) := by
  have h0 : (((cfg0.win (7 : Fin 12)).blk t).view.emb (ix2 a k : S384x1024.Idx) : S384x1024.Idx) = ix2 a k := by
    funext d
    match d with
    | ⟨0, _⟩ =>
      refine Fin.ext ((emb7 t _ 0).trans ?_)
      show 0 * 384 + a.val = a.val
      omega
    | ⟨1, _⟩ =>
      refine Fin.ext ((emb7 t _ 1).trans ?_)
      show 0 * 1024 + k.val = k.val
      omega
  refine (congrArg (V m c main_v3 : FVec Ideal S384x1024 .bf16) h0).trans ?_
  exact part3_at (m ((c : Thread nD τ).loc main_arg5) : FVec Ideal S1024x1024 .f32) bitsLt_bf16_f32 slices_S1024x1024_S384x1024_640_0 a k

/-- The gate's matrix -/
theorem blk8_at (c : Dev nD) (t : Fin cfg0.N) (a : Fin 384) (k : Fin 384) :
    (iblk m c 8 t : FVec Ideal S384x384 .bf16) (ix2 a k) = (m ((c : Thread nD τ).loc main_arg6) : FVec Ideal S384x384 .f32) (ix2 a k) := by
  have h0 : (((cfg0.win (8 : Fin 12)).blk t).view.emb (ix2 a k : S384x384.Idx) : S384x384.Idx) = ix2 a k := by
    funext d
    match d with
    | ⟨0, _⟩ =>
      refine Fin.ext ((emb8 t _ 0).trans ?_)
      show 0 * 384 + a.val = a.val
      omega
    | ⟨1, _⟩ =>
      refine Fin.ext ((emb8 t _ 1).trans ?_)
      show 0 * 384 + k.val = k.val
      omega
  refine (congrArg (V m c main_v4 : FVec Ideal S384x384 .bf16) h0).trans ?_
  rfl

/-- and its bias. -/
theorem blk9_at (c : Dev nD) (t : Fin cfg0.N) (k : Fin 384) :
    (iblk m c 9 t : FVec Ideal S1x384 .f32) (ix2 0 k) = (m ((c : Thread nD τ).loc main_arg7) : FVec Ideal S384 .f32) (ix1 k) := by
  have h0 : (((cfg0.win (9 : Fin 12)).blk t).view.emb (ix2 0 k : S1x384.Idx) : S1x384.Idx) = ix2 0 k := by
    funext d
    match d with
    | ⟨0, _⟩ =>
      refine Fin.ext ((emb9 t _ 0).trans ?_)
      show 0 * 1 + 0 = 0
      omega
    | ⟨1, _⟩ =>
      refine Fin.ext ((emb9 t _ 1).trans ?_)
      show 0 * 384 + k.val = k.val
      omega
  refine (congrArg (V m c main_v5 : FVec Ideal S1x384 .f32) h0).trans ?_
  exact vec_at (m ((c : Thread nD τ).loc main_arg7) : FVec Ideal S384 .f32) shapeCasts_S384_S1x384 k

/-- The flip matrix's words as an array. -/
def flipWords : FVec Ideal S256x256 .bf16 := fun i => FloatOps.ofBits .bf16 (lit0 (S256x256.rowMajor i))

/-- One of its entries. -/
theorem flipWords_at (a k : Fin 256) : (flipWords (ix2 a k) : EReal) = Ideal.ofBits .bf16 (lit0t (256 * a.val + k.val)) := by
  have h : (S256x256.rowMajor (ix2 a k)).val = 256 * a.val + k.val := (Shape.rowMajor_val_two _).trans (by show a.val * 256 + k.val = _; omega)
  exact congrArg (fun n => Ideal.ofBits .bf16 (lit0t n)) h

/-- The flip matrix. -/
theorem blk10_at (c : Dev nD) (t : Fin cfg0.N) (a : Fin 256) (k : Fin 256) :
    (iblk m c 10 t : FVec Ideal S256x256 .bf16) (ix2 a k) = flipWords (ix2 a k) := by
  have h0 : (((cfg0.win (10 : Fin 12)).blk t).view.emb (ix2 a k : S256x256.Idx) : S256x256.Idx) = ix2 a k := by
    funext d
    match d with
    | ⟨0, _⟩ =>
      refine Fin.ext ((emb10 t _ 0).trans ?_)
      show 0 * 256 + a.val = a.val
      omega
    | ⟨1, _⟩ =>
      refine Fin.ext ((emb10 t _ 1).trans ?_)
      show 0 * 256 + k.val = k.val
      omega
  refine (congrArg (V m c main_cst : FVec Ideal S256x256 .bf16) h0).trans ?_
  rfl

end Cert.OutProjection

end
-- ==== Proof.OutKer.lean ====
/- The output projection kernel's result array at the ideal values, where the folded branch's second half is finite, is the
   array of `OutSpec.lean`. -/
module

public import proofs.«01_k».proof.Proof.OutPay
public import proofs.«01_k».proof.Proof.OutBlk

@[expose] public section

set_option maxRecDepth 16384

noncomputable section

namespace Cert.OutProjection

open Cert.OutProjIdeal Cert.OutProjIdeal.Gen
open Idealize.ShloMosaic Idealize.ShloMosaic.TcCoe Idealize.SL.Sem

variable (m : (ℓ : Loc nD τ sig) → Buf (Elt Ideal) ℓ)

/-- Every entry of the folded branch's second half less itself is zero. -/
def Cancels (Z : FVec Ideal TFold .f32) : Prop := ∀ (b : Fin 16) (r : Fin 2048) (k : Fin 384), (Z (ix4 b 1 r k) : EReal) - Z (ix4 b 1 r k) = 0

/-- The flip matrix's words are as said. -/
def Flips : Prop := ∀ a k : Fin 256, lit0t (256 * a.val + k.val) = if a.val + k.val = 255 then 0x3F80#16 else 0#16

/-- The array of the words, as numbers. -/
theorem flip_at (hF : Flips) (a k : Fin 256) : (flipWords (ix2 a k) : EReal) = if a.val + k.val = 255 then 1 else 0 := by
  rw [flipWords_at, hF a k]
  split
  · exact Ideal.ofBits_one_bf16
  · exact Ideal.ofBits_zero_bf16

/-- The specification's array of the launch's arguments. -/
def resultOf (c : Dev nD) : FVec Ideal S16x4096x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- A point's gated rows. -/
theorem gated_at (c : Dev nD) (t : Fin cfg0.N) (r : Fin 512) (k : Fin 384) :
    k0_pay4 (F := Ideal) (iblk m c 2 t) (iblk m c 8 t) (iblk m c 9 t) (ix2 r k)
      = gated (fun j => (m ((c : Thread nD τ).loc main_arg2) : FVec Ideal S16x4096x384 .f32) (ix3 (bat t) (row t r) j)) (m ((c : Thread nD τ).loc main_arg6)) (m ((c : Thread nD τ).loc main_arg7)) k := by
  refine (pay4_at _ _ _ r k).trans ?_
  unfold gated
  simp only [blk2_at m c t, blk8_at m c t, blk9_at m c t]

/-- A block's result, once its rows of the folded branch are the specification's. -/
theorem closed_result (c : Dev nD) (t : Fin cfg0.N) (h : FVec Ideal S512x384 .f32) (r : Fin 512) (d : Fin 1024)
    (hh : ∀ k, (h (ix2 r k) : EReal) = unfolded (m ((c : Thread nD τ).loc main_arg1)) (bat t) (row t r) k) :
    closed (F := Ideal) (k0_pay4 (iblk m c 2 t) (iblk m c 8 t) (iblk m c 9 t)) (k0_pay5 (iblk m c 0 t) (iblk m c 5 t)) (iblk m c 7 t) h (iblk m c 3 t) (iblk m c 4 t) (iblk m c 6 t) (ix3 0 r d)
      = resultOf m c (ix3 (bat t) (row t r) d) := by
  refine (closed_at _ _ _ _ h _ _ _ r d).trans ?_
  simp only [hh, gated_at m c t, blk0_at m c t, blk3_at m c t, blk4_at m c t, blk5_at m c t, blk6_at m c t, blk7_at m c t]
  rw [add_right_comm]
  rfl

/-- What a point leaves in the output's block. -/
theorem block_at (hF : Flips) (c : Dev nD) (hZ : Cancels (m ((c : Thread nD τ).loc main_arg1))) (t : Fin cfg0.N) (r : Fin 512) (d : Fin 1024) :
    (outsAt0 m c t.val t.isLt : FVec Ideal S1x512x1024 .f32) (ix3 0 r d) = resultOf m c (ix3 (bat t) (row t r) d) := by
  by_cases ht : t.val % 8 ≤ 3
  · rw [out_first m c t ht]
    refine closed_result m c t _ r d fun k => ?_
    rw [rows_at]
    refine (blk1_first m c t (by omega) r k).trans ?_
    have hlt : (row t r).val < 2048 := by unfold row; dsimp only; omega
    unfold unfolded
    rw [dif_pos hlt]
    rfl
  · rw [out_second m c t (by omega)]
    refine closed_result m c t _ r d fun k => ?_
    rw [flipped_at _ _ (fun a k => (blk10_at m c t a k).trans (flip_at hF a k)) (fun r k => ?_), rows_at]
    · refine (blk1_second m c t (by omega) _ k).trans ?_
      unfold unfolded
      rw [dif_neg (by unfold row; dsimp only; omega)]
      exact congrArg (fun i : Fin 2048 => (m ((c : Thread nD τ).loc main_arg1) : FVec Ideal S16x2x2048x384 .f32) (ix4 (bat t) 1 i k)) (Fin.ext (by unfold row; dsimp only; omega))
    · rw [rows_at, blk1_second m c t (by omega)]
      exact hZ _ _ _

/-- The kernel's result array is the specification's. -/
theorem kernel_result (hF : Flips) (c : Dev nD) (hZ : Cancels (m ((c : Thread nD τ).loc main_arg1))) :
    ((dats m 0 c).arrAt 11 cfg0.N : FVec Ideal S16x4096x1024 .f32) = resultOf m c := by
  funext i
  have i0 : (i 0).val < 16 := (i 0).isLt
  have i1 : (i 1).val < 4096 := (i 1).isLt
  have i2 : (i 2).val < 1024 := (i 2).isLt
  have hN : cfg0.N = 128 := N_0
  have hlt : 8 * (i 0).val + (i 1).val / 512 < cfg0.N := by omega
  generalize ht : (⟨8 * (i 0).val + (i 1).val / 512, hlt⟩ : Fin cfg0.N) = t
  have hv : t.val = 8 * (i 0).val + (i 1).val / 512 := congrArg Fin.val ht.symm
  have h := congrFun (Cert.OutProjIdeal.Value.blocks11 m c t (flush0_11 t)) (ix3 0 ⟨(i 1).val % 512, by omega⟩ ⟨(i 2).val, i2⟩ : S1x512x1024.Idx)
  rw [Cert.OutProjIdeal.Value.flushed11] at h
  have he : (((cfg0.win (11 : Fin 12)).blk t).view.emb (ix3 0 ⟨(i 1).val % 512, by omega⟩ ⟨(i 2).val, i2⟩ : S1x512x1024.Idx) : S16x4096x1024.Idx) = i := by
    funext a
    obtain ⟨h0, h1⟩ := coord_words t
    match a with
    | ⟨0, _⟩ =>
      refine Fin.ext ((emb11 t _ 0).trans ?_)
      show (BitVec.ofNat 32 (grid0.coords t 0).val).toNat * 1 + 0 = (i 0).val
      omega
    | ⟨1, _⟩ =>
      refine Fin.ext ((emb11 t _ 1).trans ?_)
      show (BitVec.ofNat 32 (grid0.coords t 1).val).toNat * 512 + (i 1).val % 512 = (i 1).val
      omega
    | ⟨2, _⟩ =>
      refine Fin.ext ((emb11 t _ 2).trans ?_)
      show 0 * 1024 + (i 2).val = (i 2).val
      omega
  have hr : (ix3 (bat t) (row t ⟨(i 1).val % 512, by omega⟩) ⟨(i 2).val, i2⟩ : S16x4096x1024.Idx) = i := funext fun a => match a with
    | ⟨0, _⟩ => Fin.ext (by show t.val / 8 = (i 0).val; omega)
    | ⟨1, _⟩ => Fin.ext (by show 512 * (t.val % 8) + (i 1).val % 512 = (i 1).val; omega)
    | ⟨2, _⟩ => rfl
  refine (congrArg ((dats m 0 c).arrAt 11 cfg0.N : FVec Ideal S16x4096x1024 .f32) he.symm).trans (Eq.trans h ?_)
  refine Eq.trans ?_ ((block_at m hF c hZ t ⟨(i 1).val % 512, by omega⟩ ⟨(i 2).val, i2⟩).trans (congrArg (resultOf m c) hr))
  exact congrArg (outsAt0 m c t.val t.isLt : FVec Ideal S1x512x1024 .f32) (funext fun a => match a with
    | ⟨0, _⟩ => rfl
    | ⟨1, _⟩ => rfl
    | ⟨2, _⟩ => rfl)

end Cert.OutProjection

end
-- ==== Proof.OutRef.lean ====
/- The output projection's reference term, read at an index, is the array of `OutSpec.lean`. -/
module

public import proofs.«01_k».proof.Proof.OutSpec
public import proofs.«01_k».proof.Proof.Gen.OutProjReferenceIdeal.Run

@[expose] public section

set_option maxRecDepth 16384

noncomputable section

namespace Cert.OutProjection

open Cert.OutProjReferenceIdeal Cert.OutProjReferenceIdeal.Gen Idealize.ShloMosaic Idealize.ShloMosaic.TcCoe Idealize.SL.Sem

/-- The GELU of an array, as the reference prints it. -/
def refGelu (Y : FVec Ideal S16x4096x384 .f32) : FVec Ideal S16x4096x384 .f32 :=
  mulf Y (mulf (broadcastInDim S16x4096x384 ![] bcast_S_S16x4096x384 (constant S_ .f32 0x3F000000#32)) (addf (broadcastInDim S16x4096x384 ![] bcast_S_S16x4096x384 (constant S_ .f32 0x3F800000#32))
    (Host.tanh (mulf (broadcastInDim S16x4096x384 ![] bcast_S_S16x4096x384 (constant S_ .f32 0x3F4C422A#32)) (addf Y (mulf (broadcastInDim S16x4096x384 ![] bcast_S_S16x4096x384 (constant S_ .f32 0x3D372713#32)) (mulf (mulf Y Y) Y)))))))

theorem refGelu_at (Y : FVec Ideal S16x4096x384 .f32) (b : Fin 16) (r : Fin 4096) (k : Fin 384) : refGelu Y (ix3 b r k) = gelu (Y (ix3 b r k)) := by
  pointwise [refGelu, gelu]

/-- The gated branch of rows whose GELU is `G`. -/
def refGated (G : FVec Ideal S16x4096x384 .f32) (W : FVec Ideal S384x384 .f32) (gb : FVec Ideal S384 .f32) : FVec Ideal S16x4096x384 .f32 :=
  mulf G (Host.divf (broadcastInDim S16x4096x384 ![] bcast_S_S16x4096x384 (constant S_ .f32 0x3F800000#32)) (addf (broadcastInDim S16x4096x384 ![] bcast_S_S16x4096x384 (constant S_ .f32 0x3F800000#32))
    (Host.exp (Host.negf (addf (Host.dotGeneral (φ₁ := .f32) (φ₂ := .f32) dot_S16x4096x384_S384x384_S16x4096x384_2_0_01_1_n_n none G W)
      (broadcastInDim S16x4096x384 ![0, 1, 2] bcast_S1x1x384_S16x4096x384_0_1_2 (broadcastInDim S1x1x384 ![2] bcast_S384_S1x1x384_2 gb)))))))

theorem refGated_at (G : FVec Ideal S16x4096x384 .f32) (W : FVec Ideal S384x384 .f32) (gb : FVec Ideal S384 .f32) (b : Fin 16) (r : Fin 4096) (k : Fin 384) :
    refGated G W gb (ix3 b r k) = G (ix3 b r k) * Ideal.div 1 (1 + Ideal.exp (-((∑ j : Fin 384, G (ix3 b r j) * W (ix2 j k)) + gb (ix1 k)))) := by
  pointwise [refGated]

/-- The folded branch in order. -/
def refUnfolded (Z : FVec Ideal S16x2x2048x384 .f32) : FVec Ideal S16x4096x384 .f32 :=
  concatenate S16x4096x384 1 [⟨S16x2048x384, (shapeCast _ (extractStridedSlice S16x1x2048x384 ![0, 0, 0, 0] Z slices_S16x2x2048x384_S16x1x2048x384_0_0_0_0) shapeCasts_S16x1x2048x384_S16x2048x384)⟩,
    ⟨S16x2048x384, (shapeCast _ (Host.reverse [2] (extractStridedSlice S16x1x2048x384 ![0, 1, 0, 0] Z slices_S16x2x2048x384_S16x1x2048x384_0_1_0_0)) shapeCasts_S16x1x2048x384_S16x2048x384)⟩] concatenates_S16x2048x384_S16x2048x384_S16x4096x384_d1

theorem refUnfolded_at (Z : FVec Ideal S16x2x2048x384 .f32) (b : Fin 16) (r : Fin 4096) (k : Fin 384) : refUnfolded Z (ix3 b r k) = unfolded Z b r k := by
  pointwise [refUnfolded, unfolded]
  split
  · rfl
  · next h =>
    have hi : (⟨r.val - 2048, by omega⟩ : Fin 2048).rev = ⟨4095 - r.val, by omega⟩ := Fin.ext (by rw [Fin.val_rev]; dsimp only; omega)
    exact congrArg (fun i : Fin 2048 => Z (ix4 b 1 i k)) hi

/-- The three branches side by side. -/
def refSide (F : FVec Ideal S16x4096x256 .f32) (H S : FVec Ideal S16x4096x384 .f32) : FVec Ideal S16x4096x1024 .f32 :=
  concatenate S16x4096x1024 2 [⟨S16x4096x256, F⟩, ⟨S16x4096x384, H⟩, ⟨S16x4096x384, S⟩] concatenates_S16x4096x256_S16x4096x384_S16x4096x384_S16x4096x1024_d2

theorem refSide_four (F : FVec Ideal S16x4096x256 .f32) (H S : FVec Ideal S16x4096x384 .f32) (b : Fin 16) (r : Fin 4096) (k : Fin 256) :
    refSide F H S (ix3 b r ⟨k.val, by omega⟩) = F (ix3 b r k) := by
  pointwise [refSide]

theorem refSide_fold (F : FVec Ideal S16x4096x256 .f32) (H S : FVec Ideal S16x4096x384 .f32) (b : Fin 16) (r : Fin 4096) (k : Fin 384) :
    refSide F H S (ix3 b r ⟨256 + k.val, by omega⟩) = H (ix3 b r k) := by
  pointwise [refSide]

theorem refSide_gated (F : FVec Ideal S16x4096x256 .f32) (H S : FVec Ideal S16x4096x384 .f32) (b : Fin 16) (r : Fin 4096) (k : Fin 384) :
    refSide F H S (ix3 b r ⟨640 + k.val, by omega⟩) = S (ix3 b r k) := by
  pointwise [refSide]
  rw [dif_neg (by omega), dif_neg (by omega)]
  exact congrArg (fun i : Fin 384 => S (ix3 b r i)) (Fin.ext (by dsimp only; omega))

/-- The result of the branches side by side, as the reference prints it. -/
def refOut (V X : FVec Ideal S16x4096x1024 .f32) (gt : FVec Ideal S16x1x1024 .f32) (W : FVec Ideal S1024x1024 .f32) : FVec Ideal S16x4096x1024 .f32 :=
  addf X (mulf (broadcastInDim S16x4096x1024 ![0, 1, 2] bcast_S16x1x1024_S16x4096x1024_0_1_2 gt) (Host.dotGeneral (φ₁ := .f32) (φ₂ := .f32) dot_S16x4096x1024_S1024x1024_S16x4096x1024_2_0_01_1_n_n none V W))

theorem refOut_at (V X : FVec Ideal S16x4096x1024 .f32) (gt : FVec Ideal S16x1x1024 .f32) (W : FVec Ideal S1024x1024 .f32) (b : Fin 16) (r : Fin 4096) (d : Fin 1024) :
    refOut V X gt W (ix3 b r d) = X (ix3 b r d) + gt (ix3 b 0 d) * ∑ k : Fin 1024, V (ix3 b r k) * W (ix2 k d) := by
  pointwise [refOut]

/-- The reference's result at an index is the specification's. -/
theorem refAll_at (YF : FVec Ideal S16x4096x256 .f32) (YH : FVec Ideal S16x2x2048x384 .f32) (YS : FVec Ideal S16x4096x384 .f32) (X : FVec Ideal S16x4096x1024 .f32) (gt : FVec Ideal S16x1x1024 .f32)
    (W : FVec Ideal S1024x1024 .f32) (GW : FVec Ideal S384x384 .f32) (gb : FVec Ideal S384 .f32) (b : Fin 16) (r : Fin 4096) (d : Fin 1024) :
    refOut (refSide YF (refUnfolded YH) (refGated (refGelu YS) GW gb)) X gt W (ix3 b r d) = outAt YF YH YS X gt W GW gb b r d := by
  rw [refOut_at, sum_cut]
  simp only [refSide_four, refSide_fold, refSide_gated, refUnfolded_at, refGated_at, refGelu_at]
  rfl

/-- The reference's array is the specification's. -/
theorem refOut_eq (YF : FVec Ideal S16x4096x256 .f32) (YH : FVec Ideal S16x2x2048x384 .f32) (YS : FVec Ideal S16x4096x384 .f32) (X : FVec Ideal S16x4096x1024 .f32) (gt : FVec Ideal S16x1x1024 .f32)
    (W : FVec Ideal S1024x1024 .f32) (GW : FVec Ideal S384x384 .f32) (gb : FVec Ideal S384 .f32) :
    refOut (refSide YF (refUnfolded YH) (refGated (refGelu YS) GW gb)) X gt W = result YF YH YS X gt W GW gb := by
  funext y
  have hy : y = ix3 (y 0) (y 1) (y 2) := funext fun a => match a with | ⟨0, _⟩ => rfl | ⟨1, _⟩ => rfl | ⟨2, _⟩ => rfl
  exact (congrArg (refOut (refSide YF (refUnfolded YH) (refGated (refGelu YS) GW gb)) X gt W) hy).trans (refAll_at YF YH YS X gt W GW gb (y 0) (y 1) (y 2))

end Cert.OutProjection

end
-- ==== Proof.OutFlip.Rows.lean ====
/- The flip matrix, as the program prints it: what is to be said of its rows. -/
module

public import proofs.«01_k».proof.OutProjIdeal

@[expose] public section

set_option maxRecDepth 65536

namespace Cert.OutProjection

open Cert.OutProjIdeal

/-- Thirty-two rows of the matrix, from row `32 c`: the entry in row `a` and column `k` is one where `a + k = 255` and zero elsewhere. -/
def RowsFrom (c : Nat) : Prop :=
  ∀ a : Fin 32, ∀ k : Fin 256, lit0t (256 * (32 * c + a.val) + k.val) = if 32 * c + a.val + k.val = 255 then 0x3F80#16 else 0#16

noncomputable instance (c : Nat) : Decidable (RowsFrom c) := by unfold RowsFrom; infer_instance

end Cert.OutProjection

end
-- ==== Proof.OutFlip.A.lean ====
/- Rows 0 to 63 of the flip matrix, entry by entry. -/
module

public import proofs.«01_k».proof.Proof.OutFlip.Rows

@[expose] public section

set_option maxRecDepth 65536

namespace Cert.OutProjection

open Cert.OutProjIdeal

theorem rows0 : RowsFrom 0 := by decide +kernel
theorem rows1 : RowsFrom 1 := by decide +kernel

end Cert.OutProjection

end
-- ==== Proof.OutFlip.B.lean ====
/- Rows 64 to 127 of the flip matrix, entry by entry. -/
module

public import proofs.«01_k».proof.Proof.OutFlip.Rows

@[expose] public section

set_option maxRecDepth 65536

namespace Cert.OutProjection

open Cert.OutProjIdeal

theorem rows2 : RowsFrom 2 := by decide +kernel
theorem rows3 : RowsFrom 3 := by decide +kernel

end Cert.OutProjection

end
-- ==== Proof.OutFlip.C.lean ====
/- Rows 128 to 191 of the flip matrix, entry by entry. -/
module

public import proofs.«01_k».proof.Proof.OutFlip.Rows

@[expose] public section

set_option maxRecDepth 65536

namespace Cert.OutProjection

open Cert.OutProjIdeal

theorem rows4 : RowsFrom 4 := by decide +kernel
theorem rows5 : RowsFrom 5 := by decide +kernel

end Cert.OutProjection

end
-- ==== Proof.OutFlip.D.lean ====
/- Rows 192 to 255 of the flip matrix, entry by entry. -/
module

public import proofs.«01_k».proof.Proof.OutFlip.Rows

@[expose] public section

set_option maxRecDepth 65536

namespace Cert.OutProjection

open Cert.OutProjIdeal

theorem rows6 : RowsFrom 6 := by decide +kernel
theorem rows7 : RowsFrom 7 := by decide +kernel

end Cert.OutProjection

end
-- ==== Proof.OutFlip.lean ====
/- The whole flip matrix. -/
module

public import proofs.«01_k».proof.Proof.OutFlip.A
public import proofs.«01_k».proof.Proof.OutFlip.B
public import proofs.«01_k».proof.Proof.OutFlip.C
public import proofs.«01_k».proof.Proof.OutFlip.D

@[expose] public section

set_option maxRecDepth 65536

namespace Cert.OutProjection

open Cert.OutProjIdeal

/-- Every entry of the matrix, as a word. -/
theorem word_at (a k : Fin 256) : lit0t (256 * a.val + k.val) = if a.val + k.val = 255 then 0x3F80#16 else 0#16 := by
  have h : ∀ c : Fin 8, RowsFrom c.val := fun c => match c with
    | 0 => rows0 | 1 => rows1 | 2 => rows2 | 3 => rows3 | 4 => rows4 | 5 => rows5 | 6 => rows6 | 7 => rows7
  have := h ⟨a.val / 32, by omega⟩ ⟨a.val % 32, by omega⟩ k
  dsimp only at this
  have e : 32 * (a.val / 32) + a.val % 32 = a.val := by omega
  rwa [e] at this

end Cert.OutProjection

end
-- ==== Proof.OutAlgebraic.lean ====
/- The output projection's kernel and reference leave the same result: each is the array of the specification. -/
module

public import proofs.«01_k».proof.Defs
public import proofs.«01_k».proof.Proof.OutKer
public import proofs.«01_k».proof.Proof.OutRef
public import proofs.«01_k».proof.Proof.OutFlip
public import proofs.«01_k».proof.Proof.Gen.Pre_second_half_finite
public import Idealize.ShloMosaic.Lib.ReduceAll
public import Idealize.ShloMosaic.Init

@[expose] public section

set_option maxRecDepth 16384

noncomputable section

namespace Cert.OutProjection

open Idealize.ShloMosaic Idealize.ShloMosaic.TcCoe Idealize.SL.Sem

/-- The idealized reference's frame. -/
theorem frame_ref : Cert.quiescent_OutProjReferenceIdeal := by
  intro m ρ _
  exact (θ_run Cert.OutProjReferenceIdeal.defs _ _).mono (fun r h => ⟨fun c => (h c).2, Idealize.ShloMosaic.sem_eq_zero_of_no_sems (by decide) r.2⟩)
    (Cert.OutProjReferenceIdeal.Value.run m ρ)

/-- The same under the precondition. -/
theorem frame_ref_pre : Cert.quiescent_OutProjReferenceIdeal_pre_second_half_finite := fun m ρ _ => frame_ref m ρ trivial

instance subsingleton_scalar : Subsingleton (Cert.Pre_second_half_finite.S_).Idx := ⟨fun a b => funext fun k => k.elim0⟩

/-- A number below the top in absolute value cancels. -/
theorem cancel (v : EReal) (h : Ideal.cmp .olt (max v (-v)) (Ideal.ofBits .f32 0x7F800000#32) = 1#1) : v - v = 0 := by
  have htop : Ideal.ofBits .f32 0x7F800000#32 = ⊤ := by simp [Ideal.ofBits, Ideal.ieee]
  rw [htop] at h
  refine EReal.sub_self ?_ ?_
  · rintro rfl
    simp [Ideal.cmp] at h
  · rintro rfl
    simp [Ideal.cmp] at h

/-- The precondition says the second half cancels. -/
theorem cancels_of_pre (x0 : FVec Ideal Cert.Pre_second_half_finite.S16x4096x256 .f32) (Z : FVec Ideal Cert.Pre_second_half_finite.S16x2x2048x384 .f32)
    (x2 : FVec Ideal Cert.Pre_second_half_finite.S16x4096x384 .f32) (x3 : FVec Ideal Cert.Pre_second_half_finite.S16x4096x1024 .f32) (x4 : FVec Ideal Cert.Pre_second_half_finite.S16x1x1024 .f32)
    (x5 : FVec Ideal Cert.Pre_second_half_finite.S1024x1024 .f32) (x6 : FVec Ideal Cert.Pre_second_half_finite.S384x384 .f32) (x7 : FVec Ideal Cert.Pre_second_half_finite.S384 .f32)
    (h : Cert.Pre_second_half_finite.fn (F := Ideal) x0 Z x2 x3 x4 x5 x6 x7 = fun _ => 1#1) : Cancels Z := by
  intro b r k
  have h1 := Host.reduce_andi_all _ _ _ _ (fun a => a.elim0) (congrFun h (fun a => a.elim0)) (ix4 b 0 r k)
  have hs : extractStridedSlice Cert.Pre_second_half_finite.S16x1x2048x384 ![0, 1, 0, 0] Z Cert.Pre_second_half_finite.Facts.slices_S16x2x2048x384_S16x1x2048x384_0_1_0_0 (ix4 b 0 r k) = Z (ix4 b 1 r k) := by
    pointwise
  have h2 : Ideal.cmp .olt (max (extractStridedSlice Cert.Pre_second_half_finite.S16x1x2048x384 ![0, 1, 0, 0] Z Cert.Pre_second_half_finite.Facts.slices_S16x2x2048x384_S16x1x2048x384_0_1_0_0 (ix4 b 0 r k) : EReal)
      (-(extractStridedSlice Cert.Pre_second_half_finite.S16x1x2048x384 ![0, 1, 0, 0] Z Cert.Pre_second_half_finite.Facts.slices_S16x2x2048x384_S16x1x2048x384_0_1_0_0 (ix4 b 0 r k) : EReal)))
      (Ideal.ofBits .f32 0x7F800000#32) = 1#1 := h1
  rw [hs] at h2
  exact cancel _ h2

/-- On the same arguments, the second half finite, the idealized kernel and its idealized reference leave the same result. -/
theorem algebraic : Cert.algebraic_OutProjIdeal_OutProjReferenceIdeal_pre_second_half_finite := by
  intro m g m' g' hp hargs
  refine ⟨fun c => resultOf m c, ?_, ?_⟩
  · refine (θ_run Cert.OutProjIdeal.defs _ _).mono (fun r h c => ⟨?_, (h c).2⟩) (Cert.OutProjIdeal.Value.run_blocks m g)
    exact (h c).1.trans (kernel_result m word_at c (cancels_of_pre _ _ _ _ _ _ _ _ (hp c)))
  · refine (θ_run Cert.OutProjReferenceIdeal.defs _ _).mono (fun r h c => ⟨?_, (h c).2⟩) (Cert.OutProjReferenceIdeal.Value.run m' g')
    obtain ⟨h0, h1, h2, h3, h4, h5, h6, h7⟩ := hargs c
    rw [(h c).1, h0, h1, h2, h3, h4, h5, h6, h7]
    exact refOut_eq _ _ _ _ _ _ _ _

end Cert.OutProjection

end
-- ==== Proof.InSpec.lean ====
/- The input projection as sums over plain indices: a row normalized and modulated, its product with the matrix, the short
   convolution along the rows of the grid, and the results kept as two halves, the second from its end. -/
module

public import proofs.«01_k».proof.Proof.DenseSpec

@[expose] public section

set_option maxRecDepth 16384

noncomputable section

namespace Cert.InProjection

open Idealize.ShloMosaic

abbrev TModel : Shape := ⟨3, ![16, 4096, 1024]⟩
abbrev TGain : Shape := ⟨1, ![1024]⟩
abbrev TMod : Shape := ⟨3, ![16, 1, 1024]⟩
abbrev TIn : Shape := ⟨2, ![1024, 1792]⟩
abbrev TTaps : Shape := ⟨2, ![3, 1152]⟩
abbrev TBias : Shape := ⟨1, ![1152]⟩
abbrev TSeq : Shape := ⟨3, ![16, 4096, 384]⟩

/-- A row times a column of the matrix. -/
def proj (N : Fin 1024 → EReal) (W : FVec Ideal TIn .f32) (f : Fin 1792) : EReal := ∑ k : Fin 1024, N k * W (ix2 k f)

/-- Column `j` of the short convolution at row `r`: the row before, the row and the row after, each times its tap, where a row
    of the grid, 64 long, has nothing before its first or after its last. -/
def conv (P : Fin 4096 → EReal) (w : FVec Ideal TTaps .f32) (cb : FVec Ideal TBias .f32) (r : Fin 4096) (j : Fin 1152) : EReal :=
  (if r.val % 64 = 0 then 0 else P ⟨r.val - 1, by omega⟩) * w (ix2 0 j) + P r * w (ix2 1 j)
    + (if r.val % 64 = 63 then 0 else P ⟨(r.val + 1) % 4096, by omega⟩) * w (ix2 2 j) + cb (ix1 j)

/-- Row `r` of batch `b`, column `f`, of the projected rows. -/
def projAt (X : FVec Ideal TModel .f32) (g : FVec Ideal TGain .f32) (sh sc : FVec Ideal TMod .f32) (W : FVec Ideal TIn .f32) (b : Fin 16) (r : Fin 4096) (f : Fin 1792) : EReal :=
  proj (Cert.DenseFfn.normed X g sh sc b r) W f

/-- The first 1408 columns: 256 as projected, the others after the convolution. -/
def mixAt (X : FVec Ideal TModel .f32) (g : FVec Ideal TGain .f32) (sh sc : FVec Ideal TMod .f32) (W : FVec Ideal TIn .f32) (w : FVec Ideal TTaps .f32) (cb : FVec Ideal TBias .f32)
    (b : Fin 16) (r : Fin 4096) (k : Fin 1408) : EReal :=
  if h : k.val < 256 then projAt X g sh sc W b r ⟨k.val, by omega⟩
  else conv (fun r => projAt X g sh sc W b r ⟨k.val, by omega⟩) w cb r ⟨k.val - 256, by omega⟩

/-- A sequence of rows kept as two halves, the second from its end to its beginning. -/
def folded {n : ℕ} (q : Fin 16 → Fin 4096 → Fin n → EReal) : FVec Ideal (⟨4, ![16, 2, 2048, n]⟩ : Shape) .f32 :=
  fun y => q (y 0) (if (y 1).val = 0 then ⟨(y 2).val, by have := (y 2).isLt; change (y 2).val < 2048 at this; omega⟩ else ⟨4095 - (y 2).val, by omega⟩) (y 3)

/-- The result of `n` columns from column `o`. -/
def part {n : ℕ} (o : ℕ) (ho : o + n ≤ 1408) (X : FVec Ideal TModel .f32) (g : FVec Ideal TGain .f32) (sh sc : FVec Ideal TMod .f32) (W : FVec Ideal TIn .f32) (w : FVec Ideal TTaps .f32)
    (cb : FVec Ideal TBias .f32) : FVec Ideal (⟨4, ![16, 2, 2048, n]⟩ : Shape) .f32 :=
  folded fun b r k => mixAt X g sh sc W w cb b r ⟨o + k.val, by omega⟩

/-- The last result: the last 384 columns, in order. -/
def seqPart (X : FVec Ideal TModel .f32) (g : FVec Ideal TGain .f32) (sh sc : FVec Ideal TMod .f32) (W : FVec Ideal TIn .f32) : FVec Ideal TSeq .f32 :=
  fun y => projAt X g sh sc W (y 0) (y 1) ⟨1408 + (y 2).val, by have := (y 2).isLt; change (y 2).val < 384 at this; omega⟩

end Cert.InProjection

end
-- ==== Proof.InPoints.lean ====
/- What the input projection's points leave, block by block. -/
module

public import proofs.«01_k».proof.Proof.InSpec
public import proofs.«01_k».proof.Proof.Gen.InProjIdeal.Value
public import Idealize.ShloMosaic.Lib.Pipeline.ValueKit

@[expose] public section

set_option maxRecDepth 16384

noncomputable section

namespace Cert.InProjection

open Cert.InProjIdeal Cert.InProjIdeal.Gen
open Idealize.ShloMosaic Idealize.ShloMosaic.TcCoe Idealize.SL.Sem

section Points

variable {F : FTy → Type} [FloatOps F]
variable (m : (ℓ : Loc nD τ sig) → Buf (Elt F) ℓ)

/-- The rows of the taps. -/
abbrev tap0 (w : Vec F S3x1152 .f32) : Vec F S1x1152 .f32 := View.ld (Val := Elt F) (S := S3x1152) (e' := .f32) w (Rect.unit (s := S3x1152) ![0, 0] S1x1152.size inb_S3x1152_S1x1152_0_0)
abbrev tap1 (w : Vec F S3x1152 .f32) : Vec F S1x1152 .f32 := View.ld (Val := Elt F) (S := S3x1152) (e' := .f32) w (Rect.unit (s := S3x1152) ![1, 0] S1x1152.size inb_S3x1152_S1x1152_1_0)
abbrev tap2 (w : Vec F S3x1152 .f32) : Vec F S1x1152 .f32 := View.ld (Val := Elt F) (S := S3x1152) (e' := .f32) w (Rect.unit (s := S3x1152) ![2, 0] S1x1152.size inb_S3x1152_S1x1152_2_0)

/-- The numbers of a block's rows. -/
def rowNums : IVec S512x1 32 := iota .tc S512x1 32 [0] iota_S512x1_d0_w32

/-- A block's first 1408 columns. -/
def mixed (x : FVec F S1x512x1024 .f32) (g : FVec F S1x1024 .f32) (sh sc : FVec F S1x1x1024 .f32) (w : FVec F S1024x1792 .bf16) (cw : FVec F S3x1152 .f32) (cb : FVec F S1x1152 .f32) : FVec F S512x1408 .f32 :=
  k0_pay1 (k0_pay11 x g sh sc w) (k0_pay13 x g sh sc w) (k0_pay14 rowNums) (k0_pay15 (k0_pay13 x g sh sc w) rowNums) (k0_pay16 (k0_pay13 x g sh sc w))
    (Scalar.ofBits .f32 0x00000000#32) (tap0 cw) (tap1 cw) (tap2 cw) cb

/-- The upper part of a block's rows. -/
def highPart (v : FVec F S512x1408 .f32) : FVec F S512x1408 .bf16 := truncf .bf16 v bitsLt_bf16_f32

/-- What is left of the rows. -/
def lowPart (v : FVec F S512x1408 .f32) : FVec F S512x1408 .bf16 := truncf .bf16 (subf v (extf .f32 (highPart v) bitsLt_bf16_f32)) bitsLt_bf16_f32

/-- The rows from the last to the first, by products with the flip matrix. -/
def flipped (v : FVec F S512x1408 .f32) (J : FVec F S256x256 .bf16) : FVec F S512x1408 .f32 :=
  concatenate S512x1408 0
    [⟨S256x1408, addf (matmul dot_S256x256_S256x1408_S256x1408_1_0_0_1_n_n none J (extractStridedSlice S256x1408 ![256, 0] (highPart v) slices_S512x1408_o256_0_S256x1408) (constant S256x1408 .f32 0x00000000#32))
        (matmul dot_S256x256_S256x1408_S256x1408_1_0_0_1_n_n none J (extractStridedSlice S256x1408 ![256, 0] (lowPart v) slices_S512x1408_o256_0_S256x1408) (constant S256x1408 .f32 0x00000000#32))⟩,
      ⟨S256x1408, addf (matmul dot_S256x256_S256x1408_S256x1408_1_0_0_1_n_n none J (extractStridedSlice S256x1408 ![0, 0] (highPart v) slices_S512x1408_o0_0_S256x1408) (constant S256x1408 .f32 0x00000000#32))
        (matmul dot_S256x256_S256x1408_S256x1408_1_0_0_1_n_n none J (extractStridedSlice S256x1408 ![0, 0] (lowPart v) slices_S512x1408_o0_0_S256x1408) (constant S256x1408 .f32 0x00000000#32))⟩]
    concatenates_S256x1408_S256x1408_S512x1408_d0

/-- The parts of a block's columns the four folded results take. -/
def cut0 (v : FVec F S512x1408 .f32) : FVec F S1x1x512x256 .f32 := shapeCast S1x1x512x256 (extractStridedSlice S512x256 ![0, 0] v slices_S512x1408_o0_0_S512x256) shapeCasts_S512x256_S1x1x512x256
def cut1 (v : FVec F S512x1408 .f32) : FVec F S1x1x512x384 .f32 := shapeCast S1x1x512x384 (extractStridedSlice S512x384 ![0, 256] v slices_S512x1408_o0_256_S512x384) shapeCasts_S512x384_S1x1x512x384
def cut2 (v : FVec F S512x1408 .f32) : FVec F S1x1x512x384 .f32 := shapeCast S1x1x512x384 (extractStridedSlice S512x384 ![0, 640] v slices_S512x1408_o0_640_S512x384) shapeCasts_S512x384_S1x1x512x384
def cut3 (v : FVec F S512x1408 .f32) : FVec F S1x1x512x384 .f32 := shapeCast S1x1x512x384 (extractStridedSlice S512x384 ![0, 1024] v slices_S512x1408_o0_1024_S512x384) shapeCasts_S512x384_S1x1x512x384

/-- Every point leaves the last columns. -/
theorem seq_out (c : Dev nD) (t : Fin cfg0.N) :
    (outsAt0 m c t.val t.isLt).2.2.2.2 = k0_pay12 (iblk m c 0 t) (iblk m c 1 t) (iblk m c 2 t) (iblk m c 3 t) (iblk m c 4 t) := by
  by_cases h0 : t.val % 8 ≤ 3
  · rw [outsAt0_A m c t h0 (by omega)]
    dsimp only
    frame_out
  · rw [outsAt0_B m c t h0 (by omega)]
    dsimp only
    frame_out

theorem cut0_eq (x : FVec F S1x512x1024 .f32) (g : FVec F S1x1024 .f32) (sh sc : FVec F S1x1x1024 .f32) (w : FVec F S1024x1792 .bf16) (cw : FVec F S3x1152 .f32) (cb : FVec F S1x1152 .f32) : cut0 (mixed x g sh sc w cw cb) = k0_pay2 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb := rfl

theorem cut0_eq' (x : FVec F S1x512x1024 .f32) (g : FVec F S1x1024 .f32) (sh sc : FVec F S1x1x1024 .f32) (w : FVec F S1024x1792 .bf16) (cw : FVec F S3x1152 .f32) (cb : FVec F S1x1152 .f32) (J : FVec F S256x256 .bf16) : cut0 (flipped (mixed x g sh sc w cw cb) J) = k0_pay7 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb J := rfl

/-- Result 1: a point of the first half leaves the columns as they stand, -/
theorem first0 (c : Dev nD) (t : Fin cfg0.N) (h0 : t.val % 8 ≤ 3) : (outsAt0 m c t.val t.isLt).1 = cut0 (mixed (iblk m c 0 t) (iblk m c 1 t) (iblk m c 2 t) (iblk m c 3 t) (iblk m c 4 t) (iblk m c 5 t) (iblk m c 6 t)) := by
  rw [cut0_eq, outsAt0_A m c t h0 (by omega)]
  dsimp only
  frame_out

/-- and one of the second half the rows flipped. -/
theorem second0 (c : Dev nD) (t : Fin cfg0.N) (h1 : 4 ≤ t.val % 8) : (outsAt0 m c t.val t.isLt).1 = cut0 (flipped (mixed (iblk m c 0 t) (iblk m c 1 t) (iblk m c 2 t) (iblk m c 3 t) (iblk m c 4 t) (iblk m c 5 t) (iblk m c 6 t)) (iblk m c 7 t)) := by
  rw [cut0_eq', outsAt0_B m c t (by omega) h1]
  dsimp only
  frame_out

theorem cut1_eq (x : FVec F S1x512x1024 .f32) (g : FVec F S1x1024 .f32) (sh sc : FVec F S1x1x1024 .f32) (w : FVec F S1024x1792 .bf16) (cw : FVec F S3x1152 .f32) (cb : FVec F S1x1152 .f32) : cut1 (mixed x g sh sc w cw cb) = k0_pay3 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb := rfl

theorem cut1_eq' (x : FVec F S1x512x1024 .f32) (g : FVec F S1x1024 .f32) (sh sc : FVec F S1x1x1024 .f32) (w : FVec F S1024x1792 .bf16) (cw : FVec F S3x1152 .f32) (cb : FVec F S1x1152 .f32) (J : FVec F S256x256 .bf16) : cut1 (flipped (mixed x g sh sc w cw cb) J) = k0_pay8 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb J := rfl

/-- Result 2: a point of the first half leaves the columns as they stand, -/
theorem first1 (c : Dev nD) (t : Fin cfg0.N) (h0 : t.val % 8 ≤ 3) : (outsAt0 m c t.val t.isLt).2.1 = cut1 (mixed (iblk m c 0 t) (iblk m c 1 t) (iblk m c 2 t) (iblk m c 3 t) (iblk m c 4 t) (iblk m c 5 t) (iblk m c 6 t)) := by
  rw [cut1_eq, outsAt0_A m c t h0 (by omega)]
  dsimp only
  frame_out

/-- and one of the second half the rows flipped. -/
theorem second1 (c : Dev nD) (t : Fin cfg0.N) (h1 : 4 ≤ t.val % 8) : (outsAt0 m c t.val t.isLt).2.1 = cut1 (flipped (mixed (iblk m c 0 t) (iblk m c 1 t) (iblk m c 2 t) (iblk m c 3 t) (iblk m c 4 t) (iblk m c 5 t) (iblk m c 6 t)) (iblk m c 7 t)) := by
  rw [cut1_eq', outsAt0_B m c t (by omega) h1]
  dsimp only
  frame_out

theorem cut2_eq (x : FVec F S1x512x1024 .f32) (g : FVec F S1x1024 .f32) (sh sc : FVec F S1x1x1024 .f32) (w : FVec F S1024x1792 .bf16) (cw : FVec F S3x1152 .f32) (cb : FVec F S1x1152 .f32) : cut2 (mixed x g sh sc w cw cb) = k0_pay4 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb := rfl

theorem cut2_eq' (x : FVec F S1x512x1024 .f32) (g : FVec F S1x1024 .f32) (sh sc : FVec F S1x1x1024 .f32) (w : FVec F S1024x1792 .bf16) (cw : FVec F S3x1152 .f32) (cb : FVec F S1x1152 .f32) (J : FVec F S256x256 .bf16) : cut2 (flipped (mixed x g sh sc w cw cb) J) = k0_pay9 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb J := rfl

/-- Result 3: a point of the first half leaves the columns as they stand, -/
theorem first2 (c : Dev nD) (t : Fin cfg0.N) (h0 : t.val % 8 ≤ 3) : (outsAt0 m c t.val t.isLt).2.2.1 = cut2 (mixed (iblk m c 0 t) (iblk m c 1 t) (iblk m c 2 t) (iblk m c 3 t) (iblk m c 4 t) (iblk m c 5 t) (iblk m c 6 t)) := by
  rw [cut2_eq, outsAt0_A m c t h0 (by omega)]
  dsimp only
  frame_out

/-- and one of the second half the rows flipped. -/
theorem second2 (c : Dev nD) (t : Fin cfg0.N) (h1 : 4 ≤ t.val % 8) : (outsAt0 m c t.val t.isLt).2.2.1 = cut2 (flipped (mixed (iblk m c 0 t) (iblk m c 1 t) (iblk m c 2 t) (iblk m c 3 t) (iblk m c 4 t) (iblk m c 5 t) (iblk m c 6 t)) (iblk m c 7 t)) := by
  rw [cut2_eq', outsAt0_B m c t (by omega) h1]
  dsimp only
  frame_out

theorem cut3_eq (x : FVec F S1x512x1024 .f32) (g : FVec F S1x1024 .f32) (sh sc : FVec F S1x1x1024 .f32) (w : FVec F S1024x1792 .bf16) (cw : FVec F S3x1152 .f32) (cb : FVec F S1x1152 .f32) : cut3 (mixed x g sh sc w cw cb) = k0_pay5 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb := rfl

theorem cut3_eq' (x : FVec F S1x512x1024 .f32) (g : FVec F S1x1024 .f32) (sh sc : FVec F S1x1x1024 .f32) (w : FVec F S1024x1792 .bf16) (cw : FVec F S3x1152 .f32) (cb : FVec F S1x1152 .f32) (J : FVec F S256x256 .bf16) : cut3 (flipped (mixed x g sh sc w cw cb) J) = k0_pay10 (k0_pay11 x g sh sc w) (k0_pay13 x g sh sc w) (k0_pay14 (iota Kind.tc S512x1 32 [0] iota_S512x1_d0_w32)) (k0_pay15 (k0_pay13 x g sh sc w) (iota Kind.tc S512x1 32 [0] iota_S512x1_d0_w32)) (k0_pay16 (k0_pay13 x g sh sc w))
      (FloatOps.ofBits .f32 0#32) (tap0 cw) (tap1 cw) (tap2 cw) cb J := rfl

/-- Result 4: a point of the first half leaves the columns as they stand, -/
theorem first3 (c : Dev nD) (t : Fin cfg0.N) (h0 : t.val % 8 ≤ 3) : (outsAt0 m c t.val t.isLt).2.2.2.1 = cut3 (mixed (iblk m c 0 t) (iblk m c 1 t) (iblk m c 2 t) (iblk m c 3 t) (iblk m c 4 t) (iblk m c 5 t) (iblk m c 6 t)) := by
  rw [cut3_eq, outsAt0_A m c t h0 (by omega)]
  dsimp only
  frame_out

/-- and one of the second half the rows flipped. -/
theorem second3 (c : Dev nD) (t : Fin cfg0.N) (h1 : 4 ≤ t.val % 8) : (outsAt0 m c t.val t.isLt).2.2.2.1 = cut3 (flipped (mixed (iblk m c 0 t) (iblk m c 1 t) (iblk m c 2 t) (iblk m c 3 t) (iblk m c 4 t) (iblk m c 5 t) (iblk m c 6 t)) (iblk m c 7 t)) := by
  rw [cut3_eq', outsAt0_B m c t (by omega) h1]
  dsimp only
  frame_out

end Points

end Cert.InProjection

end
-- ==== Proof.InPay.lean ====
/- The input projection's payloads at an index. -/
module

public import proofs.«01_k».proof.Proof.InPoints
public import proofs.«01_k».proof.Proof.OutPay
public import proofs.«01_k».proof.Proof.Gen.InProjIdeal.Value
public import Idealize.ShloMosaic.Lib.Pipeline.ValueKit

@[expose] public section

set_option maxRecDepth 16384

noncomputable section

namespace Cert.InProjection

open Cert.InProjIdeal Cert.InProjIdeal.Gen
open Idealize.ShloMosaic Idealize.ShloMosaic.TcCoe Idealize.SL.Sem

/-- The cuts at an index. -/
theorem cut0_at (v : FVec Ideal S512x1408 .f32) (r : Fin 512) (k : Fin 256) : cut0 v (ix4 0 0 r k) = v (ix2 r ⟨k.val, by omega⟩) := by
  pointwise [cut0]
theorem cut1_at (v : FVec Ideal S512x1408 .f32) (r : Fin 512) (k : Fin 384) : cut1 v (ix4 0 0 r k) = v (ix2 r ⟨256 + k.val, by omega⟩) := by
  pointwise [cut1]
theorem cut2_at (v : FVec Ideal S512x1408 .f32) (r : Fin 512) (k : Fin 384) : cut2 v (ix4 0 0 r k) = v (ix2 r ⟨640 + k.val, by omega⟩) := by
  pointwise [cut2]
theorem cut3_at (v : FVec Ideal S512x1408 .f32) (r : Fin 512) (k : Fin 384) : cut3 v (ix4 0 0 r k) = v (ix2 r ⟨1024 + k.val, by omega⟩) := by
  pointwise [cut3]

/-- The taps at an index. -/
theorem tap0_at (w : FVec Ideal S3x1152 .f32) (j : Fin 1152) : tap0 (F := Ideal) w (ix2 0 j) = w (ix2 0 j) := by
  show w ((Rect.unit (s := S3x1152) ![0, 0] ![1, 1152] inb_S3x1152_S1x1152_0_0).idx (ix2 0 j)) = w (ix2 0 j)
  refine congrArg w (funext fun d => ?_)
  match d with
  | ⟨0, _⟩ => rfl
  | ⟨1, _⟩ => exact Fin.ext (by show 0 + 1 * j.val = j.val; omega)
theorem tap1_at (w : FVec Ideal S3x1152 .f32) (j : Fin 1152) : tap1 (F := Ideal) w (ix2 0 j) = w (ix2 1 j) := by
  show w ((Rect.unit (s := S3x1152) ![1, 0] ![1, 1152] inb_S3x1152_S1x1152_1_0).idx (ix2 0 j)) = w (ix2 1 j)
  refine congrArg w (funext fun d => ?_)
  match d with
  | ⟨0, _⟩ => rfl
  | ⟨1, _⟩ => exact Fin.ext (by show 0 + 1 * j.val = j.val; omega)
theorem tap2_at (w : FVec Ideal S3x1152 .f32) (j : Fin 1152) : tap2 (F := Ideal) w (ix2 0 j) = w (ix2 2 j) := by
  show w ((Rect.unit (s := S3x1152) ![2, 0] ![1, 1152] inb_S3x1152_S1x1152_2_0).idx (ix2 0 j)) = w (ix2 2 j)
  refine congrArg w (funext fun d => ?_)
  match d with
  | ⟨0, _⟩ => rfl
  | ⟨1, _⟩ => exact Fin.ext (by show 0 + 1 * j.val = j.val; omega)

/-- The projected rows of a block. -/
theorem pay11_at (x : FVec Ideal S1x512x1024 .f32) (g : FVec Ideal S1x1024 .f32) (sh sc : FVec Ideal S1x1x1024 .f32) (w : FVec Ideal S1024x1792 .bf16) (r : Fin 512) (f : Fin 1792) :
    k0_pay11 (F := Ideal) x g sh sc w (ix2 r f) = ∑ k : Fin 1024,
      (x (ix3 0 r k) * Ideal.rsqrt (Ideal.div (∑ j : Fin 1024, x (ix3 0 r j) * x (ix3 0 r j)) (Ideal.ofBits .f32 0x44800000#32) + Ideal.ofBits .f32 0x358637BD#32)
        * g (ix2 0 k) * (1 + sc (ix3 0 0 k)) + sh (ix3 0 0 k)) * w (ix2 k f) := by
  pointwise [k0_pay11]

theorem pay12_at (x : FVec Ideal S1x512x1024 .f32) (g : FVec Ideal S1x1024 .f32) (sh sc : FVec Ideal S1x1x1024 .f32) (w : FVec Ideal S1024x1792 .bf16) (r : Fin 512) (k : Fin 384) :
    k0_pay12 (F := Ideal) x g sh sc w (ix3 0 r k) = k0_pay11 (F := Ideal) x g sh sc w (ix2 r ⟨1408 + k.val, by omega⟩) := by
  pointwise [k0_pay12]

theorem pay13_at (x : FVec Ideal S1x512x1024 .f32) (g : FVec Ideal S1x1024 .f32) (sh sc : FVec Ideal S1x1x1024 .f32) (w : FVec Ideal S1024x1792 .bf16) (r : Fin 512) (j : Fin 1152) :
    k0_pay13 (F := Ideal) x g sh sc w (ix2 r j) = k0_pay11 (F := Ideal) x g sh sc w (ix2 r ⟨256 + j.val, by omega⟩) := by
  pointwise [k0_pay13]

theorem pay16_at (v : FVec Ideal S512x1152 .f32) (r : Fin 512) (j : Fin 1152) : k0_pay16 (F := Ideal) v (ix2 r j) = v (ix2 ⟨(r.val + 512 - 511) % 512, by omega⟩ j) := by
  pointwise [k0_pay16]

/-- The remainder by 64, of a word, as the kernel takes it. -/
def rem64 (n : BitVec 32) : BitVec 32 :=
  Scalar.select
    (IntOp.andi
      (IntOp.xori (IntOp.cmpi CmpIPredicate.slt (IntOp.remsi ArithUnit.vector n (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector n (Scalar.select (Scalar.cmpi CmpIPredicate.eq 64#32 0#32) 1#32 64#32)) 0#32))
    (IntOp.addi (IntOp.remsi ArithUnit.vector n (Scalar.select (Scalar.cmpi CmpIPredicate.eq 64#32 0#32) 1#32 64#32)) (Scalar.select (Scalar.cmpi CmpIPredicate.eq 64#32 0#32) 1#32 64#32))
    (IntOp.remsi ArithUnit.vector n (Scalar.select (Scalar.cmpi CmpIPredicate.eq 64#32 0#32) 1#32 64#32))

theorem rem64_last : ∀ r : Fin 512, IntOp.cmpi CmpIPredicate.eq (rem64 (BitVec.ofNat 32 r.val)) 63#32 = if r.val % 64 = 63 then 1#1 else 0#1 := by
  decide +kernel

theorem rem64_first : ∀ r : Fin 512, IntOp.cmpi CmpIPredicate.eq (rem64 (BitVec.ofNat 32 r.val)) 0#32 = if r.val % 64 = 0 then 1#1 else 0#1 := by
  decide +kernel

theorem pay14_at (r : Fin 512) : k0_pay14 rowNums (ix2 r 0) = if r.val % 64 = 63 then 1#1 else 0#1 := by
  rw [← rem64_last r]
  pointwise [k0_pay14, rowNums, rem64]

theorem pay15_at (v : FVec Ideal S512x1152 .f32) (r : Fin 512) (j : Fin 1152) :
    k0_pay15 (F := Ideal) v rowNums (ix2 r j) = if r.val % 64 = 0 then 0 else v (ix2 ⟨(r.val + 512 - 1) % 512, by omega⟩ j) := by
  have h : k0_pay15 (F := Ideal) v rowNums (ix2 r j) = Scalar.select (IntOp.cmpi CmpIPredicate.eq (rem64 (BitVec.ofNat 32 r.val)) 0#32) (0 : EReal) (v (ix2 ⟨(r.val + 512 - 1) % 512, by omega⟩ j)) := by
    pointwise [k0_pay15, rowNums, rem64]
  rw [h, rem64_first]
  unfold Scalar.select
  by_cases hr : r.val % 64 = 0
  · rw [if_pos hr, if_pos hr]
    rfl
  · rw [if_neg hr, if_neg hr]
    rfl

theorem pay1_four (v29 : FVec Ideal S512x1792 .f32) (v34 : FVec Ideal S512x1152 .f32) (v71 : IVec S512x1 1) (v76 v77 : FVec Ideal S512x1152 .f32) (z : Ideal .f32) (a b d e : FVec Ideal S1x1152 .f32) (r : Fin 512) (k : Fin 1408)
    (hk : k.val < 256) : k0_pay1 (F := Ideal) v29 v34 v71 v76 v77 z a b d e (ix2 r k) = v29 (ix2 r ⟨k.val, by omega⟩) := by
  pointwise [k0_pay1]
  rw [dif_pos hk]

theorem pay1_conv (v29 : FVec Ideal S512x1792 .f32) (v34 : FVec Ideal S512x1152 .f32) (v71 : IVec S512x1 1) (v76 v77 : FVec Ideal S512x1152 .f32) (z : Ideal .f32) (a b d e : FVec Ideal S1x1152 .f32) (r : Fin 512) (k : Fin 1408)
    (hk : ¬ k.val < 256) : k0_pay1 (F := Ideal) v29 v34 v71 v76 v77 z a b d e (ix2 r k) =
      v76 (ix2 r ⟨k.val - 256, by omega⟩) * a (ix2 0 ⟨k.val - 256, by omega⟩) + v34 (ix2 r ⟨k.val - 256, by omega⟩) * b (ix2 0 ⟨k.val - 256, by omega⟩)
        + Scalar.select (v71 (ix2 r 0)) z (v77 (ix2 r ⟨k.val - 256, by omega⟩)) * d (ix2 0 ⟨k.val - 256, by omega⟩) + e (ix2 0 ⟨k.val - 256, by omega⟩) := by
  pointwise [k0_pay1]
  rw [dif_neg hk]

/-- A block's first columns are those of the projected rows, -/
theorem mixed_four (x : FVec Ideal S1x512x1024 .f32) (g : FVec Ideal S1x1024 .f32) (sh sc : FVec Ideal S1x1x1024 .f32) (w : FVec Ideal S1024x1792 .bf16) (cw : FVec Ideal S3x1152 .f32) (cb : FVec Ideal S1x1152 .f32)
    (r : Fin 512) (k : Fin 1408) (hk : k.val < 256) : mixed (F := Ideal) x g sh sc w cw cb (ix2 r k) = k0_pay11 (F := Ideal) x g sh sc w (ix2 r ⟨k.val, by omega⟩) :=
  pay1_four _ _ _ _ _ _ _ _ _ _ r k hk

/-- and the others their convolution. -/
theorem mixed_conv (x : FVec Ideal S1x512x1024 .f32) (g : FVec Ideal S1x1024 .f32) (sh sc : FVec Ideal S1x1x1024 .f32) (w : FVec Ideal S1024x1792 .bf16) (cw : FVec Ideal S3x1152 .f32) (cb : FVec Ideal S1x1152 .f32)
    (P : Fin 512 → EReal) (r : Fin 512) (k : Fin 1408) (hk : ¬ k.val < 256) (hP : ∀ r : Fin 512, k0_pay11 (F := Ideal) x g sh sc w (ix2 r ⟨k.val, by omega⟩) = P r) :
    mixed (F := Ideal) x g sh sc w cw cb (ix2 r k) =
      (if r.val % 64 = 0 then 0 else P ⟨(r.val + 512 - 1) % 512, by omega⟩) * cw (ix2 0 ⟨k.val - 256, by omega⟩) + P r * cw (ix2 1 ⟨k.val - 256, by omega⟩)
        + (if r.val % 64 = 63 then 0 else P ⟨(r.val + 512 - 511) % 512, by omega⟩) * cw (ix2 2 ⟨k.val - 256, by omega⟩) + cb (ix2 0 ⟨k.val - 256, by omega⟩) := by
  have h13 : ∀ r : Fin 512, k0_pay13 (F := Ideal) x g sh sc w (ix2 r ⟨k.val - 256, by omega⟩) = P r := fun r =>
    (pay13_at x g sh sc w r _).trans ((congrArg (fun i : Fin 1792 => k0_pay11 (F := Ideal) x g sh sc w (ix2 r i)) (Fin.ext (by dsimp only; omega))).trans (hP r))
  have hz : (Scalar.ofBits .f32 0x00000000#32 : Ideal .f32) = (0 : EReal) := Ideal.ofBits_zero_f32
  unfold mixed
  rw [pay1_conv _ _ _ _ _ _ _ _ _ _ r k hk, pay15_at, pay16_at, pay14_at, tap0_at, tap1_at, tap2_at, h13, h13, h13, hz]
  refine congrArg₂ (· + ·) (congrArg₂ (· + ·) rfl (congrArg₂ (· * ·) ?_ rfl)) rfl
  unfold Scalar.select
  by_cases hr : r.val % 64 = 63
  · rw [if_pos hr, if_pos hr]
    rfl
  · rw [if_neg hr, if_neg hr]
    rfl

/-- Finite rows flipped. -/
theorem flipped_at (v : FVec Ideal S512x1408 .f32) (J : FVec Ideal S256x256 .bf16) (hJ : ∀ a k : Fin 256, (J (ix2 a k) : EReal) = if a.val + k.val = 255 then 1 else 0)
    (hv : ∀ (r : Fin 512) (k : Fin 1408), (v (ix2 r k) : EReal) - v (ix2 r k) = 0) (r : Fin 512) (k : Fin 1408) :
    flipped (F := Ideal) v J (ix2 r k) = v (ix2 ⟨511 - r.val, by omega⟩ k) := by
  pointwise [flipped, highPart, lowPart]
  simp only [hJ, hv, mul_zero, Finset.sum_const_zero, add_zero]
  split
  · next h =>
    rw [Cert.OutProjection.pick r.val h]
    exact congrArg (fun i : Fin 512 => (v (ix2 i k) : EReal)) (Fin.ext (by dsimp only; omega))
  · next h =>
    rw [Cert.OutProjection.pick (r.val - 256) (by omega)]
    exact congrArg (fun i : Fin 512 => (v (ix2 i k) : EReal)) (Fin.ext (by dsimp only; omega))

end Cert.InProjection

end
-- ==== Proof.InBlk.lean ====
/- The input projection's blocks at coordinates. -/
module

public import proofs.«01_k».proof.Proof.InSpec
public import proofs.«01_k».proof.Proof.Gen.InProjIdeal.Value

@[expose] public section

set_option maxRecDepth 16384

noncomputable section

namespace Cert.InProjection

open Cert.InProjIdeal Cert.InProjIdeal.Gen
open Idealize.ShloMosaic Idealize.ShloMosaic.TcCoe Idealize.SL.Sem

variable (m : (ℓ : Loc nD τ sig) → Buf (Elt Ideal) ℓ)

/-- Point `t`'s coordinates: the batch and the block of rows. -/
theorem coords_facts : ∀ t : Fin grid0.N, (grid0.coords t 0).val = t.val / 8 ∧ (grid0.coords t 1).val = t.val % 8 := by
  decide +kernel

/-- The block of folded result 1 point `t` writes: the half, and its place there, counted from the end in the second. -/
theorem fold_facts8 : ∀ t : Fin grid0.N, cc0_transform_8 (grid0.coords t) 0 = t.val / 8 ∧ cc0_transform_8 (grid0.coords t) 1 = t.val % 8 / 4
    ∧ cc0_transform_8 (grid0.coords t) 2 = (if t.val % 8 < 4 then t.val % 8 else 7 - t.val % 8) ∧ cc0_transform_8 (grid0.coords t) 3 = 0 := by
  decide +kernel

/-- The block of folded result 2 point `t` writes: the half, and its place there, counted from the end in the second. -/
theorem fold_facts9 : ∀ t : Fin grid0.N, cc0_transform_9 (grid0.coords t) 0 = t.val / 8 ∧ cc0_transform_9 (grid0.coords t) 1 = t.val % 8 / 4
    ∧ cc0_transform_9 (grid0.coords t) 2 = (if t.val % 8 < 4 then t.val % 8 else 7 - t.val % 8) ∧ cc0_transform_9 (grid0.coords t) 3 = 0 := by
  decide +kernel

/-- The block of folded result 3 point `t` writes: the half, and its place there, counted from the end in the second. -/
theorem fold_facts10 : ∀ t : Fin grid0.N, cc0_transform_10 (grid0.coords t) 0 = t.val / 8 ∧ cc0_transform_10 (grid0.coords t) 1 = t.val % 8 / 4
    ∧ cc0_transform_10 (grid0.coords t) 2 = (if t.val % 8 < 4 then t.val % 8 else 7 - t.val % 8) ∧ cc0_transform_10 (grid0.coords t) 3 = 0 := by
  decide +kernel

/-- The block of folded result 4 point `t` writes: the half, and its place there, counted from the end in the second. -/
theorem fold_facts11 : ∀ t : Fin grid0.N, cc0_transform_11 (grid0.coords t) 0 = t.val / 8 ∧ cc0_transform_11 (grid0.coords t) 1 = t.val % 8 / 4
    ∧ cc0_transform_11 (grid0.coords t) 2 = (if t.val % 8 < 4 then t.val % 8 else 7 - t.val % 8) ∧ cc0_transform_11 (grid0.coords t) 3 = 0 := by
  decide +kernel

/-- A point lies on the grid. -/
theorem pt_lt (t : Fin cfg0.N) : t.val < 128 := by have := t.isLt; have h := N_0; change t.val < grid0.N at this; omega

/-- The words of a point's coordinates. -/
theorem coord_words (t : Fin cfg0.N) : (BitVec.ofNat 32 (grid0.coords t 0).val).toNat = t.val / 8 ∧ (BitVec.ofNat 32 (grid0.coords t 1).val).toNat = t.val % 8 := by
  obtain ⟨h0, h1⟩ := coords_facts t
  have ht := pt_lt t
  have hw : ∀ n : ℕ, n < 128 → (BitVec.ofNat 32 n).toNat = n := fun n hn => by rw [BitVec.toNat_ofNat]; exact Nat.mod_eq_of_lt (by omega)
  exact ⟨(hw _ (by omega)).trans h0, (hw _ (by omega)).trans h1⟩

/-- Point `t`'s batch, -/
def bat (t : Fin cfg0.N) : Fin 16 := ⟨t.val / 8, by have := pt_lt t; omega⟩
/-- and row `r` of its block. -/
def row (t : Fin cfg0.N) (r : Fin 512) : Fin 4096 := ⟨512 * (t.val % 8) + r.val, by omega⟩

theorem emb0 (t : Fin cfg0.N) (y : S1x512x1024.Idx) (d : Fin 3) :
    ((((cfg0).win (0 : Fin 13)).blk t).view.emb y d : ℕ) = cc0_transform_0 (grid0.coords t) d * S1x512x1024.size d + (y d).val := (cfg0.win (0 : Fin 13)).rect_emb_val t y d rfl
theorem emb1 (t : Fin cfg0.N) (y : S1x1024.Idx) (d : Fin 2) :
    ((((cfg0).win (1 : Fin 13)).blk t).view.emb y d : ℕ) = cc0_transform_1 (grid0.coords t) d * S1x1024.size d + (y d).val := (cfg0.win (1 : Fin 13)).rect_emb_val t y d rfl
theorem emb2 (t : Fin cfg0.N) (y : S1x1x1024.Idx) (d : Fin 3) :
    ((((cfg0).win (2 : Fin 13)).blk t).view.emb y d : ℕ) = cc0_transform_2 (grid0.coords t) d * S1x1x1024.size d + (y d).val := (cfg0.win (2 : Fin 13)).rect_emb_val t y d rfl
theorem emb3 (t : Fin cfg0.N) (y : S1x1x1024.Idx) (d : Fin 3) :
    ((((cfg0).win (3 : Fin 13)).blk t).view.emb y d : ℕ) = cc0_transform_3 (grid0.coords t) d * S1x1x1024.size d + (y d).val := (cfg0.win (3 : Fin 13)).rect_emb_val t y d rfl
theorem emb4 (t : Fin cfg0.N) (y : S1024x1792.Idx) (d : Fin 2) :
    ((((cfg0).win (4 : Fin 13)).blk t).view.emb y d : ℕ) = cc0_transform_4 (grid0.coords t) d * S1024x1792.size d + (y d).val := (cfg0.win (4 : Fin 13)).rect_emb_val t y d rfl
theorem emb5 (t : Fin cfg0.N) (y : S3x1152.Idx) (d : Fin 2) :
    ((((cfg0).win (5 : Fin 13)).blk t).view.emb y d : ℕ) = cc0_transform_5 (grid0.coords t) d * S3x1152.size d + (y d).val := (cfg0.win (5 : Fin 13)).rect_emb_val t y d rfl
theorem emb6 (t : Fin cfg0.N) (y : S1x1152.Idx) (d : Fin 2) :
    ((((cfg0).win (6 : Fin 13)).blk t).view.emb y d : ℕ) = cc0_transform_6 (grid0.coords t) d * S1x1152.size d + (y d).val := (cfg0.win (6 : Fin 13)).rect_emb_val t y d rfl
theorem emb7 (t : Fin cfg0.N) (y : S256x256.Idx) (d : Fin 2) :
    ((((cfg0).win (7 : Fin 13)).blk t).view.emb y d : ℕ) = cc0_transform_7 (grid0.coords t) d * S256x256.size d + (y d).val := (cfg0.win (7 : Fin 13)).rect_emb_val t y d rfl
theorem emb8 (t : Fin cfg0.N) (y : S1x1x512x256.Idx) (d : Fin 4) :
    ((((cfg0).win (8 : Fin 13)).blk t).view.emb y d : ℕ) = cc0_transform_8 (grid0.coords t) d * S1x1x512x256.size d + (y d).val := (cfg0.win (8 : Fin 13)).rect_emb_val t y d rfl
theorem emb9 (t : Fin cfg0.N) (y : S1x1x512x384.Idx) (d : Fin 4) :
    ((((cfg0).win (9 : Fin 13)).blk t).view.emb y d : ℕ) = cc0_transform_9 (grid0.coords t) d * S1x1x512x384.size d + (y d).val := (cfg0.win (9 : Fin 13)).rect_emb_val t y d rfl
theorem emb10 (t : Fin cfg0.N) (y : S1x1x512x384.Idx) (d : Fin 4) :
    ((((cfg0).win (10 : Fin 13)).blk t).view.emb y d : ℕ) = cc0_transform_10 (grid0.coords t) d * S1x1x512x384.size d + (y d).val := (cfg0.win (10 : Fin 13)).rect_emb_val t y d rfl
theorem emb11 (t : Fin cfg0.N) (y : S1x1x512x384.Idx) (d : Fin 4) :
    ((((cfg0).win (11 : Fin 13)).blk t).view.emb y d : ℕ) = cc0_transform_11 (grid0.coords t) d * S1x1x512x384.size d + (y d).val := (cfg0.win (11 : Fin 13)).rect_emb_val t y d rfl
theorem emb12 (t : Fin cfg0.N) (y : S1x512x384.Idx) (d : Fin 3) :
    ((((cfg0).win (12 : Fin 13)).blk t).view.emb y d : ℕ) = cc0_transform_12 (grid0.coords t) d * S1x512x384.size d + (y d).val := (cfg0.win (12 : Fin 13)).rect_emb_val t y d rfl

/-- The rows' block. -/
theorem blk0_at (c : Dev nD) (t : Fin cfg0.N) (r : Fin 512) (k : Fin 1024) :
    (iblk m c 0 t : FVec Ideal S1x512x1024 .f32) (ix3 0 r k) = (m ((c : Thread nD τ).loc main_arg0) : FVec Ideal S16x4096x1024 .f32) (ix3 (bat t) (row t r) k) := by
  refine congrArg (V m c main_arg0 : FVec Ideal S16x4096x1024 .f32) (a₂ := ix3 (bat t) (row t r) k) (funext fun d => ?_)
  obtain ⟨h0, h1⟩ := coord_words t
  match d with
  | ⟨0, _⟩ =>
    refine Fin.ext ((emb0 t _ 0).trans ?_)
    show (BitVec.ofNat 32 (grid0.coords t 0).val).toNat * 1 + 0 = t.val / 8
    omega
  | ⟨1, _⟩ =>
    refine Fin.ext ((emb0 t _ 1).trans ?_)
    show (BitVec.ofNat 32 (grid0.coords t 1).val).toNat * 512 + r.val = 512 * (t.val % 8) + r.val
    omega
  | ⟨2, _⟩ =>
    refine Fin.ext ((emb0 t _ 2).trans ?_)
    show 0 * 1024 + k.val = k.val
    omega

/-- The batch's shift, -/
theorem blk2_at (c : Dev nD) (t : Fin cfg0.N) (k : Fin 1024) :
    (iblk m c 2 t : FVec Ideal S1x1x1024 .f32) (ix3 0 0 k) = (m ((c : Thread nD τ).loc main_arg2) : FVec Ideal S16x1x1024 .f32) (ix3 (bat t) 0 k) := by
  refine congrArg (V m c main_arg2 : FVec Ideal S16x1x1024 .f32) (a₂ := ix3 (bat t) 0 k) (funext fun d => ?_)
  obtain ⟨h0, h1⟩ := coord_words t
  match d with
  | ⟨0, _⟩ =>
    refine Fin.ext ((emb2 t _ 0).trans ?_)
    show (BitVec.ofNat 32 (grid0.coords t 0).val).toNat * 1 + 0 = t.val / 8
    omega
  | ⟨1, _⟩ =>
    refine Fin.ext ((emb2 t _ 1).trans ?_)
    show 0 * 1 + 0 = 0
    omega
  | ⟨2, _⟩ =>
    refine Fin.ext ((emb2 t _ 2).trans ?_)
    show 0 * 1024 + k.val = k.val
    omega

/-- and its scale. -/
theorem blk3_at (c : Dev nD) (t : Fin cfg0.N) (k : Fin 1024) :
    (iblk m c 3 t : FVec Ideal S1x1x1024 .f32) (ix3 0 0 k) = (m ((c : Thread nD τ).loc main_arg3) : FVec Ideal S16x1x1024 .f32) (ix3 (bat t) 0 k) := by
  refine congrArg (V m c main_arg3 : FVec Ideal S16x1x1024 .f32) (a₂ := ix3 (bat t) 0 k) (funext fun d => ?_)
  obtain ⟨h0, h1⟩ := coord_words t
  match d with
  | ⟨0, _⟩ =>
    refine Fin.ext ((emb3 t _ 0).trans ?_)
    show (BitVec.ofNat 32 (grid0.coords t 0).val).toNat * 1 + 0 = t.val / 8
    omega
  | ⟨1, _⟩ =>
    refine Fin.ext ((emb3 t _ 1).trans ?_)
    show 0 * 1 + 0 = 0
    omega
  | ⟨2, _⟩ =>
    refine Fin.ext ((emb3 t _ 2).trans ?_)
    show 0 * 1024 + k.val = k.val
    omega

/-- A vector as a one-row matrix. -/
theorem gain_at (g : FVec Ideal S1024 .f32) (h) (k : Fin 1024) : shapeCast S1x1024 g h (ix2 0 k) = g (ix1 k) := by
  pointwise
theorem bias_at (g : FVec Ideal S1152 .f32) (h) (k : Fin 1152) : shapeCast S1x1152 g h (ix2 0 k) = g (ix1 k) := by
  pointwise

/-- The gains, -/
theorem blk1_at (c : Dev nD) (t : Fin cfg0.N) (k : Fin 1024) :
    (iblk m c 1 t : FVec Ideal S1x1024 .f32) (ix2 0 k) = (m ((c : Thread nD τ).loc main_arg1) : FVec Ideal S1024 .f32) (ix1 k) := by
  have h0 : (((cfg0.win (1 : Fin 13)).blk t).view.emb (ix2 0 k : S1x1024.Idx) : S1x1024.Idx) = ix2 0 k := by
    funext d
    match d with
    | ⟨0, _⟩ =>
      refine Fin.ext ((emb1 t _ 0).trans ?_)
      show 0 * 1 + 0 = 0
      omega
    | ⟨1, _⟩ =>
      refine Fin.ext ((emb1 t _ 1).trans ?_)
      show 0 * 1024 + k.val = k.val
      omega
  refine (congrArg (V m c main_v0 : FVec Ideal S1x1024 .f32) h0).trans ?_
  exact gain_at (m ((c : Thread nD τ).loc main_arg1) : FVec Ideal S1024 .f32) shapeCasts_S1024_S1x1024 k

/-- the matrix, -/
theorem blk4_at (c : Dev nD) (t : Fin cfg0.N) (a : Fin 1024) (k : Fin 1792) :
    (iblk m c 4 t : FVec Ideal S1024x1792 .bf16) (ix2 a k) = (m ((c : Thread nD τ).loc main_arg4) : FVec Ideal S1024x1792 .f32) (ix2 a k) := by
  have h0 : (((cfg0.win (4 : Fin 13)).blk t).view.emb (ix2 a k : S1024x1792.Idx) : S1024x1792.Idx) = ix2 a k := by
    funext d
    match d with
    | ⟨0, _⟩ =>
      refine Fin.ext ((emb4 t _ 0).trans ?_)
      show 0 * 1024 + a.val = a.val
      omega
    | ⟨1, _⟩ =>
      refine Fin.ext ((emb4 t _ 1).trans ?_)
      show 0 * 1792 + k.val = k.val
      omega
  refine (congrArg (V m c main_v1 : FVec Ideal S1024x1792 .bf16) h0).trans ?_
  rfl

/-- the taps -/
theorem blk5_at (c : Dev nD) (t : Fin cfg0.N) (a : Fin 3) (k : Fin 1152) :
    (iblk m c 5 t : FVec Ideal S3x1152 .f32) (ix2 a k) = (m ((c : Thread nD τ).loc main_arg5) : FVec Ideal S3x1152 .f32) (ix2 a k) := by
  have h0 : (((cfg0.win (5 : Fin 13)).blk t).view.emb (ix2 a k : S3x1152.Idx) : S3x1152.Idx) = ix2 a k := by
    funext d
    match d with
    | ⟨0, _⟩ =>
      refine Fin.ext ((emb5 t _ 0).trans ?_)
      show 0 * 3 + a.val = a.val
      omega
    | ⟨1, _⟩ =>
      refine Fin.ext ((emb5 t _ 1).trans ?_)
      show 0 * 1152 + k.val = k.val
      omega
  refine (congrArg (V m c main_arg5 : FVec Ideal S3x1152 .f32) h0).trans ?_
  rfl

/-- and the bias. -/
theorem blk6_at (c : Dev nD) (t : Fin cfg0.N) (k : Fin 1152) :
    (iblk m c 6 t : FVec Ideal S1x1152 .f32) (ix2 0 k) = (m ((c : Thread nD τ).loc main_arg6) : FVec Ideal S1152 .f32) (ix1 k) := by
  have h0 : (((cfg0.win (6 : Fin 13)).blk t).view.emb (ix2 0 k : S1x1152.Idx) : S1x1152.Idx) = ix2 0 k := by
    funext d
    match d with
    | ⟨0, _⟩ =>
      refine Fin.ext ((emb6 t _ 0).trans ?_)
      show 0 * 1 + 0 = 0
      omega
    | ⟨1, _⟩ =>
      refine Fin.ext ((emb6 t _ 1).trans ?_)
      show 0 * 1152 + k.val = k.val
      omega
  refine (congrArg (V m c main_v2 : FVec Ideal S1x1152 .f32) h0).trans ?_
  exact bias_at (m ((c : Thread nD τ).loc main_arg6) : FVec Ideal S1152 .f32) shapeCasts_S1152_S1x1152 k

/-- The flip matrix's words as an array. -/
def flipWords : FVec Ideal S256x256 .bf16 := fun i => FloatOps.ofBits .bf16 (lit0 (S256x256.rowMajor i))

/-- One of its entries. -/
theorem flipWords_at (a k : Fin 256) : (flipWords (ix2 a k) : EReal) = Ideal.ofBits .bf16 (lit0t (256 * a.val + k.val)) := by
  have h : (S256x256.rowMajor (ix2 a k)).val = 256 * a.val + k.val := (Shape.rowMajor_val_two _).trans (by show a.val * 256 + k.val = _; omega)
  exact congrArg (fun n => Ideal.ofBits .bf16 (lit0t n)) h

/-- The flip matrix. -/
theorem blk7_at (c : Dev nD) (t : Fin cfg0.N) (a : Fin 256) (k : Fin 256) :
    (iblk m c 7 t : FVec Ideal S256x256 .bf16) (ix2 a k) = flipWords (ix2 a k) := by
  have h0 : (((cfg0.win (7 : Fin 13)).blk t).view.emb (ix2 a k : S256x256.Idx) : S256x256.Idx) = ix2 a k := by
    funext d
    match d with
    | ⟨0, _⟩ =>
      refine Fin.ext ((emb7 t _ 0).trans ?_)
      show 0 * 256 + a.val = a.val
      omega
    | ⟨1, _⟩ =>
      refine Fin.ext ((emb7 t _ 1).trans ?_)
      show 0 * 256 + k.val = k.val
      omega
  refine (congrArg (V m c main_cst : FVec Ideal S256x256 .bf16) h0).trans ?_
  rfl

end Cert.InProjection

end
-- ==== Proof.InFinite.lean ====
/- Where the input projection's rows are finite: the sums of finite arguments are real numbers, and a real number less itself
   is zero. -/
module

public import proofs.«01_k».proof.Proof.InSpec

@[expose] public section

set_option maxRecDepth 16384

noncomputable section

namespace Cert.InProjection

open Idealize.ShloMosaic

/-- A number that is real. -/
def IsNum (v : EReal) : Prop := ∃ x : ℝ, v = (x : EReal)

theorem IsNum.add {a b : EReal} (ha : IsNum a) (hb : IsNum b) : IsNum (a + b) := by
  obtain ⟨x, rfl⟩ := ha
  obtain ⟨y, rfl⟩ := hb
  exact ⟨x + y, (EReal.coe_add x y).symm⟩

theorem IsNum.mul {a b : EReal} (ha : IsNum a) (hb : IsNum b) : IsNum (a * b) := by
  obtain ⟨x, rfl⟩ := ha
  obtain ⟨y, rfl⟩ := hb
  exact ⟨x * y, (EReal.coe_mul x y).symm⟩

theorem IsNum.zero : IsNum 0 := ⟨0, rfl⟩
theorem IsNum.one : IsNum 1 := ⟨1, rfl⟩

theorem IsNum.sum {n : ℕ} {f : Fin n → EReal} (h : ∀ k, IsNum (f k)) : IsNum (∑ k, f k) := by
  choose x hx using h
  refine ⟨∑ k, x k, ?_⟩
  simp only [hx]
  exact (map_sum (⟨⟨(fun r : ℝ => (r : EReal)), rfl⟩, EReal.coe_add⟩ : ℝ →+ EReal) x Finset.univ).symm

theorem IsNum.sub_self {a : EReal} (ha : IsNum a) : a - a = 0 := by
  obtain ⟨x, rfl⟩ := ha
  exact EReal.sub_self (EReal.coe_ne_top x) (EReal.coe_ne_bot x)

/-- A number below the top in absolute value is real. -/
theorem IsNum.of_lt {v : EReal} (h : Ideal.cmp .olt (max v (-v)) (Ideal.ofBits .f32 0x7F800000#32) = 1#1) : IsNum v := by
  have htop : Ideal.ofBits .f32 0x7F800000#32 = ⊤ := by simp [Ideal.ofBits, Ideal.ieee]
  rw [htop] at h
  have h1 : v ≠ ⊤ := by
    rintro rfl
    simp [Ideal.cmp] at h
  have h2 : v ≠ ⊥ := by
    rintro rfl
    simp [Ideal.cmp] at h
  exact ⟨v.toReal, (EReal.coe_toReal h1 h2).symm⟩

/-- The printed 1024, -/
theorem thousand : ∃ y : ℝ, 0 < y ∧ Ideal.ofBits .f32 0x44800000#32 = (y : EReal) := by
  simp [Ideal.ofBits, Ideal.ieee]
  exact ⟨8388608 * (2 ^ 13)⁻¹, by positivity, (EReal.coe_mul _ _).symm⟩

/-- and the printed constant under the root, are positive. -/
theorem small : ∃ y : ℝ, 0 < y ∧ Ideal.ofBits .f32 0x358637BD#32 = (y : EReal) := by
  simp [Ideal.ofBits, Ideal.ieee]
  exact ⟨8796093 * (2 ^ 43)⁻¹, by positivity, (EReal.coe_mul _ _).symm⟩

/-- The factor that normalizes a row of real numbers is real. -/
theorem IsNum.scale {n : ℕ} {f : Fin n → EReal} (h : ∀ k, IsNum (f k)) :
    IsNum (Ideal.rsqrt (Ideal.div (∑ k, f k * f k) (Ideal.ofBits .f32 0x44800000#32) + Ideal.ofBits .f32 0x358637BD#32)) := by
  choose x hx using h
  obtain ⟨y, hy, hy'⟩ := thousand
  obtain ⟨e, he, he'⟩ := small
  have hs : ∑ k, f k * f k = ((∑ k, x k * x k : ℝ) : EReal) := by
    simp only [hx, ← EReal.coe_mul]
    exact (map_sum (⟨⟨(fun r : ℝ => (r : EReal)), rfl⟩, EReal.coe_add⟩ : ℝ →+ EReal) (fun k => x k * x k) Finset.univ).symm
  have h0 : 0 ≤ ∑ k, x k * x k := Finset.sum_nonneg fun k _ => mul_self_nonneg (x k)
  rw [hs, hy', he', Ideal.div_coe hy.ne', ← EReal.coe_mul, ← EReal.coe_add, Ideal.rsqrt_coe]
  have hp : 0 < (∑ k, x k * x k) * (1 / y) + e := by positivity
  rw [if_neg (not_lt.mpr hp.le), if_neg hp.ne']
  exact ⟨_, rfl⟩

theorem square_nonneg (v : EReal) : 0 ≤ v * v := by
  induction v with
  | bot => simp
  | top => simp
  | coe x => exact_mod_cast mul_self_nonneg x

theorem square_top {v : EReal} (h : ¬IsNum v) : v * v = ⊤ := by
  induction v with
  | bot => simp
  | top => simp
  | coe x => exact absurd ⟨x, rfl⟩ h

/-- A normalized row is real, whatever the row: an infinity among its values makes the factor zero. -/
theorem IsNum.scaled {n : ℕ} (f : Fin n → EReal) (k : Fin n) :
    IsNum (f k * Ideal.rsqrt (Ideal.div (∑ k, f k * f k) (Ideal.ofBits .f32 0x44800000#32) + Ideal.ofBits .f32 0x358637BD#32)) := by
  by_cases h : ∀ k, IsNum (f k)
  · exact IsNum.mul (h k) (IsNum.scale h)
  · obtain ⟨j, hj⟩ := not_forall.mp h
    obtain ⟨y, hy, hy'⟩ := thousand
    obtain ⟨e, he, he'⟩ := small
    have hs : ∑ k, f k * f k = ⊤ :=
      top_le_iff.mp ((square_top hj).symm.le.trans (Finset.single_le_sum (f := fun k => f k * f k) (fun i _ => square_nonneg (f i)) (Finset.mem_univ j)))
    rw [hs, hy', he', Ideal.div_coe hy.ne', EReal.top_mul_coe_of_pos (by positivity), EReal.top_add_coe, Ideal.rsqrt_top, mul_zero]
    exact IsNum.zero

section Rows

variable (X : FVec Ideal TModel .f32) (g : FVec Ideal TGain .f32) (sh sc : FVec Ideal TMod .f32) (W : FVec Ideal TIn .f32) (w : FVec Ideal TTaps .f32) (cb : FVec Ideal TBias .f32)

/-- What the second half of the folded results is made of, all real. -/
structure Finite : Prop where
  f_w : ∀ (k : Fin 1024) (f : Fin 1792), f.val < 1408 → IsNum (W (ix2 k f))
  f_g : ∀ k : Fin 1024, IsNum (g (ix1 k))
  f_sh : ∀ (b : Fin 16) (k : Fin 1024), IsNum (sh (ix3 b 0 k))
  f_sc : ∀ (b : Fin 16) (k : Fin 1024), IsNum (sc (ix3 b 0 k))
  f_taps : ∀ (a : Fin 3) (j : Fin 1152), IsNum (w (ix2 a j))
  f_bias : ∀ j : Fin 1152, IsNum (cb (ix1 j))

variable {X g sh sc W w cb}

/-- A row's projection is real, -/
theorem Finite.proj (h : Finite g sh sc W w cb) (b : Fin 16) (r : Fin 4096) (f : Fin 1792) (hf : f.val < 1408) : IsNum (projAt X g sh sc W b r f) :=
  IsNum.sum fun k => IsNum.mul (IsNum.add (IsNum.mul (IsNum.mul (IsNum.scaled (fun k => X (ix3 b r k)) k) (h.f_g k)) (IsNum.add IsNum.one (h.f_sc b k))) (h.f_sh b k)) (h.f_w k f hf)

/-- and so are all its columns, -/
theorem Finite.mix (h : Finite g sh sc W w cb) (b : Fin 16) (r : Fin 4096) (k : Fin 1408) : IsNum (mixAt X g sh sc W w cb b r k) := by
  unfold mixAt
  split
  · exact h.proj b r _ (by dsimp only; omega)
  · unfold conv
    refine IsNum.add (IsNum.add (IsNum.add (IsNum.mul ?_ (h.f_taps 0 _)) (IsNum.mul (h.proj b r _ (by dsimp only; omega)) (h.f_taps 1 _))) (IsNum.mul ?_ (h.f_taps 2 _))) (h.f_bias _)
    · split
      · exact IsNum.zero
      · exact h.proj b _ _ (by dsimp only; omega)
    · split
      · exact IsNum.zero
      · exact h.proj b _ _ (by dsimp only; omega)

end Rows

end Cert.InProjection

end
-- ==== Proof.InKer.lean ====
/- The input projection kernel's five result arrays at the ideal values, where what the second half is made of is finite, are
   the arrays of `InSpec.lean`. -/
module

public import proofs.«01_k».proof.Proof.InPay
public import proofs.«01_k».proof.Proof.InBlk
public import proofs.«01_k».proof.Proof.InFinite

@[expose] public section

set_option maxRecDepth 16384

noncomputable section

namespace Cert.InProjection

open Cert.InProjIdeal Cert.InProjIdeal.Gen
open Idealize.ShloMosaic Idealize.ShloMosaic.TcCoe Idealize.SL.Sem

variable (m : (ℓ : Loc nD τ sig) → Buf (Elt Ideal) ℓ)

/-- The flip matrix's words are as said. -/
def Flips : Prop := ∀ a k : Fin 256, lit0t (256 * a.val + k.val) = if a.val + k.val = 255 then 0x3F80#16 else 0#16

/-- The array of the words, as numbers. -/
theorem flip_at (hF : Flips) (a k : Fin 256) : (flipWords (ix2 a k) : EReal) = if a.val + k.val = 255 then 1 else 0 := by
  rw [flipWords_at, hF a k]
  split
  · exact Ideal.ofBits_one_bf16
  · exact Ideal.ofBits_zero_bf16

/-- The projected rows, the columns of the folded results, and the finiteness, of the launch's arguments. -/
def projOfK (c : Dev nD) : Fin 16 → Fin 4096 → Fin 1792 → EReal :=
  projAt (m ((c : Thread nD τ).loc main_arg0)) (m ((c : Thread nD τ).loc main_arg1)) (m ((c : Thread nD τ).loc main_arg2)) (m ((c : Thread nD τ).loc main_arg3)) (m ((c : Thread nD τ).loc main_arg4))
def mixOfK (c : Dev nD) : Fin 16 → Fin 4096 → Fin 1408 → EReal :=
  mixAt (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))
def FiniteK (c : Dev nD) : Prop :=
  Finite (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))

/-- A block's projected rows are the arguments'. -/
theorem proj_block (c : Dev nD) (t : Fin cfg0.N) (r : Fin 512) (f : Fin 1792) :
    k0_pay11 (F := Ideal) (iblk m c 0 t) (iblk m c 1 t) (iblk m c 2 t) (iblk m c 3 t) (iblk m c 4 t) (ix2 r f) = projOfK m c (bat t) (row t r) f := by
  rw [pay11_at]
  simp only [blk0_at, blk1_at, blk2_at, blk3_at, blk4_at]
  rfl

/-- A block's first 1408 columns are the arguments'. -/
theorem mixed_block (c : Dev nD) (t : Fin cfg0.N) (r : Fin 512) (k : Fin 1408) :
    mixed (F := Ideal) (iblk m c 0 t) (iblk m c 1 t) (iblk m c 2 t) (iblk m c 3 t) (iblk m c 4 t) (iblk m c 5 t) (iblk m c 6 t) (ix2 r k) = mixOfK m c (bat t) (row t r) k := by
  unfold mixOfK mixAt
  by_cases hk : k.val < 256
  · rw [dif_pos hk, mixed_four _ _ _ _ _ _ _ r k hk, proj_block]
    rfl
  · rw [dif_neg hk, mixed_conv _ _ _ _ _ _ _ (fun r => projOfK m c (bat t) (row t r) ⟨k.val, by omega⟩) r k hk (fun r => proj_block m c t r _)]
    unfold conv
    refine congrArg₂ (· + ·) (congrArg₂ (· + ·) (congrArg₂ (· + ·) (congrArg₂ (· * ·) ?_ (blk5_at m c t 0 _)) (congrArg₂ (· * ·) rfl (blk5_at m c t 1 _))) (congrArg₂ (· * ·) ?_ (blk5_at m c t 2 _))) (blk6_at m c t _)
    · have e : (row t r).val % 64 = r.val % 64 := by unfold row; dsimp only; omega
      by_cases hr : r.val % 64 = 0
      · rw [if_pos hr, if_pos (e.trans hr)]
      · rw [if_neg hr, if_neg (fun h => hr (e.symm.trans h))]
        exact congrArg (fun i : Fin 4096 => projOfK m c (bat t) i ⟨k.val, by omega⟩) (Fin.ext (by unfold row; dsimp only; omega))
    · have e : (row t r).val % 64 = r.val % 64 := by unfold row; dsimp only; omega
      by_cases hr : r.val % 64 = 63
      · rw [if_pos hr, if_pos (e.trans hr)]
      · rw [if_neg hr, if_neg (fun h => hr (e.symm.trans h))]
        exact congrArg (fun i : Fin 4096 => projOfK m c (bat t) i ⟨k.val, by omega⟩) (Fin.ext (by unfold row; dsimp only; omega))

/-- A block of the second half, flipped. -/
theorem flipped_block (hF : Flips) (c : Dev nD) (hf : FiniteK m c) (t : Fin cfg0.N) (h1 : 4 ≤ t.val % 8) (r : Fin 512) (k : Fin 1408) :
    flipped (F := Ideal) (mixed (F := Ideal) (iblk m c 0 t) (iblk m c 1 t) (iblk m c 2 t) (iblk m c 3 t) (iblk m c 4 t) (iblk m c 5 t) (iblk m c 6 t)) (iblk m c 7 t) (ix2 r k)
      = mixOfK m c (bat t) (row t ⟨511 - r.val, by omega⟩) k := by
  rw [flipped_at _ _ (fun a k => (blk7_at m c t a k).trans (flip_at hF a k)) (fun r k => ?_), mixed_block]
  rw [mixed_block]
  exact (hf.mix (bat t) (row t r) k).sub_self

/-- Row `r` of the block of a folded result that point `t` writes. -/
def seqRow (t : Fin cfg0.N) (r : Fin 512) : Fin 4096 := if t.val % 8 ≤ 3 then row t r else row t ⟨511 - r.val, by omega⟩

/-- A point's block of folded result 1. -/
theorem block0_at (hF : Flips) (c : Dev nD) (hf : FiniteK m c) (t : Fin cfg0.N) (r : Fin 512) (k : Fin 256) :
    ((outsAt0 m c t.val t.isLt).1 : FVec Ideal S1x1x512x256 .f32) (ix4 0 0 r k) = mixOfK m c (bat t) (seqRow t r) ⟨0 + k.val, by omega⟩ := by
  unfold seqRow
  by_cases ht : t.val % 8 ≤ 3
  · rw [if_pos ht, first0 m c t ht, cut0_at, mixed_block]
    exact congrArg (mixOfK m c (bat t) _) (Fin.ext (by dsimp only; omega))
  · rw [if_neg ht, second0 m c t (by omega), cut0_at, flipped_block m hF c hf t (by omega)]
    exact congrArg (mixOfK m c (bat t) _) (Fin.ext (by dsimp only; omega))

/-- The kernel's folded result 1 is the specification's. -/
theorem kernel0 (hF : Flips) (c : Dev nD) (hf : FiniteK m c) :
    ((dats m 0 c).arrAt 8 cfg0.N : FVec Ideal S16x2x2048x256 .f32) = folded (n := 256) fun b r k => mixOfK m c b r ⟨0 + k.val, by omega⟩ := by
  funext i
  have i0 : (i 0).val < 16 := (i 0).isLt
  have i1 : (i 1).val < 2 := (i 1).isLt
  have i2 : (i 2).val < 2048 := (i 2).isLt
  have i3 : (i 3).val < 256 := (i 3).isLt
  have hN : cfg0.N = 128 := N_0
  have hlt : 8 * (i 0).val + (if (i 1).val = 0 then (i 2).val / 512 else 7 - (i 2).val / 512) < cfg0.N := by split <;> omega
  generalize ht : (⟨8 * (i 0).val + (if (i 1).val = 0 then (i 2).val / 512 else 7 - (i 2).val / 512), hlt⟩ : Fin cfg0.N) = t
  have hv : t.val = 8 * (i 0).val + (if (i 1).val = 0 then (i 2).val / 512 else 7 - (i 2).val / 512) := congrArg Fin.val ht.symm
  have h := congrFun (Cert.InProjIdeal.Value.blocks8 m c t (flush0_8 t)) (ix4 0 0 ⟨(i 2).val % 512, by omega⟩ ⟨(i 3).val, i3⟩ : S1x1x512x256.Idx)
  rw [Cert.InProjIdeal.Value.flushed8] at h
  have he : (((cfg0.win (8 : Fin 13)).blk t).view.emb (ix4 0 0 ⟨(i 2).val % 512, by omega⟩ ⟨(i 3).val, i3⟩ : S1x1x512x256.Idx) : S16x2x2048x256.Idx) = i := by
    funext a
    obtain ⟨h0, h1, h2, h3⟩ := fold_facts8 t
    match a with
    | ⟨0, _⟩ =>
      refine Fin.ext ((emb8 t _ 0).trans ?_)
      show cc0_transform_8 (grid0.coords t) 0 * 1 + 0 = (i 0).val
      split at hv <;> omega
    | ⟨1, _⟩ =>
      refine Fin.ext ((emb8 t _ 1).trans ?_)
      show cc0_transform_8 (grid0.coords t) 1 * 1 + 0 = (i 1).val
      split at hv <;> omega
    | ⟨2, _⟩ =>
      refine Fin.ext ((emb8 t _ 2).trans ?_)
      show cc0_transform_8 (grid0.coords t) 2 * 512 + (i 2).val % 512 = (i 2).val
      split at hv <;> split at h2 <;> omega
    | ⟨3, _⟩ =>
      refine Fin.ext ((emb8 t _ 3).trans ?_)
      show cc0_transform_8 (grid0.coords t) 3 * 256 + (i 3).val = (i 3).val
      omega
  have hb : bat t = i 0 := Fin.ext (by show t.val / 8 = (i 0).val; split at hv <;> omega)
  have hr : seqRow t ⟨(i 2).val % 512, by omega⟩ = (if (i 1).val = 0 then ⟨(i 2).val, by omega⟩ else ⟨4095 - (i 2).val, by omega⟩) := by
    unfold seqRow row
    by_cases hi : (i 1).val = 0
    · rw [if_pos hi] at hv
      rw [if_pos hi, if_pos (by omega)]
      exact Fin.ext (by dsimp only; omega)
    · rw [if_neg hi] at hv
      rw [if_neg hi, if_neg (by omega)]
      exact Fin.ext (by dsimp only; omega)
  refine (congrArg ((dats m 0 c).arrAt 8 cfg0.N : FVec Ideal S16x2x2048x256 .f32) he.symm).trans (Eq.trans h ?_)
  refine Eq.trans ?_ ((block0_at m hF c hf t ⟨(i 2).val % 512, by omega⟩ ⟨(i 3).val, i3⟩).trans ?_)
  · exact congrArg ((outsAt0 m c t.val t.isLt).1 : FVec Ideal S1x1x512x256 .f32) (funext fun a => match a with
      | ⟨0, _⟩ => rfl
      | ⟨1, _⟩ => rfl
      | ⟨2, _⟩ => rfl
      | ⟨3, _⟩ => rfl)
  · exact congrArg₂ (fun b r => mixOfK m c b r ⟨0 + (i 3).val, by omega⟩) hb hr

/-- A point's block of folded result 2. -/
theorem block1_at (hF : Flips) (c : Dev nD) (hf : FiniteK m c) (t : Fin cfg0.N) (r : Fin 512) (k : Fin 384) :
    ((outsAt0 m c t.val t.isLt).2.1 : FVec Ideal S1x1x512x384 .f32) (ix4 0 0 r k) = mixOfK m c (bat t) (seqRow t r) ⟨256 + k.val, by omega⟩ := by
  unfold seqRow
  by_cases ht : t.val % 8 ≤ 3
  · rw [if_pos ht, first1 m c t ht, cut1_at, mixed_block]
  · rw [if_neg ht, second1 m c t (by omega), cut1_at, flipped_block m hF c hf t (by omega)]

/-- The kernel's folded result 2 is the specification's. -/
theorem kernel1 (hF : Flips) (c : Dev nD) (hf : FiniteK m c) :
    ((dats m 0 c).arrAt 9 cfg0.N : FVec Ideal S16x2x2048x384 .f32) = folded (n := 384) fun b r k => mixOfK m c b r ⟨256 + k.val, by omega⟩ := by
  funext i
  have i0 : (i 0).val < 16 := (i 0).isLt
  have i1 : (i 1).val < 2 := (i 1).isLt
  have i2 : (i 2).val < 2048 := (i 2).isLt
  have i3 : (i 3).val < 384 := (i 3).isLt
  have hN : cfg0.N = 128 := N_0
  have hlt : 8 * (i 0).val + (if (i 1).val = 0 then (i 2).val / 512 else 7 - (i 2).val / 512) < cfg0.N := by split <;> omega
  generalize ht : (⟨8 * (i 0).val + (if (i 1).val = 0 then (i 2).val / 512 else 7 - (i 2).val / 512), hlt⟩ : Fin cfg0.N) = t
  have hv : t.val = 8 * (i 0).val + (if (i 1).val = 0 then (i 2).val / 512 else 7 - (i 2).val / 512) := congrArg Fin.val ht.symm
  have h := congrFun (Cert.InProjIdeal.Value.blocks9 m c t (flush0_9 t)) (ix4 0 0 ⟨(i 2).val % 512, by omega⟩ ⟨(i 3).val, i3⟩ : S1x1x512x384.Idx)
  rw [Cert.InProjIdeal.Value.flushed9] at h
  have he : (((cfg0.win (9 : Fin 13)).blk t).view.emb (ix4 0 0 ⟨(i 2).val % 512, by omega⟩ ⟨(i 3).val, i3⟩ : S1x1x512x384.Idx) : S16x2x2048x384.Idx) = i := by
    funext a
    obtain ⟨h0, h1, h2, h3⟩ := fold_facts9 t
    match a with
    | ⟨0, _⟩ =>
      refine Fin.ext ((emb9 t _ 0).trans ?_)
      show cc0_transform_9 (grid0.coords t) 0 * 1 + 0 = (i 0).val
      split at hv <;> omega
    | ⟨1, _⟩ =>
      refine Fin.ext ((emb9 t _ 1).trans ?_)
      show cc0_transform_9 (grid0.coords t) 1 * 1 + 0 = (i 1).val
      split at hv <;> omega
    | ⟨2, _⟩ =>
      refine Fin.ext ((emb9 t _ 2).trans ?_)
      show cc0_transform_9 (grid0.coords t) 2 * 512 + (i 2).val % 512 = (i 2).val
      split at hv <;> split at h2 <;> omega
    | ⟨3, _⟩ =>
      refine Fin.ext ((emb9 t _ 3).trans ?_)
      show cc0_transform_9 (grid0.coords t) 3 * 384 + (i 3).val = (i 3).val
      omega
  have hb : bat t = i 0 := Fin.ext (by show t.val / 8 = (i 0).val; split at hv <;> omega)
  have hr : seqRow t ⟨(i 2).val % 512, by omega⟩ = (if (i 1).val = 0 then ⟨(i 2).val, by omega⟩ else ⟨4095 - (i 2).val, by omega⟩) := by
    unfold seqRow row
    by_cases hi : (i 1).val = 0
    · rw [if_pos hi] at hv
      rw [if_pos hi, if_pos (by omega)]
      exact Fin.ext (by dsimp only; omega)
    · rw [if_neg hi] at hv
      rw [if_neg hi, if_neg (by omega)]
      exact Fin.ext (by dsimp only; omega)
  refine (congrArg ((dats m 0 c).arrAt 9 cfg0.N : FVec Ideal S16x2x2048x384 .f32) he.symm).trans (Eq.trans h ?_)
  refine Eq.trans ?_ ((block1_at m hF c hf t ⟨(i 2).val % 512, by omega⟩ ⟨(i 3).val, i3⟩).trans ?_)
  · exact congrArg ((outsAt0 m c t.val t.isLt).2.1 : FVec Ideal S1x1x512x384 .f32) (funext fun a => match a with
      | ⟨0, _⟩ => rfl
      | ⟨1, _⟩ => rfl
      | ⟨2, _⟩ => rfl
      | ⟨3, _⟩ => rfl)
  · exact congrArg₂ (fun b r => mixOfK m c b r ⟨256 + (i 3).val, by omega⟩) hb hr

/-- A point's block of folded result 3. -/
theorem block2_at (hF : Flips) (c : Dev nD) (hf : FiniteK m c) (t : Fin cfg0.N) (r : Fin 512) (k : Fin 384) :
    ((outsAt0 m c t.val t.isLt).2.2.1 : FVec Ideal S1x1x512x384 .f32) (ix4 0 0 r k) = mixOfK m c (bat t) (seqRow t r) ⟨640 + k.val, by omega⟩ := by
  unfold seqRow
  by_cases ht : t.val % 8 ≤ 3
  · rw [if_pos ht, first2 m c t ht, cut2_at, mixed_block]
  · rw [if_neg ht, second2 m c t (by omega), cut2_at, flipped_block m hF c hf t (by omega)]

/-- The kernel's folded result 3 is the specification's. -/
theorem kernel2 (hF : Flips) (c : Dev nD) (hf : FiniteK m c) :
    ((dats m 0 c).arrAt 10 cfg0.N : FVec Ideal S16x2x2048x384 .f32) = folded (n := 384) fun b r k => mixOfK m c b r ⟨640 + k.val, by omega⟩ := by
  funext i
  have i0 : (i 0).val < 16 := (i 0).isLt
  have i1 : (i 1).val < 2 := (i 1).isLt
  have i2 : (i 2).val < 2048 := (i 2).isLt
  have i3 : (i 3).val < 384 := (i 3).isLt
  have hN : cfg0.N = 128 := N_0
  have hlt : 8 * (i 0).val + (if (i 1).val = 0 then (i 2).val / 512 else 7 - (i 2).val / 512) < cfg0.N := by split <;> omega
  generalize ht : (⟨8 * (i 0).val + (if (i 1).val = 0 then (i 2).val / 512 else 7 - (i 2).val / 512), hlt⟩ : Fin cfg0.N) = t
  have hv : t.val = 8 * (i 0).val + (if (i 1).val = 0 then (i 2).val / 512 else 7 - (i 2).val / 512) := congrArg Fin.val ht.symm
  have h := congrFun (Cert.InProjIdeal.Value.blocks10 m c t (flush0_10 t)) (ix4 0 0 ⟨(i 2).val % 512, by omega⟩ ⟨(i 3).val, i3⟩ : S1x1x512x384.Idx)
  rw [Cert.InProjIdeal.Value.flushed10] at h
  have he : (((cfg0.win (10 : Fin 13)).blk t).view.emb (ix4 0 0 ⟨(i 2).val % 512, by omega⟩ ⟨(i 3).val, i3⟩ : S1x1x512x384.Idx) : S16x2x2048x384.Idx) = i := by
    funext a
    obtain ⟨h0, h1, h2, h3⟩ := fold_facts10 t
    match a with
    | ⟨0, _⟩ =>
      refine Fin.ext ((emb10 t _ 0).trans ?_)
      show cc0_transform_10 (grid0.coords t) 0 * 1 + 0 = (i 0).val
      split at hv <;> omega
    | ⟨1, _⟩ =>
      refine Fin.ext ((emb10 t _ 1).trans ?_)
      show cc0_transform_10 (grid0.coords t) 1 * 1 + 0 = (i 1).val
      split at hv <;> omega
    | ⟨2, _⟩ =>
      refine Fin.ext ((emb10 t _ 2).trans ?_)
      show cc0_transform_10 (grid0.coords t) 2 * 512 + (i 2).val % 512 = (i 2).val
      split at hv <;> split at h2 <;> omega
    | ⟨3, _⟩ =>
      refine Fin.ext ((emb10 t _ 3).trans ?_)
      show cc0_transform_10 (grid0.coords t) 3 * 384 + (i 3).val = (i 3).val
      omega
  have hb : bat t = i 0 := Fin.ext (by show t.val / 8 = (i 0).val; split at hv <;> omega)
  have hr : seqRow t ⟨(i 2).val % 512, by omega⟩ = (if (i 1).val = 0 then ⟨(i 2).val, by omega⟩ else ⟨4095 - (i 2).val, by omega⟩) := by
    unfold seqRow row
    by_cases hi : (i 1).val = 0
    · rw [if_pos hi] at hv
      rw [if_pos hi, if_pos (by omega)]
      exact Fin.ext (by dsimp only; omega)
    · rw [if_neg hi] at hv
      rw [if_neg hi, if_neg (by omega)]
      exact Fin.ext (by dsimp only; omega)
  refine (congrArg ((dats m 0 c).arrAt 10 cfg0.N : FVec Ideal S16x2x2048x384 .f32) he.symm).trans (Eq.trans h ?_)
  refine Eq.trans ?_ ((block2_at m hF c hf t ⟨(i 2).val % 512, by omega⟩ ⟨(i 3).val, i3⟩).trans ?_)
  · exact congrArg ((outsAt0 m c t.val t.isLt).2.2.1 : FVec Ideal S1x1x512x384 .f32) (funext fun a => match a with
      | ⟨0, _⟩ => rfl
      | ⟨1, _⟩ => rfl
      | ⟨2, _⟩ => rfl
      | ⟨3, _⟩ => rfl)
  · exact congrArg₂ (fun b r => mixOfK m c b r ⟨640 + (i 3).val, by omega⟩) hb hr

/-- A point's block of folded result 4. -/
theorem block3_at (hF : Flips) (c : Dev nD) (hf : FiniteK m c) (t : Fin cfg0.N) (r : Fin 512) (k : Fin 384) :
    ((outsAt0 m c t.val t.isLt).2.2.2.1 : FVec Ideal S1x1x512x384 .f32) (ix4 0 0 r k) = mixOfK m c (bat t) (seqRow t r) ⟨1024 + k.val, by omega⟩ := by
  unfold seqRow
  by_cases ht : t.val % 8 ≤ 3
  · rw [if_pos ht, first3 m c t ht, cut3_at, mixed_block]
  · rw [if_neg ht, second3 m c t (by omega), cut3_at, flipped_block m hF c hf t (by omega)]

/-- The kernel's folded result 4 is the specification's. -/
theorem kernel3 (hF : Flips) (c : Dev nD) (hf : FiniteK m c) :
    ((dats m 0 c).arrAt 11 cfg0.N : FVec Ideal S16x2x2048x384 .f32) = folded (n := 384) fun b r k => mixOfK m c b r ⟨1024 + k.val, by omega⟩ := by
  funext i
  have i0 : (i 0).val < 16 := (i 0).isLt
  have i1 : (i 1).val < 2 := (i 1).isLt
  have i2 : (i 2).val < 2048 := (i 2).isLt
  have i3 : (i 3).val < 384 := (i 3).isLt
  have hN : cfg0.N = 128 := N_0
  have hlt : 8 * (i 0).val + (if (i 1).val = 0 then (i 2).val / 512 else 7 - (i 2).val / 512) < cfg0.N := by split <;> omega
  generalize ht : (⟨8 * (i 0).val + (if (i 1).val = 0 then (i 2).val / 512 else 7 - (i 2).val / 512), hlt⟩ : Fin cfg0.N) = t
  have hv : t.val = 8 * (i 0).val + (if (i 1).val = 0 then (i 2).val / 512 else 7 - (i 2).val / 512) := congrArg Fin.val ht.symm
  have h := congrFun (Cert.InProjIdeal.Value.blocks11 m c t (flush0_11 t)) (ix4 0 0 ⟨(i 2).val % 512, by omega⟩ ⟨(i 3).val, i3⟩ : S1x1x512x384.Idx)
  rw [Cert.InProjIdeal.Value.flushed11] at h
  have he : (((cfg0.win (11 : Fin 13)).blk t).view.emb (ix4 0 0 ⟨(i 2).val % 512, by omega⟩ ⟨(i 3).val, i3⟩ : S1x1x512x384.Idx) : S16x2x2048x384.Idx) = i := by
    funext a
    obtain ⟨h0, h1, h2, h3⟩ := fold_facts11 t
    match a with
    | ⟨0, _⟩ =>
      refine Fin.ext ((emb11 t _ 0).trans ?_)
      show cc0_transform_11 (grid0.coords t) 0 * 1 + 0 = (i 0).val
      split at hv <;> omega
    | ⟨1, _⟩ =>
      refine Fin.ext ((emb11 t _ 1).trans ?_)
      show cc0_transform_11 (grid0.coords t) 1 * 1 + 0 = (i 1).val
      split at hv <;> omega
    | ⟨2, _⟩ =>
      refine Fin.ext ((emb11 t _ 2).trans ?_)
      show cc0_transform_11 (grid0.coords t) 2 * 512 + (i 2).val % 512 = (i 2).val
      split at hv <;> split at h2 <;> omega
    | ⟨3, _⟩ =>
      refine Fin.ext ((emb11 t _ 3).trans ?_)
      show cc0_transform_11 (grid0.coords t) 3 * 384 + (i 3).val = (i 3).val
      omega
  have hb : bat t = i 0 := Fin.ext (by show t.val / 8 = (i 0).val; split at hv <;> omega)
  have hr : seqRow t ⟨(i 2).val % 512, by omega⟩ = (if (i 1).val = 0 then ⟨(i 2).val, by omega⟩ else ⟨4095 - (i 2).val, by omega⟩) := by
    unfold seqRow row
    by_cases hi : (i 1).val = 0
    · rw [if_pos hi] at hv
      rw [if_pos hi, if_pos (by omega)]
      exact Fin.ext (by dsimp only; omega)
    · rw [if_neg hi] at hv
      rw [if_neg hi, if_neg (by omega)]
      exact Fin.ext (by dsimp only; omega)
  refine (congrArg ((dats m 0 c).arrAt 11 cfg0.N : FVec Ideal S16x2x2048x384 .f32) he.symm).trans (Eq.trans h ?_)
  refine Eq.trans ?_ ((block3_at m hF c hf t ⟨(i 2).val % 512, by omega⟩ ⟨(i 3).val, i3⟩).trans ?_)
  · exact congrArg ((outsAt0 m c t.val t.isLt).2.2.2.1 : FVec Ideal S1x1x512x384 .f32) (funext fun a => match a with
      | ⟨0, _⟩ => rfl
      | ⟨1, _⟩ => rfl
      | ⟨2, _⟩ => rfl
      | ⟨3, _⟩ => rfl)
  · exact congrArg₂ (fun b r => mixOfK m c b r ⟨1024 + (i 3).val, by omega⟩) hb hr

/-- A point's block of the last result. -/
theorem block4_at (c : Dev nD) (t : Fin cfg0.N) (r : Fin 512) (k : Fin 384) :
    ((outsAt0 m c t.val t.isLt).2.2.2.2 : FVec Ideal S1x512x384 .f32) (ix3 0 r k) = projOfK m c (bat t) (row t r) ⟨1408 + k.val, by omega⟩ := by
  rw [seq_out, pay12_at, proj_block]

/-- The kernel's last result is the specification's. -/
theorem kernel4 (c : Dev nD) :
    ((dats m 0 c).arrAt 12 cfg0.N : FVec Ideal S16x4096x384 .f32) = seqPart (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have i0 : (i 0).val < 16 := (i 0).isLt
  have i1 : (i 1).val < 4096 := (i 1).isLt
  have i2 : (i 2).val < 384 := (i 2).isLt
  have hN : cfg0.N = 128 := N_0
  have hlt : 8 * (i 0).val + (i 1).val / 512 < cfg0.N := by omega
  generalize ht : (⟨8 * (i 0).val + (i 1).val / 512, hlt⟩ : Fin cfg0.N) = t
  have hv : t.val = 8 * (i 0).val + (i 1).val / 512 := congrArg Fin.val ht.symm
  have h := congrFun (Cert.InProjIdeal.Value.blocks12 m c t (flush0_12 t)) (ix3 0 ⟨(i 1).val % 512, by omega⟩ ⟨(i 2).val, i2⟩ : S1x512x384.Idx)
  rw [Cert.InProjIdeal.Value.flushed12] at h
  have he : (((cfg0.win (12 : Fin 13)).blk t).view.emb (ix3 0 ⟨(i 1).val % 512, by omega⟩ ⟨(i 2).val, i2⟩ : S1x512x384.Idx) : S16x4096x384.Idx) = i := by
    funext a
    obtain ⟨h0, h1⟩ := coord_words t
    match a with
    | ⟨0, _⟩ =>
      refine Fin.ext ((emb12 t _ 0).trans ?_)
      show (BitVec.ofNat 32 (grid0.coords t 0).val).toNat * 1 + 0 = (i 0).val
      omega
    | ⟨1, _⟩ =>
      refine Fin.ext ((emb12 t _ 1).trans ?_)
      show (BitVec.ofNat 32 (grid0.coords t 1).val).toNat * 512 + (i 1).val % 512 = (i 1).val
      omega
    | ⟨2, _⟩ =>
      refine Fin.ext ((emb12 t _ 2).trans ?_)
      show 0 * 384 + (i 2).val = (i 2).val
      omega
  have hb : bat t = i 0 := Fin.ext (by show t.val / 8 = (i 0).val; omega)
  have hr : row t ⟨(i 1).val % 512, by omega⟩ = i 1 := Fin.ext (by show 512 * (t.val % 8) + (i 1).val % 512 = (i 1).val; omega)
  refine (congrArg ((dats m 0 c).arrAt 12 cfg0.N : FVec Ideal S16x4096x384 .f32) he.symm).trans (Eq.trans h ?_)
  refine Eq.trans ?_ ((block4_at m c t ⟨(i 1).val % 512, by omega⟩ ⟨(i 2).val, i2⟩).trans ?_)
  · exact congrArg ((outsAt0 m c t.val t.isLt).2.2.2.2 : FVec Ideal S1x512x384 .f32) (funext fun a => match a with
      | ⟨0, _⟩ => rfl
      | ⟨1, _⟩ => rfl
      | ⟨2, _⟩ => rfl)
  · exact congrArg₂ (fun b r => projOfK m c b r ⟨1408 + (i 2).val, by omega⟩) hb hr

end Cert.InProjection

end
-- ==== Proof.InRef.lean ====
/- The input projection's reference terms, read at an index, are the arrays of `InSpec.lean`. -/
module

public import proofs.«01_k».proof.Proof.InSpec
public import proofs.«01_k».proof.Proof.Gen.InProjReferenceIdeal.Run

@[expose] public section

set_option maxRecDepth 16384

noncomputable section

namespace Cert.InProjection

open Cert.InProjReferenceIdeal Cert.InProjReferenceIdeal.Gen Idealize.ShloMosaic Idealize.ShloMosaic.TcCoe Idealize.SL.Sem

/-- The normalized and modulated rows, as the reference prints them. -/
def refNormed (X : FVec Ideal S16x4096x1024 .f32) (g : FVec Ideal S1024 .f32) (sh sc : FVec Ideal S16x1x1024 .f32) : FVec Ideal S16x4096x1024 .f32 :=
  addf (mulf (mulf (mulf X (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf X X) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g)))
      (broadcastInDim S16x4096x1024 ![0, 1, 2] bcast_S16x1x1024_S16x4096x1024_0_1_2 (addf (broadcastInDim S16x1x1024 ![] bcast_S_S16x1x1024 (constant S_ .f32 0x3F800000#32)) sc)))
    (broadcastInDim S16x4096x1024 ![0, 1, 2] bcast_S16x1x1024_S16x4096x1024_0_1_2 sh)

theorem refNormed_at (X : FVec Ideal S16x4096x1024 .f32) (g : FVec Ideal S1024 .f32) (sh sc : FVec Ideal S16x1x1024 .f32) (b : Fin 16) (r : Fin 4096) (k : Fin 1024) :
    refNormed X g sh sc (ix3 b r k) = Cert.DenseFfn.normed X g sh sc b r k := by
  pointwise [refNormed, Cert.DenseFfn.normed, Cert.DenseFfn.inv]

/-- The projected rows. -/
def refProj (N : FVec Ideal S16x4096x1024 .f32) (W : FVec Ideal S1024x1792 .f32) : FVec Ideal S16x4096x1792 .f32 :=
  Host.dotGeneral (φ₁ := .f32) (φ₂ := .f32) dot_S16x4096x1024_S1024x1792_S16x4096x1792_2_0_01_1_n_n none N W

theorem refProj_at (N : FVec Ideal S16x4096x1024 .f32) (W : FVec Ideal S1024x1792 .f32) (b : Fin 16) (r : Fin 4096) (f : Fin 1792) :
    refProj N W (ix3 b r f) = proj (fun k => N (ix3 b r k)) W f := by
  pointwise [refProj, proj]

/-- The columns of the convolution as rows of the grid, a row and a column of zeros around each. -/
def refPadded (P : FVec Ideal S16x4096x1792 .f32) : FVec Ideal S16x64x66x1152 .f32 :=
  pad S16x64x66x1152 ![0, 0, 1, 0] ![0, 0, 1, 0] ![0, 0, 0, 0] (shapeCast S16x64x64x1152 (extractStridedSlice S16x4096x1152 ![0, 0, 256] P slices_S16x4096x1792_S16x4096x1152_0_0_256) shapeCasts_S16x4096x1152_S16x64x64x1152 : FVec Ideal S16x64x64x1152 .f32)
    (sitofp .f32 (constantI S_ 32 0#32) : FVec Ideal S_ .f32) pads_S16x64x64x1152_S16x64x66x1152_000_000_110_000 h_S_

/-- The convolution of padded rows. -/
def refTaps (Q : FVec Ideal S16x64x66x1152 .f32) (w : FVec Ideal S3x1152 .f32) (cb : FVec Ideal S1152 .f32) : FVec Ideal S16x64x64x1152 .f32 :=
  addf (addf (addf
    (mulf (extractStridedSlice S16x64x64x1152 ![0, 0, 0, 0] Q slices_S16x64x66x1152_S16x64x64x1152_0_0_0_0) (broadcastInDim S16x64x64x1152 ![0, 1, 2, 3] bcast_S1x1x1x1152_S16x64x64x1152_0_1_2_3 (broadcastInDim S1x1x1x1152 ![3] bcast_S1152_S1x1x1x1152_3 (shapeCast _ (extractStridedSlice S1x1152 ![0, 0] w slices_S3x1152_S1x1152_0_0) shapeCasts_S1x1152_S1152))))
    (mulf (extractStridedSlice S16x64x64x1152 ![0, 0, 1, 0] Q slices_S16x64x66x1152_S16x64x64x1152_0_0_1_0) (broadcastInDim S16x64x64x1152 ![0, 1, 2, 3] bcast_S1x1x1x1152_S16x64x64x1152_0_1_2_3 (broadcastInDim S1x1x1x1152 ![3] bcast_S1152_S1x1x1x1152_3 (shapeCast _ (extractStridedSlice S1x1152 ![1, 0] w slices_S3x1152_S1x1152_1_0) shapeCasts_S1x1152_S1152)))))
    (mulf (extractStridedSlice S16x64x64x1152 ![0, 0, 2, 0] Q slices_S16x64x66x1152_S16x64x64x1152_0_0_2_0) (broadcastInDim S16x64x64x1152 ![0, 1, 2, 3] bcast_S1x1x1x1152_S16x64x64x1152_0_1_2_3 (broadcastInDim S1x1x1x1152 ![3] bcast_S1152_S1x1x1x1152_3 (shapeCast _ (extractStridedSlice S1x1152 ![2, 0] w slices_S3x1152_S1x1152_2_0) shapeCasts_S1x1152_S1152)))))
    (broadcastInDim S16x64x64x1152 ![0, 1, 2, 3] bcast_S1x1x1x1152_S16x64x64x1152_0_1_2_3 (broadcastInDim S1x1x1x1152 ![3] bcast_S1152_S1x1x1x1152_3 cb))

/-- The convolution as rows again. -/
def refConv (Q : FVec Ideal S16x64x64x1152 .f32) : FVec Ideal S16x4096x1152 .f32 := shapeCast S16x4096x1152 Q shapeCasts_S16x64x64x1152_S16x4096x1152

/-- The word zero as a number. -/
theorem zero_word : (FloatOps.sitofp .f32 (0#32) : Ideal .f32) = (0 : EReal) := by
  show (((0#32 : BitVec 32).toInt : ℝ) : EReal) = 0
  simp

theorem refPadded_at (P : FVec Ideal S16x4096x1792 .f32) (b : Fin 16) (a : Fin 64) (x : Fin 66) (j : Fin 1152) :
    refPadded P (ix4 b a x j) = if h : 1 ≤ x.val ∧ x.val - 1 < 64 then P (ix3 b ⟨a.val * 64 + (x.val - 1), by omega⟩ ⟨256 + j.val, by omega⟩) else 0 := by
  rw [← zero_word]
  pointwise [refPadded]

theorem refTaps_at (Q : FVec Ideal S16x64x66x1152 .f32) (w : FVec Ideal S3x1152 .f32) (cb : FVec Ideal S1152 .f32) (b : Fin 16) (a x : Fin 64) (j : Fin 1152) :
    refTaps Q w cb (ix4 b a x j) = Q (ix4 b a ⟨x.val, by omega⟩ j) * w (ix2 0 j) + Q (ix4 b a ⟨1 + x.val, by omega⟩ j) * w (ix2 1 j) + Q (ix4 b a ⟨2 + x.val, by omega⟩ j) * w (ix2 2 j) + cb (ix1 j) := by
  pointwise [refTaps]

theorem refConv_at (Q : FVec Ideal S16x64x64x1152 .f32) (b : Fin 16) (r : Fin 4096) (j : Fin 1152) :
    refConv Q (ix3 b r j) = Q (ix4 b ⟨r.val / 64, by omega⟩ ⟨r.val % 64, by omega⟩ j) := by
  pointwise [refConv]

/-- The reference's convolution is the specification's. -/
theorem refShort_at (P : FVec Ideal S16x4096x1792 .f32) (w : FVec Ideal S3x1152 .f32) (cb : FVec Ideal S1152 .f32) (b : Fin 16) (r : Fin 4096) (j : Fin 1152) :
    refConv (refTaps (refPadded P) w cb) (ix3 b r j) = conv (fun r => P (ix3 b r ⟨256 + j.val, by omega⟩)) w cb r j := by
  rw [refConv_at, refTaps_at]
  unfold conv
  refine congrArg₂ (· + ·) (congrArg₂ (· + ·) (congrArg₂ (· + ·) (congrArg₂ (· * ·) ?_ rfl) (congrArg₂ (· * ·) ?_ rfl)) (congrArg₂ (· * ·) ?_ rfl)) rfl
  · rw [refPadded_at]
    by_cases h : r.val % 64 = 0
    · rw [if_pos h, dif_neg (by dsimp only; omega)]
    · rw [if_neg h, dif_pos (by dsimp only; omega)]
      exact congrArg (fun i : Fin 4096 => P (ix3 b i ⟨256 + j.val, by omega⟩)) (Fin.ext (by dsimp only; omega))
  · rw [refPadded_at, dif_pos (by dsimp only; omega)]
    exact congrArg (fun i : Fin 4096 => P (ix3 b i ⟨256 + j.val, by omega⟩)) (Fin.ext (by dsimp only; omega))
  · rw [refPadded_at]
    by_cases h : r.val % 64 = 63
    · rw [if_pos h, dif_neg (by dsimp only; omega)]
    · rw [if_neg h, dif_pos (by dsimp only; omega)]
      exact congrArg (fun i : Fin 4096 => P (ix3 b i ⟨256 + j.val, by omega⟩)) (Fin.ext (by dsimp only; omega))

/-- Columns in two halves, 256 of them. -/
def refFold256 (U : FVec Ideal S16x4096x256 .f32) : FVec Ideal S16x2x2048x256 .f32 :=
  concatenate S16x2x2048x256 1 [⟨S16x1x2048x256, (broadcastInDim S16x1x2048x256 ![0, 2, 3] bcast_S16x2048x256_S16x1x2048x256_0_2_3 (extractStridedSlice S16x2048x256 ![0, 0, 0] U slices_S16x4096x256_S16x2048x256_0_0_0))⟩,
    ⟨S16x1x2048x256, (broadcastInDim S16x1x2048x256 ![0, 2, 3] bcast_S16x2048x256_S16x1x2048x256_0_2_3 (Host.reverse [1] (extractStridedSlice S16x2048x256 ![0, 2048, 0] U slices_S16x4096x256_S16x2048x256_0_2048_0)))⟩] concatenates_S16x1x2048x256_S16x1x2048x256_S16x2x2048x256_d1

/-- and 384 of them. -/
def refFold384 (U : FVec Ideal S16x4096x384 .f32) : FVec Ideal S16x2x2048x384 .f32 :=
  concatenate S16x2x2048x384 1 [⟨S16x1x2048x384, (broadcastInDim S16x1x2048x384 ![0, 2, 3] bcast_S16x2048x384_S16x1x2048x384_0_2_3 (extractStridedSlice S16x2048x384 ![0, 0, 0] U slices_S16x4096x384_S16x2048x384_0_0_0))⟩,
    ⟨S16x1x2048x384, (broadcastInDim S16x1x2048x384 ![0, 2, 3] bcast_S16x2048x384_S16x1x2048x384_0_2_3 (Host.reverse [1] (extractStridedSlice S16x2048x384 ![0, 2048, 0] U slices_S16x4096x384_S16x2048x384_0_2048_0)))⟩] concatenates_S16x1x2048x384_S16x1x2048x384_S16x2x2048x384_d1

theorem refFold256_at (U : FVec Ideal S16x4096x256 .f32) (b : Fin 16) (h : Fin 2) (r : Fin 2048) (k : Fin 256) :
    refFold256 U (ix4 b h r k) = U (ix3 b (if h.val = 0 then ⟨r.val, by omega⟩ else ⟨4095 - r.val, by omega⟩) k) := by
  pointwise [refFold256]
  by_cases hh : h.val = 0
  · rw [if_pos hh, dif_pos (by omega)]
  · rw [if_neg hh, dif_neg (by omega)]
    simp only [List.mem_singleton, zero_ne_one, OfNat.ofNat_ne_one, if_false, if_true]
    exact congrArg (fun i : Fin 4096 => U (ix3 b i k)) (Fin.ext (by show 2048 + (Fin.rev r).val = 4095 - r.val; rw [Fin.val_rev]; omega))

theorem refFold384_at (U : FVec Ideal S16x4096x384 .f32) (b : Fin 16) (h : Fin 2) (r : Fin 2048) (k : Fin 384) :
    refFold384 U (ix4 b h r k) = U (ix3 b (if h.val = 0 then ⟨r.val, by omega⟩ else ⟨4095 - r.val, by omega⟩) k) := by
  pointwise [refFold384]
  by_cases hh : h.val = 0
  · rw [if_pos hh, dif_pos (by omega)]
  · rw [if_neg hh, dif_neg (by omega)]
    simp only [List.mem_singleton, zero_ne_one, OfNat.ofNat_ne_one, if_false, if_true]
    exact congrArg (fun i : Fin 4096 => U (ix3 b i k)) (Fin.ext (by show 2048 + (Fin.rev r).val = 4095 - r.val; rw [Fin.val_rev]; omega))

/-- The first columns at an index. -/
theorem four_at (P : FVec Ideal S16x4096x1792 .f32) (h) (b : Fin 16) (r : Fin 4096) (k : Fin 256) :
    extractStridedSlice S16x4096x256 ![0, 0, 0] P h (ix3 b r k) = P (ix3 b r ⟨k.val, by omega⟩) := by
  pointwise

/-- The last columns at an index. -/
theorem seq_at (P : FVec Ideal S16x4096x1792 .f32) (h) (b : Fin 16) (r : Fin 4096) (k : Fin 384) :
    extractStridedSlice S16x4096x384 ![0, 0, 1408] P h (ix3 b r k) = P (ix3 b r ⟨1408 + k.val, by omega⟩) := by
  pointwise

/-- A third of the convolution's columns at an index. -/
theorem third0_at (Q : FVec Ideal S16x4096x1152 .f32) (h) (b : Fin 16) (r : Fin 4096) (k : Fin 384) :
    extractStridedSlice S16x4096x384 ![0, 0, 0] Q h (ix3 b r k) = Q (ix3 b r ⟨k.val, by omega⟩) := by
  pointwise
theorem third1_at (Q : FVec Ideal S16x4096x1152 .f32) (h) (b : Fin 16) (r : Fin 4096) (k : Fin 384) :
    extractStridedSlice S16x4096x384 ![0, 0, 384] Q h (ix3 b r k) = Q (ix3 b r ⟨384 + k.val, by omega⟩) := by
  pointwise
theorem third2_at (Q : FVec Ideal S16x4096x1152 .f32) (h) (b : Fin 16) (r : Fin 4096) (k : Fin 384) :
    extractStridedSlice S16x4096x384 ![0, 0, 768] Q h (ix3 b r k) = Q (ix3 b r ⟨768 + k.val, by omega⟩) := by
  pointwise

section Results

variable (X : FVec Ideal S16x4096x1024 .f32) (g : FVec Ideal S1024 .f32) (sh sc : FVec Ideal S16x1x1024 .f32) (W : FVec Ideal S1024x1792 .f32) (w : FVec Ideal S3x1152 .f32) (cb : FVec Ideal S1152 .f32)

/-- The projected rows of the normalized ones. -/
theorem rows_at (b : Fin 16) (r : Fin 4096) (f : Fin 1792) : refProj (refNormed X g sh sc) W (ix3 b r f) = projAt X g sh sc W b r f := by
  rw [refProj_at]
  exact congrArg (fun N => proj N W f) (funext fun k => refNormed_at X g sh sc b r k)

/-- The convolution of them. -/
theorem short_at (b : Fin 16) (r : Fin 4096) (j : Fin 1152) :
    refConv (refTaps (refPadded (refProj (refNormed X g sh sc) W)) w cb) (ix3 b r j) = mixAt X g sh sc W w cb b r ⟨256 + j.val, by omega⟩ := by
  rw [refShort_at]
  unfold mixAt
  rw [dif_neg (by dsimp only; omega)]
  have hj : (⟨256 + j.val - 256, by omega⟩ : Fin 1152) = j := Fin.ext (by dsimp only; omega)
  exact (congrArg (fun P => conv P w cb r j) (funext fun r' => rows_at X g sh sc W b r' ⟨256 + j.val, by omega⟩)).trans
    (congrArg (fun i => conv (fun r => projAt X g sh sc W b r ⟨256 + j.val, by omega⟩) w cb r i) hj.symm)

/-- An array that at every index is the folded sequence is it. -/
theorem folded_ext {n : ℕ} (o : ℕ) (ho : o + n ≤ 1408) (R : FVec Ideal (⟨4, ![16, 2, 2048, n]⟩ : Shape) .f32)
    (h : ∀ (b : Fin 16) (h : Fin 2) (r : Fin 2048) (k : Fin n), R (ix4 b h r k) = mixAt X g sh sc W w cb b (if h.val = 0 then ⟨r.val, by omega⟩ else ⟨4095 - r.val, by omega⟩) ⟨o + k.val, by omega⟩) :
    R = part o ho X g sh sc W w cb := by
  funext y
  have hy : y = ix4 (y 0) (y 1) (y 2) (y 3) := funext fun a => match a with | ⟨0, _⟩ => rfl | ⟨1, _⟩ => rfl | ⟨2, _⟩ => rfl | ⟨3, _⟩ => rfl
  exact (congrArg R hy).trans (h (y 0) (y 1) (y 2) (y 3))

theorem ref_four : refFold256 (extractStridedSlice S16x4096x256 ![0, 0, 0] (refProj (refNormed X g sh sc) W) slices_S16x4096x1792_S16x4096x256_0_0_0) = part 0 (by decide) X g sh sc W w cb :=
  folded_ext X g sh sc W w cb 0 (by decide) _ fun b h r k => by
    rw [refFold256_at, four_at, rows_at]
    unfold mixAt
    rw [dif_pos (by dsimp only; omega)]
    exact congrArg (projAt X g sh sc W b _) (Fin.ext (by dsimp only; omega))

theorem ref_third0 : refFold384 (extractStridedSlice S16x4096x384 ![0, 0, 0] (refConv (refTaps (refPadded (refProj (refNormed X g sh sc) W)) w cb)) slices_S16x4096x1152_S16x4096x384_0_0_0)
    = part 256 (by decide) X g sh sc W w cb :=
  folded_ext X g sh sc W w cb 256 (by decide) _ fun b h r k => by
    rw [refFold384_at, third0_at, short_at]

theorem ref_third1 : refFold384 (extractStridedSlice S16x4096x384 ![0, 0, 384] (refConv (refTaps (refPadded (refProj (refNormed X g sh sc) W)) w cb)) slices_S16x4096x1152_S16x4096x384_0_0_384)
    = part 640 (by decide) X g sh sc W w cb :=
  folded_ext X g sh sc W w cb 640 (by decide) _ fun b h r k => by
    rw [refFold384_at, third1_at, short_at]
    exact congrArg (mixAt X g sh sc W w cb b _) (Fin.ext (by dsimp only; omega))

theorem ref_third2 : refFold384 (extractStridedSlice S16x4096x384 ![0, 0, 768] (refConv (refTaps (refPadded (refProj (refNormed X g sh sc) W)) w cb)) slices_S16x4096x1152_S16x4096x384_0_0_768)
    = part 1024 (by decide) X g sh sc W w cb :=
  folded_ext X g sh sc W w cb 1024 (by decide) _ fun b h r k => by
    rw [refFold384_at, third2_at, short_at]
    exact congrArg (mixAt X g sh sc W w cb b _) (Fin.ext (by dsimp only; omega))

/-- The same for the last columns. -/
theorem seq_ext (R : FVec Ideal S16x4096x384 .f32) (h : ∀ (b : Fin 16) (r : Fin 4096) (k : Fin 384), R (ix3 b r k) = projAt X g sh sc W b r ⟨1408 + k.val, by omega⟩) :
    R = seqPart X g sh sc W := by
  funext y
  have hy : y = ix3 (y 0) (y 1) (y 2) := funext fun a => match a with | ⟨0, _⟩ => rfl | ⟨1, _⟩ => rfl | ⟨2, _⟩ => rfl
  exact (congrArg R hy).trans (h (y 0) (y 1) (y 2))

theorem ref_seq : extractStridedSlice S16x4096x384 ![0, 0, 1408] (refProj (refNormed X g sh sc) W) slices_S16x4096x1792_S16x4096x384_0_0_1408 = seqPart X g sh sc W :=
  seq_ext X g sh sc W _ fun b r k => by
    rw [seq_at, rows_at]

end Results

/-! ## The printed results are these terms -/

section Printed

variable (m : (ℓ : Loc nD τ sig) → Buf (Elt Ideal) ℓ) (c : Dev nD)

/-- The projected rows of the arguments. -/
def projOf : FVec Ideal S16x4096x1792 .f32 :=
  refProj (refNormed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- Their convolution. -/
def convOf : FVec Ideal S16x4096x1152 .f32 := refConv (refTaps (refPadded (projOf m c)) (m ((c.tc : Thread nD τ).loc main_arg5)) (m ((c.tc : Thread nD τ).loc main_arg6)))

theorem res63 : Cert.InProjReferenceIdeal.Value.res_main_v63 m c = refFold384 (extractStridedSlice S16x4096x384 ![0, 0, 0] (convOf m c) slices_S16x4096x1152_S16x4096x384_0_0_0) := by
  unfold Cert.InProjReferenceIdeal.Value.res_main_v63 convOf projOf refFold384 refConv refTaps refPadded refProj refNormed
  rfl
theorem res69 : Cert.InProjReferenceIdeal.Value.res_main_v69 m c = refFold384 (extractStridedSlice S16x4096x384 ![0, 0, 384] (convOf m c) slices_S16x4096x1152_S16x4096x384_0_0_384) := by
  unfold Cert.InProjReferenceIdeal.Value.res_main_v69 convOf projOf refFold384 refConv refTaps refPadded refProj refNormed
  rfl
theorem res75 : Cert.InProjReferenceIdeal.Value.res_main_v75 m c = refFold384 (extractStridedSlice S16x4096x384 ![0, 0, 768] (convOf m c) slices_S16x4096x1152_S16x4096x384_0_0_768) := by
  unfold Cert.InProjReferenceIdeal.Value.res_main_v75 convOf projOf refFold384 refConv refTaps refPadded refProj refNormed
  rfl

end Printed

end Cert.InProjection

end
-- ==== Proof.InFlip.Rows.lean ====
/- The flip matrix, as the program prints it: what is to be said of its rows. -/
module

public import proofs.«01_k».proof.InProjIdeal

@[expose] public section

set_option maxRecDepth 65536

namespace Cert.InProjection

open Cert.InProjIdeal

/-- Thirty-two rows of the matrix, from row `32 c`: the entry in row `a` and column `k` is one where `a + k = 255` and zero elsewhere. -/
def RowsFrom (c : Nat) : Prop :=
  ∀ a : Fin 32, ∀ k : Fin 256, lit0t (256 * (32 * c + a.val) + k.val) = if 32 * c + a.val + k.val = 255 then 0x3F80#16 else 0#16

noncomputable instance (c : Nat) : Decidable (RowsFrom c) := by unfold RowsFrom; infer_instance

end Cert.InProjection

end
-- ==== Proof.InFlip.A.lean ====
/- Rows 0 to 63 of the flip matrix, entry by entry. -/
module

public import proofs.«01_k».proof.Proof.InFlip.Rows

@[expose] public section

set_option maxRecDepth 65536

namespace Cert.InProjection

open Cert.InProjIdeal

theorem rows0 : RowsFrom 0 := by decide +kernel
theorem rows1 : RowsFrom 1 := by decide +kernel

end Cert.InProjection

end
-- ==== Proof.InFlip.B.lean ====
/- Rows 64 to 127 of the flip matrix, entry by entry. -/
module

public import proofs.«01_k».proof.Proof.InFlip.Rows

@[expose] public section

set_option maxRecDepth 65536

namespace Cert.InProjection

open Cert.InProjIdeal

theorem rows2 : RowsFrom 2 := by decide +kernel
theorem rows3 : RowsFrom 3 := by decide +kernel

end Cert.InProjection

end
-- ==== Proof.InFlip.C.lean ====
/- Rows 128 to 191 of the flip matrix, entry by entry. -/
module

public import proofs.«01_k».proof.Proof.InFlip.Rows

@[expose] public section

set_option maxRecDepth 65536

namespace Cert.InProjection

open Cert.InProjIdeal

theorem rows4 : RowsFrom 4 := by decide +kernel
theorem rows5 : RowsFrom 5 := by decide +kernel

end Cert.InProjection

end
-- ==== Proof.InFlip.D.lean ====
/- Rows 192 to 255 of the flip matrix, entry by entry. -/
module

public import proofs.«01_k».proof.Proof.InFlip.Rows

@[expose] public section

set_option maxRecDepth 65536

namespace Cert.InProjection

open Cert.InProjIdeal

theorem rows6 : RowsFrom 6 := by decide +kernel
theorem rows7 : RowsFrom 7 := by decide +kernel

end Cert.InProjection

end
-- ==== Proof.InFlip.lean ====
/- The whole flip matrix. -/
module

public import proofs.«01_k».proof.Proof.InFlip.A
public import proofs.«01_k».proof.Proof.InFlip.B
public import proofs.«01_k».proof.Proof.InFlip.C
public import proofs.«01_k».proof.Proof.InFlip.D

@[expose] public section

set_option maxRecDepth 65536

namespace Cert.InProjection

open Cert.InProjIdeal

/-- Every entry of the matrix, as a word. -/
theorem word_at (a k : Fin 256) : lit0t (256 * a.val + k.val) = if a.val + k.val = 255 then 0x3F80#16 else 0#16 := by
  have h : ∀ c : Fin 8, RowsFrom c.val := fun c => match c with
    | 0 => rows0 | 1 => rows1 | 2 => rows2 | 3 => rows3 | 4 => rows4 | 5 => rows5 | 6 => rows6 | 7 => rows7
  have := h ⟨a.val / 32, by omega⟩ ⟨a.val % 32, by omega⟩ k
  dsimp only at this
  have e : 32 * (a.val / 32) + a.val % 32 = a.val := by omega
  rwa [e] at this

end Cert.InProjection

end
-- ==== Proof.InAlgebraic.lean ====
/- The input projection's kernel and reference leave the same five results: each is an array of the specification. -/
module

public import proofs.«01_k».proof.Defs
public import proofs.«01_k».proof.Proof.InKer
public import proofs.«01_k».proof.Proof.InRef
public import proofs.«01_k».proof.Proof.InFlip
public import proofs.«01_k».proof.Proof.Gen.Pre_turned_part_finite
public import Idealize.ShloMosaic.Lib.ReduceAll
public import Idealize.ShloMosaic.Init

@[expose] public section

set_option maxRecDepth 16384

noncomputable section

namespace Cert.InProjection

open Idealize.ShloMosaic Idealize.ShloMosaic.TcCoe Idealize.SL.Sem

/-- The idealized reference's frame. -/
theorem frame_ref : Cert.quiescent_InProjReferenceIdeal := by
  intro m ρ _
  exact (θ_run Cert.InProjReferenceIdeal.defs _ _).mono (fun r h => ⟨fun c => (h c).2.2.2.2.2, Idealize.ShloMosaic.sem_eq_zero_of_no_sems (by decide) r.2⟩)
    (Cert.InProjReferenceIdeal.Value.run m ρ)

/-- The same under the precondition. -/
theorem frame_ref_pre : Cert.quiescent_InProjReferenceIdeal_pre_turned_part_finite := fun m ρ _ => frame_ref m ρ trivial

open Cert.Pre_turned_part_finite Cert.Pre_turned_part_finite.Facts

instance subsingleton_scalar : Subsingleton (S_).Idx := ⟨fun a b => funext fun k => k.elim0⟩

/-- Two truths joined are true only where both are. -/
theorem both {x y : IVec S_ 1} (h : andi x y = fun _ => 1#1) : (x = fun _ => 1#1) ∧ (y = fun _ => 1#1) := by
  have e : ∀ a b : BitVec 1, a &&& b = 1#1 → a = 1#1 ∧ b = 1#1 := by decide
  exact ⟨funext fun i => (e _ _ (congrFun h i)).1, funext fun i => (e _ _ (congrFun h i)).2⟩

/-- The precondition says what the second half is made of is finite. -/
theorem finite_of_pre (X : FVec Ideal S16x4096x1024 .f32) (g : FVec Ideal S1024 .f32) (sh sc : FVec Ideal S16x1x1024 .f32) (W : FVec Ideal S1024x1792 .f32)
    (w : FVec Ideal S3x1152 .f32) (cb : FVec Ideal S1152 .f32) (h : fn (F := Ideal) X g sh sc W w cb = fun _ => 1#1) : Finite g sh sc W w cb := by
  unfold fn fn_part1 at h
  obtain ⟨h, hcb⟩ := both h
  obtain ⟨h, hw⟩ := both h
  obtain ⟨h, hsc⟩ := both h
  obtain ⟨h, hsh⟩ := both h
  obtain ⟨hW, hg⟩ := both h
  refine ⟨fun k f hf => ?_, fun k => ?_, fun b k => ?_, fun b k => ?_, fun a j => ?_, fun j => ?_⟩
  · have h1 := Host.reduce_andi_all _ _ _ _ (fun a => a.elim0) (congrFun hW (fun a => a.elim0)) (ix2 k ⟨f.val, hf⟩)
    have hs : extractStridedSlice S1024x1408 ![0, 0] W slices_S1024x1792_S1024x1408_0_0 (ix2 k ⟨f.val, hf⟩) = W (ix2 k f) := by
      pointwise
    rw [← hs]
    exact IsNum.of_lt h1
  · exact IsNum.of_lt (Host.reduce_andi_all _ _ _ _ (fun a => a.elim0) (congrFun hg (fun a => a.elim0)) (ix1 k))
  · exact IsNum.of_lt (Host.reduce_andi_all _ _ _ _ (fun a => a.elim0) (congrFun hsh (fun a => a.elim0)) (ix3 b 0 k))
  · exact IsNum.of_lt (Host.reduce_andi_all _ _ _ _ (fun a => a.elim0) (congrFun hsc (fun a => a.elim0)) (ix3 b 0 k))
  · exact IsNum.of_lt (Host.reduce_andi_all _ _ _ _ (fun a => a.elim0) (congrFun hw (fun a => a.elim0)) (ix2 a j))
  · exact IsNum.of_lt (Host.reduce_andi_all _ _ _ _ (fun a => a.elim0) (congrFun hcb (fun a => a.elim0)) (ix1 j))

/-- On the same arguments, what the second half is made of finite, the idealized kernel and its idealized reference leave the same five results. -/
theorem algebraic : Cert.algebraic_InProjIdeal_InProjReferenceIdeal_pre_turned_part_finite := by
  intro m g m' g' hp hargs
  refine ⟨fun c => folded (n := 256) fun b r k => mixOfK m c b r ⟨0 + k.val, by omega⟩, fun c => folded (n := 384) fun b r k => mixOfK m c b r ⟨256 + k.val, by omega⟩,
    fun c => folded (n := 384) fun b r k => mixOfK m c b r ⟨640 + k.val, by omega⟩, fun c => folded (n := 384) fun b r k => mixOfK m c b r ⟨1024 + k.val, by omega⟩,
    fun c => seqPart (m ((c : Thread Cert.InProjIdeal.nD Cert.InProjIdeal.τ).loc Cert.InProjIdeal.main_arg0)) (m ((c : Thread Cert.InProjIdeal.nD Cert.InProjIdeal.τ).loc Cert.InProjIdeal.main_arg1))
        (m ((c : Thread Cert.InProjIdeal.nD Cert.InProjIdeal.τ).loc Cert.InProjIdeal.main_arg2)) (m ((c : Thread Cert.InProjIdeal.nD Cert.InProjIdeal.τ).loc Cert.InProjIdeal.main_arg3))
        (m ((c : Thread Cert.InProjIdeal.nD Cert.InProjIdeal.τ).loc Cert.InProjIdeal.main_arg4)), ?_, ?_⟩
  · refine (θ_run Cert.InProjIdeal.defs _ _).mono (fun r h c => ?_) (Cert.InProjIdeal.Value.run_blocks m g)
    have hf : FiniteK m c := finite_of_pre _ _ _ _ _ _ _ (hp c)
    obtain ⟨h0, h1, h2, h3, h4, hk⟩ := h c
    exact ⟨h0.trans (kernel0 m word_at c hf), h1.trans (kernel1 m word_at c hf), h2.trans (kernel2 m word_at c hf), h3.trans (kernel3 m word_at c hf), h4.trans (kernel4 m c), hk⟩
  · refine (θ_run Cert.InProjReferenceIdeal.defs _ _).mono (fun r h c => ?_) (Cert.InProjReferenceIdeal.Value.run m' g')
    obtain ⟨r0, r1, r2, r3, r4, hk⟩ := h c
    obtain ⟨h0, h1, h2, h3, h4, h5, h6⟩ := hargs c
    refine ⟨r0.trans ?_, r1.trans ?_, r2.trans ?_, r3.trans ?_, r4.trans ?_, hk⟩
    · rw [h0, h1, h2, h3, h4]
      exact ref_four _ _ _ _ _ (m ((c : Thread Cert.InProjIdeal.nD Cert.InProjIdeal.τ).loc Cert.InProjIdeal.main_arg5)) (m ((c : Thread Cert.InProjIdeal.nD Cert.InProjIdeal.τ).loc Cert.InProjIdeal.main_arg6))
    · rw [res63]
      unfold convOf projOf
      rw [h0, h1, h2, h3, h4, h5, h6]
      exact ref_third0 _ _ _ _ _ _ _
    · rw [res69]
      unfold convOf projOf
      rw [h0, h1, h2, h3, h4, h5, h6]
      exact ref_third1 _ _ _ _ _ _ _
    · rw [res75]
      unfold convOf projOf
      rw [h0, h1, h2, h3, h4, h5, h6]
      exact ref_third2 _ _ _ _ _ _ _
    · rw [h0, h1, h2, h3, h4]
      exact ref_seq _ _ _ _ _

end Cert.InProjection

end
-- ==== Proof.lean ====
module

public import proofs.«01_k».proof.Defs
public import proofs.«01_k».proof.Proof.FrameK
public import proofs.«01_k».proof.Proof.Algebraic
public import proofs.«01_k».proof.Proof.Gen.Dense.Frame
public import proofs.«01_k».proof.Proof.DenseAlgebraic
public import proofs.«01_k».proof.Proof.Gen.OutProj.Frame
public import proofs.«01_k».proof.Proof.OutAlgebraic
public import proofs.«01_k».proof.Proof.Gen.InProj.Frame
public import proofs.«01_k».proof.Proof.InAlgebraic

@[expose] public section

noncomputable section

namespace Cert.Proof

/-- Every claim holds. -/
theorem claim : Cert.Claim := ⟨Cert.Kernel.Gen.facts, Cert.KernelIdeal.Gen.facts, Cert.ReferenceIdeal.Gen.facts, Cert.Dense.Gen.facts, Cert.DenseIdeal.Gen.facts, Cert.DenseReferenceIdeal.Gen.facts,
  Cert.OutProj.Gen.facts, Cert.OutProjIdeal.Gen.facts, Cert.OutProjReferenceIdeal.Gen.facts,
  Cert.InProj.Gen.facts, Cert.InProjIdeal.Gen.facts, Cert.InProjReferenceIdeal.Gen.facts, Cert.Pre_experts_in_range.Gen.facts, Cert.Pre_second_half_finite.Gen.facts, Cert.Pre_turned_part_finite.Gen.facts,
  Cert.KernelIdeal.Hand.frame_kernel, Cert.KernelIdeal.Hand.frame_ideal, Cert.MoE.frame_ref,
  fun m ρ _ => Cert.Dense.Gen.frame m ρ, fun m ρ _ => Cert.DenseIdeal.Gen.frame m ρ, Cert.DenseFfn.frame_ref,
  fun m ρ _ => Cert.OutProj.Gen.frame m ρ, fun m ρ _ => Cert.OutProjIdeal.Gen.frame m ρ, fun m ρ _ => Cert.OutProjIdeal.Gen.frame m ρ, Cert.OutProjection.frame_ref, Cert.OutProjection.frame_ref_pre,
  fun m ρ _ => Cert.InProj.Gen.frame m ρ, fun m ρ _ => Cert.InProjIdeal.Gen.frame m ρ, fun m ρ _ => Cert.InProjIdeal.Gen.frame m ρ, Cert.InProjection.frame_ref, Cert.InProjection.frame_ref_pre,
  trivial, Cert.MoE.algebraic, trivial, Cert.DenseFfn.algebraic, trivial, Cert.OutProjection.algebraic, trivial, Cert.InProjection.algebraic⟩

end Cert.Proof

end
